-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S91 : Shape := ⟨1, ![91]⟩
abbrev S_ : Shape := ⟨0, ![]⟩
abbrev S32x32x1 : Shape := ⟨3, ![32, 32, 1]⟩
abbrev S32x32x2 : Shape := ⟨3, ![32, 32, 2]⟩
abbrev S8732x2 : Shape := ⟨2, ![8732, 2]⟩
abbrev S32x32x1x2 : Shape := ⟨4, ![32, 32, 1, 2]⟩
abbrev S1x1x8732x2 : Shape := ⟨4, ![1, 1, 8732, 2]⟩
abbrev S32x32x8732x2 : Shape := ⟨4, ![32, 32, 8732, 2]⟩
abbrev S32x32x8732x1 : Shape := ⟨4, ![32, 32, 8732, 1]⟩
abbrev S32x32x8732 : Shape := ⟨3, ![32, 32, 8732]⟩
abbrev S8732x1 : Shape := ⟨2, ![8732, 1]⟩
abbrev S8732 : Shape := ⟨1, ![8732]⟩
abbrev S1x1x8732 : Shape := ⟨3, ![1, 1, 8732]⟩
abbrev S32 : Shape := ⟨1, ![32]⟩
abbrev S32x1 : Shape := ⟨2, ![32, 1]⟩
abbrev S32x8732 : Shape := ⟨2, ![32, 8732]⟩
abbrev S32x8732x1 : Shape := ⟨3, ![32, 8732, 1]⟩
abbrev S32x8732x2 : Shape := ⟨3, ![32, 8732, 2]⟩
abbrev S1x8732x2 : Shape := ⟨3, ![1, 8732, 2]⟩
abbrev S32x8732x1x1 : Shape := ⟨4, ![32, 8732, 1, 1]⟩
abbrev S32x8731 : Shape := ⟨2, ![32, 8731]⟩
abbrev S8731 : Shape := ⟨1, ![8731]⟩
abbrev S1x8731 : Shape := ⟨2, ![1, 8731]⟩

class Facts : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  slices_S32x32x4_S32x32x2_0_0_0 : S32x32x4.Slices ![0, 0, 0] S32x32x2
  slices_S32x32x4_S32x32x2_0_0_2 : S32x32x4.Slices ![0, 0, 2] S32x32x2
  slices_S8732x4_S8732x2_0_2 : S8732x4.Slices ![0, 2] S8732x2
  bcast_S_S8732x2 : S_.BroadcastsInDim S8732x2 (![] : Fin 0 → Fin S8732x2.rank)
  slices_S8732x4_S8732x2_0_0 : S8732x4.Slices ![0, 0] S8732x2
  bcast_S32x32x2_S32x32x1x2_0_1_3 : S32x32x2.BroadcastsInDim S32x32x1x2 (![0, 1, 3] : Fin 3 → Fin S32x32x1x2.rank)
  bcast_S8732x2_S1x1x8732x2_2_3 : S8732x2.BroadcastsInDim S1x1x8732x2 (![2, 3] : Fin 2 → Fin S1x1x8732x2.rank)
  bcast_S32x32x1x2_S32x32x8732x2_0_1_2_3 : S32x32x1x2.BroadcastsInDim S32x32x8732x2 (![0, 1, 2, 3] : Fin 4 → Fin S32x32x8732x2.rank)
  bcast_S1x1x8732x2_S32x32x8732x2_0_1_2_3 : S1x1x8732x2.BroadcastsInDim S32x32x8732x2 (![0, 1, 2, 3] : Fin 4 → Fin S32x32x8732x2.rank)
  bcast_S_S32x32x8732x2 : S_.BroadcastsInDim S32x32x8732x2 (![] : Fin 0 → Fin S32x32x8732x2.rank)
  slices_S32x32x8732x2_S32x32x8732x1_0_0_0_0 : S32x32x8732x2.Slices ![0, 0, 0, 0] S32x32x8732x1
  shapeCasts_S32x32x8732x1_S32x32x8732 : S32x32x8732x1.ShapeCasts S32x32x8732
  slices_S32x32x8732x2_S32x32x8732x1_0_0_0_1 : S32x32x8732x2.Slices ![0, 0, 0, 1] S32x32x8732x1
  slices_S32x32x2_S32x32x1_0_0_0 : S32x32x2.Slices ![0, 0, 0] S32x32x1
  shapeCasts_S32x32x1_S32x32 : S32x32x1.ShapeCasts S32x32
  slices_S32x32x2_S32x32x1_0_0_1 : S32x32x2.Slices ![0, 0, 1] S32x32x1
  slices_S8732x2_S8732x1_0_0 : S8732x2.Slices ![0, 0] S8732x1
  shapeCasts_S8732x1_S8732 : S8732x1.ShapeCasts S8732
  slices_S8732x2_S8732x1_0_1 : S8732x2.Slices ![0, 1] S8732x1
  bcast_S8732_S1x1x8732_2 : S8732.BroadcastsInDim S1x1x8732 (![2] : Fin 1 → Fin S1x1x8732.rank)
  bcast_S32x32x1_S32x32x8732_0_1_2 : S32x32x1.BroadcastsInDim S32x32x8732 (![0, 1, 2] : Fin 3 → Fin S32x32x8732.rank)
  bcast_S1x1x8732_S32x32x8732_0_1_2 : S1x1x8732.BroadcastsInDim S32x32x8732 (![0, 1, 2] : Fin 3 → Fin S32x32x8732.rank)
  bcast_S32_S32x1_0 : S32.BroadcastsInDim S32x1 (![0] : Fin 1 → Fin S32x1.rank)
  reducesTo_S32x32x8732_S32x8732_d1 : S32x32x8732.ReducesTo [1] S32x8732
  h_S_ : 0 < S_.numel
  reducesTo_S32x32x8732_S32x32_d2 : S32x32x8732.ReducesTo [2] S32x32
  bcast_S32_S32x32_1 : S32.BroadcastsInDim S32x32 (![1] : Fin 1 → Fin S32x32.rank)
  bcast_S32x1_S32x32_0_1 : S32x1.BroadcastsInDim S32x32 (![0, 1] : Fin 2 → Fin S32x32.rank)
  concatenates_S32x32x1_S32x32x1_S32x32x2_d2 : Shape.Concatenates [S32x32x1, S32x32x1] S32x32x2 2
  bcast_S32x1_S32x8732_0_1 : S32x1.BroadcastsInDim S32x8732 (![0, 1] : Fin 2 → Fin S32x8732.rank)
  bcast_S32x8732_S32x8732x1_0_1 : S32x8732.BroadcastsInDim S32x8732x1 (![0, 1] : Fin 2 → Fin S32x8732x1.rank)
  concatenates_S32x8732x1_S32x8732x1_S32x8732x2_d2 : Shape.Concatenates [S32x8732x1, S32x8732x1] S32x8732x2 2
  bcast_S_S32x8732 : S_.BroadcastsInDim S32x8732 (![] : Fin 0 → Fin S32x8732.rank)
  slices_S32x8732x4_S32x8732x2_0_0_0 : S32x8732x4.Slices ![0, 0, 0] S32x8732x2
  slices_S32x8732x4_S32x8732x2_0_0_2 : S32x8732x4.Slices ![0, 0, 2] S32x8732x2
  bcast_S_S32x8732x2 : S_.BroadcastsInDim S32x8732x2 (![] : Fin 0 → Fin S32x8732x2.rank)
  bcast_S8732x2_S1x8732x2_1_2 : S8732x2.BroadcastsInDim S1x8732x2 (![1, 2] : Fin 2 → Fin S1x8732x2.rank)
  bcast_S1x8732x2_S32x8732x2_0_1_2 : S1x8732x2.BroadcastsInDim S32x8732x2 (![0, 1, 2] : Fin 3 → Fin S32x8732x2.rank)
  concatenates_S32x8732x2_S32x8732x2_S32x8732x4_d2 : Shape.Concatenates [S32x8732x2, S32x8732x2] S32x8732x4 2
  bcast_S32x8732x1_S32x8732x4_0_1_2 : S32x8732x1.BroadcastsInDim S32x8732x4 (![0, 1, 2] : Fin 3 → Fin S32x8732x4.rank)
  reducesTo_S32x8732x81_S32x8732_d2 : S32x8732x81.ReducesTo [2] S32x8732
  bcast_S32x8732x1_S32x8732x81_0_1_2 : S32x8732x1.BroadcastsInDim S32x8732x81 (![0, 1, 2] : Fin 3 → Fin S32x8732x81.rank)
  shapeCasts_S32x8732x1_S32x8732x1x1 : S32x8732x1.ShapeCasts S32x8732x1x1
  shapeCasts_S32x8732x1_S32x8732 : S32x8732x1.ShapeCasts S32x8732
  natLt_1_32 : 1 < 32
  reducesTo_S32x8732_S32_d1 : S32x8732.ReducesTo [1] S32
  bcast_S_S32 : S_.BroadcastsInDim S32 (![] : Fin 0 → Fin S32.rank)
  slices_S32x8732_S32x8731_0_1 : S32x8732.Slices ![0, 1] S32x8731
  slices_S32x8732_S32x8731_0_0 : S32x8732.Slices ![0, 0] S32x8731
  bcast_S_S8731 : S_.BroadcastsInDim S8731 (![] : Fin 0 → Fin S8731.rank)
  bcast_S8731_S1x8731_1 : S8731.BroadcastsInDim S1x8731 (![1] : Fin 1 → Fin S1x8731.rank)
  bcast_S1x8731_S32x8731_0_1 : S1x8731.BroadcastsInDim S32x8731 (![0, 1] : Fin 2 → Fin S32x8731.rank)
  bcast_S32x1_S32x8731_0_1 : S32x1.BroadcastsInDim S32x8731 (![0, 1] : Fin 2 → Fin S32x8731.rank)
  bcast_S_S32x8731 : S_.BroadcastsInDim S32x8731 (![] : Fin 0 → Fin S32x8731.rank)
  bcast_S_S32x8732x81 : S_.BroadcastsInDim S32x8732x81 (![] : Fin 0 → Fin S32x8732x81.rank)
  bcast_S_S32x32x4 : S_.BroadcastsInDim S32x32x4 (![] : Fin 0 → Fin S32x32x4.rank)
  gather_S91_S32x32x1_S32x32_n_0_n_n_0_2_1_wf : GatherDims.WF S91 S32x32x1 S32x32 [] [0] [] [0] [] 2 ![1]
  scatter_S32x8732_S32x32x2_S32x32_n_01_01_2_wf : ScatterDims.WF S32x8732 S32x32x2 S32x32 [] [0, 1] [0, 1] 2
  gather_S32x32_S32x8732x2_S32x8732_n_01_n_n_01_2_11_wf : GatherDims.WF S32x32 S32x8732x2 S32x8732 [] [0, 1] [] [0, 1] [] 2 ![1, 1]
  gather_S32x32x4_S32x8732x2_S32x8732x4_2_01_n_n_01_2_114_wf : GatherDims.WF S32x32x4 S32x8732x2 S32x8732x4 [2] [0, 1] [] [0, 1] [] 2 ![1, 1, 4]
  gather_S32x8732x81_S32x8732x1x1_S32x8732x1_n_2_01_01_2_3_111_wf : GatherDims.WF S32x8732x81 S32x8732x1x1 S32x8732x1 [] [2] [0, 1] [2] [0, 1] 3 ![1, 1, 1]

variable [Facts]

variable {F : FTy → Type} [FloatOps F]
def gather_S91_S32x32x1_S32x32_n_0_n_n_0_2_1 : GatherDims S91 S32x32x1 S32x32 where
  offsetDims := []
  collapsedSliceDims := [0]
  operandBatchingDims := []
  startIndicesBatchingDims := []
  startIndexMap := [0]
  indexVectorDim := 2
  sliceSizes := ![1]
  wf := gather_S91_S32x32x1_S32x32_n_0_n_n_0_2_1_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S32x8732_S32x32x2_S32x32_n_01_01_2 : ScatterDims S32x8732 S32x32x2 S32x32 where
  updateWindowDims := []
  insertedWindowDims := [0, 1]
  scatterDimsToOperandDims := [0, 1]
  indexVectorDim := 2
  wf := scatter_S32x8732_S32x32x2_S32x32_n_01_01_2_wf
def gather_S32x32_S32x8732x2_S32x8732_n_01_n_n_01_2_11 : GatherDims S32x32 S32x8732x2 S32x8732 where
  offsetDims := []
  collapsedSliceDims := [0, 1]
  operandBatchingDims := []
  startIndicesBatchingDims := []
  startIndexMap := [0, 1]
  indexVectorDim := 2
  sliceSizes := ![1, 1]
  wf := gather_S32x32_S32x8732x2_S32x8732_n_01_n_n_01_2_11_wf
def gather_S32x32x4_S32x8732x2_S32x8732x4_2_01_n_n_01_2_114 : GatherDims S32x32x4 S32x8732x2 S32x8732x4 where
  offsetDims := [2]
  collapsedSliceDims := [0, 1]
  operandBatchingDims := []
  startIndicesBatchingDims := []
  startIndexMap := [0, 1]
  indexVectorDim := 2
  sliceSizes := ![1, 1, 4]
  wf := gather_S32x32x4_S32x8732x2_S32x8732x4_2_01_n_n_01_2_114_wf
def gather_S32x8732x81_S32x8732x1x1_S32x8732x1_n_2_01_01_2_3_111 : GatherDims S32x8732x81 S32x8732x1x1 S32x8732x1 where
  offsetDims := []
  collapsedSliceDims := [2]
  operandBatchingDims := [0, 1]
  startIndicesBatchingDims := [0, 1]
  startIndexMap := [2]
  indexVectorDim := 3
  sliceSizes := ![1, 1, 1]
  wf := gather_S32x8732x81_S32x8732x1x1_S32x8732x1_n_2_01_01_2_3_111_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

noncomputable abbrev lit0 : Fin 91 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 0#32 | 13 => 12#32 | 14 => 13#32 | 15 => 14#32
  | 16 => 15#32 | 17 => 16#32 | 18 => 17#32 | 19 => 18#32 | 20 => 19#32 | 21 => 20#32 | 22 => 21#32 | 23 => 22#32
  | 24 => 23#32 | 25 => 24#32 | 26 => 0#32 | 27 => 25#32 | 28 => 26#32 | 29 => 0#32 | 30 => 0#32 | 31 => 27#32
  | 32 => 28#32 | 33 => 29#32 | 34 => 30#32 | 35 => 31#32 | 36 => 32#32 | 37 => 33#32 | 38 => 34#32 | 39 => 35#32
  | 40 => 36#32 | 41 => 37#32 | 42 => 38#32 | 43 => 39#32 | 44 => 40#32 | 45 => 0#32 | 46 => 41#32 | 47 => 42#32
  | 48 => 43#32 | 49 => 44#32 | 50 => 45#32 | 51 => 46#32 | 52 => 47#32 | 53 => 48#32 | 54 => 49#32 | 55 => 50#32
  | 56 => 51#32 | 57 => 52#32 | 58 => 53#32 | 59 => 54#32 | 60 => 55#32 | 61 => 56#32 | 62 => 57#32 | 63 => 58#32
  | 64 => 59#32 | 65 => 60#32 | 66 => 0#32 | 67 => 61#32 | 68 => 0#32 | 69 => 0#32 | 70 => 62#32 | 71 => 0#32
  | 72 => 63#32 | 73 => 64#32 | 74 => 65#32 | 75 => 66#32 | 76 => 67#32 | 77 => 68#32 | 78 => 69#32 | 79 => 70#32
  | 80 => 71#32 | 81 => 72#32 | 82 => 73#32 | 83 => 0#32 | 84 => 74#32 | 85 => 75#32 | 86 => 76#32 | 87 => 77#32
  | 88 => 78#32 | 89 => 79#32 | 90 => 80#32
  | _ => 0#32

def fn_argmax {F : FTy → Type} [FloatOps F] (arg0 : FVec F S32x32x8732 .f32) : IVec S32x8732 32 :=
  let v0 : IVec S32x32x8732 32 := iotaInDim S32x32x8732 32 1
  let cst : FVec F S_ .f32 := constant S_ .f32 0xFF800000#32
  let c : IVec S_ 32 := constantI S_ 32 0#32
  let v1_0 : FVec F S32x8732 .f32 := (fun x y u v j => (Host.argReduce reducer_argmax_f32_i32 x y u v reducesTo_S32x32x8732_S32x8732_d1 h_S_ j).1) arg0 v0 cst c
  let v1_1 : IVec S32x8732 32 := (fun x y u v j => (Host.argReduce reducer_argmax_f32_i32 x y u v reducesTo_S32x32x8732_S32x8732_d1 h_S_ j).2) arg0 v0 cst c
  v1_1

def fn_argmax_0 {F : FTy → Type} [FloatOps F] (arg0 : FVec F S32x32x8732 .f32) : IVec S32x32 32 :=
  let v0 : IVec S32x32x8732 32 := iotaInDim S32x32x8732 32 2
  let cst : FVec F S_ .f32 := constant S_ .f32 0xFF800000#32
  let c : IVec S_ 32 := constantI S_ 32 0#32
  let v1_0 : FVec F S32x32 .f32 := (fun x y u v j => (Host.argReduce reducer_argmax_f32_i32 x y u v reducesTo_S32x32x8732_S32x32_d2 h_S_ j).1) arg0 v0 cst c
  let v1_1 : IVec S32x32 32 := (fun x y u v j => (Host.argReduce reducer_argmax_f32_i32 x y u v reducesTo_S32x32x8732_S32x32_d2 h_S_ j).2) arg0 v0 cst c
  v1_1

def fn_where {F : FTy → Type} [FloatOps F] (arg0 : IVec S32x8732 1) (arg1 : IVec S_ 32) (arg2 : IVec S32x8732 32) : IVec S32x8732 32 :=
  let v0 : IVec S_ 32 := id arg1
  let v1 : IVec S32x8732 32 := broadcastInDim S32x8732 ![] bcast_S_S32x8732 v0
  let v2 : IVec S32x8732 32 := select arg0 v1 arg2
  v2

def fn_log_softmax {F : FTy → Type} [FloatOps F] (arg0 : FVec F S32x8732x81 .f32) : FVec F S32x8732x81 .f32 :=
  let cst : FVec F S_ .f32 := constant S_ .f32 0xFF800000#32
  let v0 : FVec F S32x8732 .f32 := (fun x v => Host.reduce FloatOps.maximumf x v reducesTo_S32x8732x81_S32x8732_d2 h_S_) arg0 cst
  let cst_0 : FVec F S_ .f32 := constant S_ .f32 0xFF800000#32
  let v1 : FVec F S32x8732 .f32 := broadcastInDim S32x8732 ![] bcast_S_S32x8732 cst_0
  let v2 : FVec F S32x8732 .f32 := maximumf v1 v0
  let v3 : FVec F S32x8732x1 .f32 := broadcastInDim S32x8732x1 ![0, 1] bcast_S32x8732_S32x8732x1_0_1 v2
  let v4 : FVec F S32x8732x81 .f32 := broadcastInDim S32x8732x81 ![0, 1, 2] bcast_S32x8732x1_S32x8732x81_0_1_2 v3
  let v5 : FVec F S32x8732x81 .f32 := subf arg0 v4
  let v6 : FVec F S32x8732x81 .f32 := Host.exp v5
  let cst_1 : FVec F S_ .f32 := constant S_ .f32 0x00000000#32
  let v7 : FVec F S32x8732 .f32 := (fun x v => Host.reduceAdd x v reducesTo_S32x8732x81_S32x8732_d2 h_S_) v6 cst_1
  let v8 : FVec F S32x8732x1 .f32 := broadcastInDim S32x8732x1 ![0, 1] bcast_S32x8732_S32x8732x1_0_1 v7
  let v9 : FVec F S32x8732x1 .f32 := Host.log v8
  let v10 : FVec F S32x8732x81 .f32 := broadcastInDim S32x8732x81 ![0, 1, 2] bcast_S32x8732x1_S32x8732x81_0_1_2 v9
  let v11 : FVec F S32x8732x81 .f32 := subf v5 v10
  v11

def fn_take_along_axis {F : FTy → Type} [FloatOps F] (arg0 : FVec F S32x8732x81 .f32) (arg1 : IVec S32x8732x1 32) : FVec F S32x8732x1 .f32 :=
  let v0 : IVec S32x8732x1x1 32 := shapeCast S32x8732x1x1 arg1 shapeCasts_S32x8732x1_S32x8732x1x1
  let v1 : FVec F S32x8732x1 .f32 := (fun x i => Host.gather gather_S32x8732x81_S32x8732x1x1_S32x8732x1_n_2_01_01_2_3_111 x i) arg0 v0
  v1

def fn_where_1 {F : FTy → Type} [FloatOps F] (arg0 : IVec S32x8732 1) (arg1 : FVec F S_ .f32) (arg2 : FVec F S32x8732 .f32) : FVec F S32x8732 .f32 :=
  let v0 : FVec F S_ .f32 := id arg1
  let v1 : FVec F S32x8732 .f32 := broadcastInDim S32x8732 ![] bcast_S_S32x8732 v0
  let v2 : FVec F S32x8732 .f32 := select arg0 v1 arg2
  v2

def fn_sort {F : FTy → Type} [FloatOps F] (arg0 : FVec F S32x8732 .f32) : FVec F S32x8732 .f32 :=
  let v0 : FVec F S32x8732 .f32 := (fun x => Host.sort S32x8732 1 comparator_f32_d1 x) arg0
  v0

def fn_part7 {F : FTy → Type} [FloatOps F] (main_arg1 : FVec F S32x8732x81 .f32) (main_arg2 : FVec F S32x32x4 .f32) (main_v127 : FVec F S32x8732 .f32) (main_v132 : FVec F S32x8731 .f32) (main_v143 : IVec S32x8731 1) (main_v147 : FVec F S32x8731 .f32) : IVec S32x8732x81 1 × IVec S32x32x4 1 × IVec S32x8732 1 × IVec S32x8731 1 :=
  let main_v148 : IVec S32x8731 1 := cmpf .ole main_v147 main_v132
  let main_v149 : IVec S32x8731 1 := ori main_v143 main_v148
  let main_v150 : FVec F S32x8732x81 .f32 := Host.absf main_arg1
  let main_cst_18 : FVec F S_ .f32 := constant S_ .f32 0x7F800000#32
  let main_v151 : FVec F S32x8732x81 .f32 := broadcastInDim S32x8732x81 ![] bcast_S_S32x8732x81 main_cst_18
  let main_v152 : IVec S32x8732x81 1 := cmpf .olt main_v150 main_v151
  let main_v153 : FVec F S32x32x4 .f32 := Host.absf main_arg2
  let main_cst_19 : FVec F S_ .f32 := constant S_ .f32 0x7F800000#32
  let main_v154 : FVec F S32x32x4 .f32 := broadcastInDim S32x32x4 ![] bcast_S_S32x32x4 main_cst_19
  let main_v155 : IVec S32x32x4 1 := cmpf .olt main_v153 main_v154
  let main_cst_20 : FVec F S_ .f32 := constant S_ .f32 0x7F7FFFFF#32
  let main_v156 : FVec F S32x8732 .f32 := broadcastInDim S32x8732 ![] bcast_S_S32x8732 main_cst_20
  let main_v157 : IVec S32x8732 1 := cmpf .ole main_v127 main_v156
  (main_v152, main_v155, main_v157, main_v149)

def fn_part6 {F : FTy → Type} [FloatOps F] (main_arg1 : FVec F S32x8732x81 .f32) (main_arg2 : FVec F S32x32x4 .f32) (main_v126 : IVec S32 32) (main_v127 : FVec F S32x8732 .f32) : IVec S32x8732x81 1 × IVec S32x32x4 1 × IVec S32x8732 1 × IVec S32x8731 1 :=
  let main_v128 : FVec F S32x8732 .f32 := Host.negf main_v127
  let main_v129 : FVec F S32x8732 .f32 := fn_sort (F := F) main_v128
  let main_v130 : FVec F S32x8732 .f32 := Host.negf main_v129
  let main_v131 : FVec F S32x8731 .f32 := (extractStridedSlice S32x8731 ![0, 1] · slices_S32x8732_S32x8731_0_1) main_v130
  let main_v132 : FVec F S32x8731 .f32 := (extractStridedSlice S32x8731 ![0, 0] · slices_S32x8732_S32x8731_0_0) main_v130
  let main_v133 : IVec S8731 32 := iotaInDim S8731 32 0
  let main_c_14 : IVec S_ 32 := constantI S_ 32 1#32
  let main_v134 : IVec S8731 32 := broadcastInDim S8731 ![] bcast_S_S8731 main_c_14
  let main_v135 : IVec S8731 32 := addi main_v134 main_v133
  let main_v136 : IVec S1x8731 32 := broadcastInDim S1x8731 ![1] bcast_S8731_S1x8731_1 main_v135
  let main_v137 : IVec S32x1 32 := broadcastInDim S32x1 ![0] bcast_S32_S32x1_0 main_v126
  let main_v138 : IVec S32x8731 32 := broadcastInDim S32x8731 ![0, 1] bcast_S1x8731_S32x8731_0_1 main_v136
  let main_v139 : IVec S32x8731 32 := broadcastInDim S32x8731 ![0, 1] bcast_S32x1_S32x8731_0_1 main_v137
  let main_v140 : IVec S32x8731 1 := cmpi .ne main_v138 main_v139
  let main_cst_15 : FVec F S_ .f32 := constant S_ .f32 0x00000000#32
  let main_v141 : FVec F S32x8731 .f32 := broadcastInDim S32x8731 ![] bcast_S_S32x8731 main_cst_15
  let main_v142 : IVec S32x8731 1 := cmpf .ole main_v131 main_v141
  let main_v143 : IVec S32x8731 1 := ori main_v140 main_v142
  let main_cst_16 : FVec F S_ .f32 := constant S_ .f32 0x3F800008#32
  let main_v144 : FVec F S32x8731 .f32 := broadcastInDim S32x8731 ![] bcast_S_S32x8731 main_cst_16
  let main_v145 : FVec F S32x8731 .f32 := mulf main_v131 main_v144
  let main_cst_17 : FVec F S_ .f32 := constant S_ .f32 0x0D800000#32
  let main_v146 : FVec F S32x8731 .f32 := broadcastInDim S32x8731 ![] bcast_S_S32x8731 main_cst_17
  let main_v147 : FVec F S32x8731 .f32 := addf main_v145 main_v146
  fn_part7 (F := F) main_arg1 main_arg2 main_v127 main_v132 main_v143 main_v147

def fn_part5 {F : FTy → Type} [FloatOps F] (main_arg0 : FVec F S32x8732x4 .f32) (main_arg1 : FVec F S32x8732x81 .f32) (main_arg2 : FVec F S32x32x4 .f32) (main_v80 : IVec S32x8732 32) (main_v100 : FVec F S32x8732x2 .f32) (main_v106 : FVec F S32x8732x2 .f32) (main_v107 : FVec F S32x8732x2 .f32) : IVec S32x8732x81 1 × IVec S32x32x4 1 × IVec S32x8732 1 × IVec S32x8731 1 :=
  let main_v108 : FVec F S32x8732x2 .f32 := mulf main_v106 main_v107
  let main_v109 : FVec F S32x8732x4 .f32 := (fun a b => concatenate S32x8732x4 2 [⟨S32x8732x2, a⟩, ⟨S32x8732x2, b⟩] concatenates_S32x8732x2_S32x8732x2_S32x8732x4_d2) main_v100 main_v108
  let main_c_10 : IVec S_ 32 := constantI S_ 32 0#32
  let main_v110 : IVec S32x8732 32 := broadcastInDim S32x8732 ![] bcast_S_S32x8732 main_c_10
  let main_v111 : IVec S32x8732 1 := cmpi .ne main_v80 main_v110
  let main_v112 : FVec F S32x8732x4 .f32 := subf main_arg0 main_v109
  let main_v113 : FVec F S32x8732x4 .f32 := Host.absf main_v112
  let main_v114 : IVec S32x8732x1 1 := broadcastInDim S32x8732x1 ![0, 1] bcast_S32x8732_S32x8732x1_0_1 main_v111
  let main_v115 : FVec F S32x8732x1 .f32 := uitofp .f32 main_v114
  let main_v116 : FVec F S32x8732x4 .f32 := broadcastInDim S32x8732x4 ![0, 1, 2] bcast_S32x8732x1_S32x8732x4_0_1_2 main_v115
  let main_v117 : FVec F S32x8732x4 .f32 := mulf main_v113 main_v116
  let main_v118 : FVec F S32x8732x81 .f32 := fn_log_softmax (F := F) main_arg1
  let main_v119 : IVec S32x8732x1 32 := broadcastInDim S32x8732x1 ![0, 1] bcast_S32x8732_S32x8732x1_0_1 main_v80
  let main_v120 : FVec F S32x8732x1 .f32 := fn_take_along_axis (F := F) main_v118 main_v119
  let main_v121 : FVec F S32x8732 .f32 := shapeCast S32x8732 main_v120 shapeCasts_S32x8732x1_S32x8732
  let main_v122 : FVec F S32x8732 .f32 := Host.negf main_v121
  let main_v123 : IVec S32x8732 32 := (extui 32 · natLt_1_32) main_v111
  let main_c_11 : IVec S_ 32 := constantI S_ 32 0#32
  let main_v124 : IVec S32 32 := (fun x v => Host.reduce IntOp.addi x v reducesTo_S32x8732_S32_d1 h_S_) main_v123 main_c_11
  let main_c_12 : IVec S_ 32 := constantI S_ 32 3#32
  let main_v125 : IVec S32 32 := broadcastInDim S32 ![] bcast_S_S32 main_c_12
  let main_v126 : IVec S32 32 := muli main_v125 main_v124
  let main_cst_13 : FVec F S_ .f32 := constant S_ .f32 0x00000000#32
  let main_v127 : FVec F S32x8732 .f32 := fn_where_1 (F := F) main_v111 main_cst_13 main_v122
  fn_part6 (F := F) main_arg1 main_arg2 main_v126 main_v127

def fn_part4 {F : FTy → Type} [FloatOps F] (main_arg0 : FVec F S32x8732x4 .f32) (main_arg1 : FVec F S32x8732x81 .f32) (main_arg2 : FVec F S32x32x4 .f32) (main_arg4 : FVec F S8732x4 .f32) (main_v80 : IVec S32x8732 32) (main_v85 : FVec F S32x8732x4 .f32) (main_v86 : FVec F S32x8732x2 .f32) : IVec S32x8732x81 1 × IVec S32x32x4 1 × IVec S32x8732 1 × IVec S32x8731 1 :=
  let main_v87 : FVec F S32x8732x2 .f32 := (extractStridedSlice S32x8732x2 ![0, 0, 2] · slices_S32x8732x4_S32x8732x2_0_0_2) main_v85
  let main_cst_7 : FVec F S_ .f32 := constant S_ .f32 0x40000000#32
  let main_v88 : FVec F S32x8732x2 .f32 := broadcastInDim S32x8732x2 ![] bcast_S_S32x8732x2 main_cst_7
  let main_v89 : FVec F S32x8732x2 .f32 := Host.divf main_v87 main_v88
  let main_v90 : FVec F S32x8732x2 .f32 := addf main_v86 main_v89
  let main_v91 : FVec F S8732x2 .f32 := (extractStridedSlice S8732x2 ![0, 0] · slices_S8732x4_S8732x2_0_0) main_arg4
  let main_v92 : FVec F S1x8732x2 .f32 := broadcastInDim S1x8732x2 ![1, 2] bcast_S8732x2_S1x8732x2_1_2 main_v91
  let main_v93 : FVec F S32x8732x2 .f32 := broadcastInDim S32x8732x2 ![0, 1, 2] bcast_S1x8732x2_S32x8732x2_0_1_2 main_v92
  let main_v94 : FVec F S32x8732x2 .f32 := subf main_v90 main_v93
  let main_v95 : FVec F S8732x2 .f32 := (extractStridedSlice S8732x2 ![0, 2] · slices_S8732x4_S8732x2_0_2) main_arg4
  let main_cst_8 : FVec F S_ .f32 := constant S_ .f32 0x41200000#32
  let main_v96 : FVec F S8732x2 .f32 := broadcastInDim S8732x2 ![] bcast_S_S8732x2 main_cst_8
  let main_v97 : FVec F S8732x2 .f32 := Host.divf main_v95 main_v96
  let main_v98 : FVec F S1x8732x2 .f32 := broadcastInDim S1x8732x2 ![1, 2] bcast_S8732x2_S1x8732x2_1_2 main_v97
  let main_v99 : FVec F S32x8732x2 .f32 := broadcastInDim S32x8732x2 ![0, 1, 2] bcast_S1x8732x2_S32x8732x2_0_1_2 main_v98
  let main_v100 : FVec F S32x8732x2 .f32 := Host.divf main_v94 main_v99
  let main_v101 : FVec F S32x8732x2 .f32 := (extractStridedSlice S32x8732x2 ![0, 0, 2] · slices_S32x8732x4_S32x8732x2_0_0_2) main_v85
  let main_v102 : FVec F S8732x2 .f32 := (extractStridedSlice S8732x2 ![0, 2] · slices_S8732x4_S8732x2_0_2) main_arg4
  let main_v103 : FVec F S1x8732x2 .f32 := broadcastInDim S1x8732x2 ![1, 2] bcast_S8732x2_S1x8732x2_1_2 main_v102
  let main_v104 : FVec F S32x8732x2 .f32 := broadcastInDim S32x8732x2 ![0, 1, 2] bcast_S1x8732x2_S32x8732x2_0_1_2 main_v103
  let main_v105 : FVec F S32x8732x2 .f32 := Host.divf main_v101 main_v104
  let main_v106 : FVec F S32x8732x2 .f32 := Host.log main_v105
  let main_cst_9 : FVec F S_ .f32 := constant S_ .f32 0x40A00000#32
  let main_v107 : FVec F S32x8732x2 .f32 := broadcastInDim S32x8732x2 ![] bcast_S_S32x8732x2 main_cst_9
  fn_part5 (F := F) main_arg0 main_arg1 main_arg2 main_v80 main_v100 main_v106 main_v107

def fn_part3 {F : FTy → Type} [FloatOps F] (main_arg0 : FVec F S32x8732x4 .f32) (main_arg1 : FVec F S32x8732x81 .f32) (main_arg2 : FVec F S32x32x4 .f32) (main_arg4 : FVec F S8732x4 .f32) (main_v6 : IVec S32x32 32) (main_v56 : IVec S32x1 32) (main_v57 : FVec F S32x8732 .f32) (main_v58 : IVec S32x8732 32) (main_v59 : IVec S32x32 32) (main_v61 : IVec S32x32 32) (main_v65 : IVec S32x32x2 32) : IVec S32x8732x81 1 × IVec S32x32x4 1 × IVec S32x8732 1 × IVec S32x8731 1 :=
  let main_v66 : IVec S32x8732 32 := (fun x i u => Host.scatter scatter_S32x8732_S32x32x2_S32x32_n_01_01_2 (fun _ b => b) x i u) main_v58 main_v65 main_v61
  let main_v67 : IVec S32x32 32 := broadcastInDim S32x32 ![0, 1] bcast_S32x1_S32x32_0_1 main_v56
  let main_v68 : IVec S32x32x1 32 := broadcastInDim S32x32x1 ![0, 1] bcast_S32x32_S32x32x1_0_1 main_v67
  let main_v69 : IVec S32x32x1 32 := broadcastInDim S32x32x1 ![0, 1] bcast_S32x32_S32x32x1_0_1 main_v59
  let main_v70 : IVec S32x32x2 32 := (fun a b => concatenate S32x32x2 2 [⟨S32x32x1, a⟩, ⟨S32x32x1, b⟩] concatenates_S32x32x1_S32x32x1_S32x32x2_d2) main_v68 main_v69
  let main_cst_4 : FVec F S_ .f32 := constant S_ .f32 0x3F800000#32
  let main_v71 : FVec F S32x32 .f32 := broadcastInDim S32x32 ![] bcast_S_S32x32 main_cst_4
  let main_v72 : FVec F S32x8732 .f32 := (fun x i u => Host.scatter scatter_S32x8732_S32x32x2_S32x32_n_01_01_2 (fun _ b => b) x i u) main_v57 main_v70 main_v71
  let main_v73 : IVec S32x8732 32 := broadcastInDim S32x8732 ![0, 1] bcast_S32x1_S32x8732_0_1 main_v56
  let main_v74 : IVec S32x8732x1 32 := broadcastInDim S32x8732x1 ![0, 1] bcast_S32x8732_S32x8732x1_0_1 main_v73
  let main_v75 : IVec S32x8732x1 32 := broadcastInDim S32x8732x1 ![0, 1] bcast_S32x8732_S32x8732x1_0_1 main_v66
  let main_v76 : IVec S32x8732x2 32 := (fun a b => concatenate S32x8732x2 2 [⟨S32x8732x1, a⟩, ⟨S32x8732x1, b⟩] concatenates_S32x8732x1_S32x8732x1_S32x8732x2_d2) main_v74 main_v75
  let main_v77 : IVec S32x8732 32 := (fun x i => Host.gather gather_S32x32_S32x8732x2_S32x8732_n_01_n_n_01_2_11 x i) main_v6 main_v76
  let main_cst_5 : FVec F S_ .f32 := constant S_ .f32 0x3F000000#32
  let main_v78 : FVec F S32x8732 .f32 := broadcastInDim S32x8732 ![] bcast_S_S32x8732 main_cst_5
  let main_v79 : IVec S32x8732 1 := cmpf .olt main_v72 main_v78
  let main_c_6 : IVec S_ 32 := constantI S_ 32 0#32
  let main_v80 : IVec S32x8732 32 := fn_where (F := F) main_v79 main_c_6 main_v77
  let main_v81 : IVec S32x8732 32 := broadcastInDim S32x8732 ![0, 1] bcast_S32x1_S32x8732_0_1 main_v56
  let main_v82 : IVec S32x8732x1 32 := broadcastInDim S32x8732x1 ![0, 1] bcast_S32x8732_S32x8732x1_0_1 main_v81
  let main_v83 : IVec S32x8732x1 32 := broadcastInDim S32x8732x1 ![0, 1] bcast_S32x8732_S32x8732x1_0_1 main_v66
  let main_v84 : IVec S32x8732x2 32 := (fun a b => concatenate S32x8732x2 2 [⟨S32x8732x1, a⟩, ⟨S32x8732x1, b⟩] concatenates_S32x8732x1_S32x8732x1_S32x8732x2_d2) main_v82 main_v83
  let main_v85 : FVec F S32x8732x4 .f32 := (fun x i => Host.gather gather_S32x32x4_S32x8732x2_S32x8732x4_2_01_n_n_01_2_114 x i) main_arg2 main_v84
  let main_v86 : FVec F S32x8732x2 .f32 := (extractStridedSlice S32x8732x2 ![0, 0, 0] · slices_S32x8732x4_S32x8732x2_0_0_0) main_v85
  fn_part4 (F := F) main_arg0 main_arg1 main_arg2 main_arg4 main_v80 main_v85 main_v86

def fn_part2 {F : FTy → Type} [FloatOps F] (main_arg0 : FVec F S32x8732x4 .f32) (main_arg1 : FVec F S32x8732x81 .f32) (main_arg2 : FVec F S32x32x4 .f32) (main_arg4 : FVec F S8732x4 .f32) (main_v6 : IVec S32x32 32) (main_v35 : FVec F S32x32x8732 .f32) (main_v37 : FVec F S8732x2 .f32) (main_v42 : FVec F S32x32 .f32) : IVec S32x8732x81 1 × IVec S32x32x4 1 × IVec S32x8732 1 × IVec S32x8731 1 :=
  let main_v43 : FVec F S8732x1 .f32 := (extractStridedSlice S8732x1 ![0, 0] · slices_S8732x2_S8732x1_0_0) main_v37
  let main_v44 : FVec F S8732 .f32 := shapeCast S8732 main_v43 shapeCasts_S8732x1_S8732
  let main_v45 : FVec F S8732x1 .f32 := (extractStridedSlice S8732x1 ![0, 1] · slices_S8732x2_S8732x1_0_1) main_v37
  let main_v46 : FVec F S8732 .f32 := shapeCast S8732 main_v45 shapeCasts_S8732x1_S8732
  let main_v47 : FVec F S8732 .f32 := mulf main_v44 main_v46
  let main_v48 : FVec F S32x32x1 .f32 := broadcastInDim S32x32x1 ![0, 1] bcast_S32x32_S32x32x1_0_1 main_v42
  let main_v49 : FVec F S1x1x8732 .f32 := broadcastInDim S1x1x8732 ![2] bcast_S8732_S1x1x8732_2 main_v47
  let main_v50 : FVec F S32x32x8732 .f32 := broadcastInDim S32x32x8732 ![0, 1, 2] bcast_S32x32x1_S32x32x8732_0_1_2 main_v48
  let main_v51 : FVec F S32x32x8732 .f32 := broadcastInDim S32x32x8732 ![0, 1, 2] bcast_S1x1x8732_S32x32x8732_0_1_2 main_v49
  let main_v52 : FVec F S32x32x8732 .f32 := addf main_v50 main_v51
  let main_v53 : FVec F S32x32x8732 .f32 := subf main_v52 main_v35
  let main_v54 : FVec F S32x32x8732 .f32 := Host.divf main_v35 main_v53
  let main_v55 : IVec S32 32 := iotaInDim S32 32 0
  let main_v56 : IVec S32x1 32 := broadcastInDim S32x1 ![0] bcast_S32_S32x1_0 main_v55
  let main_cst_3 : FVec F S_ .f32 := constant S_ .f32 0xFF800000#32
  let main_v57 : FVec F S32x8732 .f32 := (fun x v => Host.reduce FloatOps.maximumf x v reducesTo_S32x32x8732_S32x8732_d1 h_S_) main_v54 main_cst_3
  let main_v58 : IVec S32x8732 32 := fn_argmax (F := F) main_v54
  let main_v59 : IVec S32x32 32 := fn_argmax_0 (F := F) main_v54
  let main_v60 : IVec S32 32 := iotaInDim S32 32 0
  let main_v61 : IVec S32x32 32 := broadcastInDim S32x32 ![1] bcast_S32_S32x32_1 main_v60
  let main_v62 : IVec S32x32 32 := broadcastInDim S32x32 ![0, 1] bcast_S32x1_S32x32_0_1 main_v56
  let main_v63 : IVec S32x32x1 32 := broadcastInDim S32x32x1 ![0, 1] bcast_S32x32_S32x32x1_0_1 main_v62
  let main_v64 : IVec S32x32x1 32 := broadcastInDim S32x32x1 ![0, 1] bcast_S32x32_S32x32x1_0_1 main_v59
  let main_v65 : IVec S32x32x2 32 := (fun a b => concatenate S32x32x2 2 [⟨S32x32x1, a⟩, ⟨S32x32x1, b⟩] concatenates_S32x32x1_S32x32x1_S32x32x2_d2) main_v63 main_v64
  fn_part3 (F := F) main_arg0 main_arg1 main_arg2 main_arg4 main_v6 main_v56 main_v57 main_v58 main_v59 main_v61 main_v65

def fn_part1 {F : FTy → Type} [FloatOps F] (main_arg0 : FVec F S32x8732x4 .f32) (main_arg1 : FVec F S32x8732x81 .f32) (main_arg2 : FVec F S32x32x4 .f32) (main_arg4 : FVec F S8732x4 .f32) (main_v6 : IVec S32x32 32) (main_v7 : FVec F S32x32x2 .f32) (main_v10 : FVec F S32x32x2 .f32) (main_v15 : FVec F S8732x2 .f32) (main_v17 : FVec F S8732x2 .f32) (main_v18 : FVec F S32x32x1x2 .f32) (main_v19 : FVec F S1x1x8732x2 .f32) : IVec S32x8732x81 1 × IVec S32x32x4 1 × IVec S32x8732 1 × IVec S32x8731 1 :=
  let main_v20 : FVec F S32x32x8732x2 .f32 := broadcastInDim S32x32x8732x2 ![0, 1, 2, 3] bcast_S32x32x1x2_S32x32x8732x2_0_1_2_3 main_v18
  let main_v21 : FVec F S32x32x8732x2 .f32 := broadcastInDim S32x32x8732x2 ![0, 1, 2, 3] bcast_S1x1x8732x2_S32x32x8732x2_0_1_2_3 main_v19
  let main_v22 : FVec F S32x32x8732x2 .f32 := maximumf main_v20 main_v21
  let main_v23 : FVec F S32x32x1x2 .f32 := broadcastInDim S32x32x1x2 ![0, 1, 3] bcast_S32x32x2_S32x32x1x2_0_1_3 main_v10
  let main_v24 : FVec F S1x1x8732x2 .f32 := broadcastInDim S1x1x8732x2 ![2, 3] bcast_S8732x2_S1x1x8732x2_2_3 main_v17
  let main_v25 : FVec F S32x32x8732x2 .f32 := broadcastInDim S32x32x8732x2 ![0, 1, 2, 3] bcast_S32x32x1x2_S32x32x8732x2_0_1_2_3 main_v23
  let main_v26 : FVec F S32x32x8732x2 .f32 := broadcastInDim S32x32x8732x2 ![0, 1, 2, 3] bcast_S1x1x8732x2_S32x32x8732x2_0_1_2_3 main_v24
  let main_v27 : FVec F S32x32x8732x2 .f32 := minimumf main_v25 main_v26
  let main_v28 : FVec F S32x32x8732x2 .f32 := subf main_v27 main_v22
  let main_cst_2 : FVec F S_ .f32 := constant S_ .f32 0x00000000#32
  let main_v29 : FVec F S32x32x8732x2 .f32 := broadcastInDim S32x32x8732x2 ![] bcast_S_S32x32x8732x2 main_cst_2
  let main_v30 : FVec F S32x32x8732x2 .f32 := maximumf main_v28 main_v29
  let main_v31 : FVec F S32x32x8732x1 .f32 := (extractStridedSlice S32x32x8732x1 ![0, 0, 0, 0] · slices_S32x32x8732x2_S32x32x8732x1_0_0_0_0) main_v30
  let main_v32 : FVec F S32x32x8732 .f32 := shapeCast S32x32x8732 main_v31 shapeCasts_S32x32x8732x1_S32x32x8732
  let main_v33 : FVec F S32x32x8732x1 .f32 := (extractStridedSlice S32x32x8732x1 ![0, 0, 0, 1] · slices_S32x32x8732x2_S32x32x8732x1_0_0_0_1) main_v30
  let main_v34 : FVec F S32x32x8732 .f32 := shapeCast S32x32x8732 main_v33 shapeCasts_S32x32x8732x1_S32x32x8732
  let main_v35 : FVec F S32x32x8732 .f32 := mulf main_v32 main_v34
  let main_v36 : FVec F S32x32x2 .f32 := subf main_v10 main_v7
  let main_v37 : FVec F S8732x2 .f32 := subf main_v17 main_v15
  let main_v38 : FVec F S32x32x1 .f32 := (extractStridedSlice S32x32x1 ![0, 0, 0] · slices_S32x32x2_S32x32x1_0_0_0) main_v36
  let main_v39 : FVec F S32x32 .f32 := shapeCast S32x32 main_v38 shapeCasts_S32x32x1_S32x32
  let main_v40 : FVec F S32x32x1 .f32 := (extractStridedSlice S32x32x1 ![0, 0, 1] · slices_S32x32x2_S32x32x1_0_0_1) main_v36
  let main_v41 : FVec F S32x32 .f32 := shapeCast S32x32 main_v40 shapeCasts_S32x32x1_S32x32
  let main_v42 : FVec F S32x32 .f32 := mulf main_v39 main_v41
  fn_part2 (F := F) main_arg0 main_arg1 main_arg2 main_arg4 main_v6 main_v35 main_v37 main_v42

def fn {F : FTy → Type} [FloatOps F] (main_arg0 : FVec F S32x8732x4 .f32) (main_arg1 : FVec F S32x8732x81 .f32) (main_arg2 : FVec F S32x32x4 .f32) (main_arg3 : IVec S32x32 32) (main_arg4 : FVec F S8732x4 .f32) : IVec S32x8732x81 1 × IVec S32x32x4 1 × IVec S32x8732 1 × IVec S32x8731 1 :=
  let main_c : IVec S91 32 := fun i => lit0 (S91.rowMajor i)
  let main_c_0 : IVec S_ 32 := constantI S_ 32 0#32
  let main_v0 : IVec S32x32 32 := broadcastInDim S32x32 ![] bcast_S_S32x32 main_c_0
  let main_v1 : IVec S32x32 1 := cmpi .slt main_arg3 main_v0
  let main_c_1 : IVec S_ 32 := constantI S_ 32 91#32
  let main_v2 : IVec S32x32 32 := broadcastInDim S32x32 ![] bcast_S_S32x32 main_c_1
  let main_v3 : IVec S32x32 32 := addi main_arg3 main_v2
  let main_v4 : IVec S32x32 32 := select main_v1 main_v3 main_arg3
  let main_v5 : IVec S32x32x1 32 := broadcastInDim S32x32x1 ![0, 1] bcast_S32x32_S32x32x1_0_1 main_v4
  let main_v6 : IVec S32x32 32 := (fun x i => Host.gather gather_S91_S32x32x1_S32x32_n_0_n_n_0_2_1 x i) main_c main_v5
  let main_v7 : FVec F S32x32x2 .f32 := (extractStridedSlice S32x32x2 ![0, 0, 0] · slices_S32x32x4_S32x32x2_0_0_0) main_arg2
  let main_v8 : FVec F S32x32x2 .f32 := (extractStridedSlice S32x32x2 ![0, 0, 0] · slices_S32x32x4_S32x32x2_0_0_0) main_arg2
  let main_v9 : FVec F S32x32x2 .f32 := (extractStridedSlice S32x32x2 ![0, 0, 2] · slices_S32x32x4_S32x32x2_0_0_2) main_arg2
  let main_v10 : FVec F S32x32x2 .f32 := addf main_v8 main_v9
  let main_v11 : FVec F S8732x2 .f32 := (extractStridedSlice S8732x2 ![0, 2] · slices_S8732x4_S8732x2_0_2) main_arg4
  let main_cst : FVec F S_ .f32 := constant S_ .f32 0x40000000#32
  let main_v12 : FVec F S8732x2 .f32 := broadcastInDim S8732x2 ![] bcast_S_S8732x2 main_cst
  let main_v13 : FVec F S8732x2 .f32 := Host.divf main_v11 main_v12
  let main_v14 : FVec F S8732x2 .f32 := (extractStridedSlice S8732x2 ![0, 0] · slices_S8732x4_S8732x2_0_0) main_arg4
  let main_v15 : FVec F S8732x2 .f32 := subf main_v14 main_v13
  let main_v16 : FVec F S8732x2 .f32 := (extractStridedSlice S8732x2 ![0, 0] · slices_S8732x4_S8732x2_0_0) main_arg4
  let main_v17 : FVec F S8732x2 .f32 := addf main_v16 main_v13
  let main_v18 : FVec F S32x32x1x2 .f32 := broadcastInDim S32x32x1x2 ![0, 1, 3] bcast_S32x32x2_S32x32x1x2_0_1_3 main_v7
  let main_v19 : FVec F S1x1x8732x2 .f32 := broadcastInDim S1x1x8732x2 ![2, 3] bcast_S8732x2_S1x1x8732x2_2_3 main_v15
  fn_part1 (F := F) main_arg0 main_arg1 main_arg2 main_arg4 main_v6 main_v7 main_v10 main_v15 main_v17 main_v18 main_v19
-- ==== Kernel.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S91 : Shape := ⟨1, ![91]⟩
abbrev S_ : Shape := ⟨0, ![]⟩
abbrev S32x32x1 : Shape := ⟨3, ![32, 32, 1]⟩
abbrev S32x4x8732 : Shape := ⟨3, ![32, 4, 8732]⟩
abbrev S4x8732 : Shape := ⟨2, ![4, 8732]⟩
abbrev S32x1x128 : Shape := ⟨3, ![32, 1, 128]⟩
abbrev S32x1x8732 : Shape := ⟨3, ![32, 1, 8732]⟩
abbrev S1x4x8732 : Shape := ⟨3, ![1, 4, 8732]⟩
abbrev S1x8732x81 : Shape := ⟨3, ![1, 8732, 81]⟩
abbrev S1x32x4 : Shape := ⟨3, ![1, 32, 4]⟩
abbrev S1x32x1 : Shape := ⟨3, ![1, 32, 1]⟩
abbrev S1x1x128 : Shape := ⟨3, ![1, 1, 128]⟩
abbrev S1x1x8732 : Shape := ⟨3, ![1, 1, 8732]⟩
abbrev S1x8732 : Shape := ⟨2, ![1, 8732]⟩
abbrev S32x4 : Shape := ⟨2, ![32, 4]⟩
abbrev S32x1 : Shape := ⟨2, ![32, 1]⟩
abbrev S32x8732 : Shape := ⟨2, ![32, 8732]⟩
abbrev S8732 : Shape := ⟨1, ![8732]⟩
abbrev S32 : Shape := ⟨1, ![32]⟩
abbrev S1 : Shape := ⟨1, ![1]⟩
abbrev S1x1x1 : Shape := ⟨3, ![1, 1, 1]⟩
abbrev S8732x1 : Shape := ⟨2, ![8732, 1]⟩
abbrev S8732x81 : Shape := ⟨2, ![8732, 81]⟩
abbrev S1x128 : Shape := ⟨2, ![1, 128]⟩
abbrev S32x128 : Shape := ⟨2, ![32, 128]⟩

abbrev nBuf : Space → Nat
  | .hbm => 21
  | .vmem => 16
  | .smem => 0
  | _ => 0

abbrev bufTy : (tb : Table) → Fin (tcTables nBuf tb) → BufTy
  | .hbm, ⟨0, _⟩ => ⟨S32x8732x4, .f32⟩
  | .hbm, ⟨1, _⟩ => ⟨S32x8732x81, .f32⟩
  | .hbm, ⟨2, _⟩ => ⟨S32x32x4, .f32⟩
  | .hbm, ⟨3, _⟩ => ⟨S32x32, .i32⟩
  | .hbm, ⟨4, _⟩ => ⟨S8732x4, .f32⟩
  | .hbm, ⟨5, _⟩ => ⟨S91, .i32⟩
  | .hbm, ⟨6, _⟩ => ⟨S_, .i32⟩
  | .hbm, ⟨7, _⟩ => ⟨S32x32, .i32⟩
  | .hbm, ⟨8, _⟩ => ⟨S32x32, .i1⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S32x32, .i32⟩
  | .hbm, ⟨13, _⟩ => ⟨S32x32x1, .i32⟩
  | .hbm, ⟨14, _⟩ => ⟨S32x32, .i32⟩
  | .hbm, ⟨15, _⟩ => ⟨S32x32x1, .i32⟩
  | .hbm, ⟨16, _⟩ => ⟨S32x4x8732, .f32⟩
  | .hbm, ⟨17, _⟩ => ⟨S4x8732, .f32⟩
  | .hbm, ⟨18, _⟩ => ⟨S32x1x128, .f32⟩
  | .hbm, ⟨19, _⟩ => ⟨S32x1x8732, .f32⟩
  | .hbm, ⟨20, _⟩ => ⟨S1x128, .f32⟩
  | .local _ .vmem, ⟨0, _⟩ => ⟨S1x4x8732, .f32⟩
  | .local _ .vmem, ⟨1, _⟩ => ⟨S1x4x8732, .f32⟩
  | .local _ .vmem, ⟨2, _⟩ => ⟨S1x8732x81, .f32⟩
  | .local _ .vmem, ⟨3, _⟩ => ⟨S1x8732x81, .f32⟩
  | .local _ .vmem, ⟨4, _⟩ => ⟨S1x32x4, .f32⟩
  | .local _ .vmem, ⟨5, _⟩ => ⟨S1x32x4, .f32⟩
  | .local _ .vmem, ⟨6, _⟩ => ⟨S1x32x1, .i32⟩
  | .local _ .vmem, ⟨7, _⟩ => ⟨S1x32x1, .i32⟩
  | .local _ .vmem, ⟨8, _⟩ => ⟨S4x8732, .f32⟩
  | .local _ .vmem, ⟨9, _⟩ => ⟨S1x1x128, .f32⟩
  | .local _ .vmem, ⟨10, _⟩ => ⟨S1x1x128, .f32⟩
  | .local _ .vmem, ⟨11, _⟩ => ⟨S1x1x8732, .f32⟩
  | .local _ .vmem, ⟨12, _⟩ => ⟨S1x1x8732, .f32⟩
  | .local _ .vmem, ⟨13, _⟩ => ⟨S32x1x8732, .f32⟩
  | .local _ .vmem, ⟨14, _⟩ => ⟨S32x1x128, .f32⟩
  | .local _ .vmem, ⟨15, _⟩ => ⟨S1x128, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8732x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8732 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8732 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32_5 : BitVec 32 := 0#32
  let c31_i32 : BitVec 32 := 31#32
  let v10 : BitVec 32 := Scalar.addi c0_i32_5 c31_i32
  let c1_i32 : BitVec 32 := 1#32
  ⟨c0_i32_5, v10, c1_i32⟩
abbrev stage1_0 : Fin 1 → Memref sig .tc .vmem S32x1x8732 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "tenth" => some ((1 / 10 : ℝ) : EReal)
  | _ => none
-- ==== ReferenceIdeal.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S91 : Shape := ⟨1, ![91]⟩
abbrev S_ : Shape := ⟨0, ![]⟩
abbrev S32x32x1 : Shape := ⟨3, ![32, 32, 1]⟩
abbrev S32x32x2 : Shape := ⟨3, ![32, 32, 2]⟩
abbrev S8732x2 : Shape := ⟨2, ![8732, 2]⟩
abbrev S32x32x1x2 : Shape := ⟨4, ![32, 32, 1, 2]⟩
abbrev S1x1x8732x2 : Shape := ⟨4, ![1, 1, 8732, 2]⟩
abbrev S32x32x8732x2 : Shape := ⟨4, ![32, 32, 8732, 2]⟩
abbrev S32x32x8732x1 : Shape := ⟨4, ![32, 32, 8732, 1]⟩
abbrev S32x32x8732 : Shape := ⟨3, ![32, 32, 8732]⟩
abbrev S8732x1 : Shape := ⟨2, ![8732, 1]⟩
abbrev S8732 : Shape := ⟨1, ![8732]⟩
abbrev S1x1x8732 : Shape := ⟨3, ![1, 1, 8732]⟩
abbrev S32 : Shape := ⟨1, ![32]⟩
abbrev S32x1 : Shape := ⟨2, ![32, 1]⟩
abbrev S32x8732 : Shape := ⟨2, ![32, 8732]⟩
abbrev S32x8732x1 : Shape := ⟨3, ![32, 8732, 1]⟩
abbrev S32x8732x2 : Shape := ⟨3, ![32, 8732, 2]⟩
abbrev S1x8732x2 : Shape := ⟨3, ![1, 8732, 2]⟩
abbrev S32x8732x1x1 : Shape := ⟨4, ![32, 8732, 1, 1]⟩
abbrev S1x8732 : Shape := ⟨2, ![1, 8732]⟩
abbrev S128 : Shape := ⟨1, ![128]⟩
abbrev S1x128 : Shape := ⟨2, ![1, 128]⟩

abbrev nBuf : Space → Nat
  | .hbm => 218
  | .vmem => 0
  | .smem => 0
  | _ => 0

abbrev hbmTy0_0 (i : Nat) : BufTy := match i % 128 with
  | 0 => ⟨S32x8732x4, .f32⟩
  | 1 => ⟨S32x8732x81, .f32⟩
  | 2 => ⟨S32x32x4, .f32⟩
  | 3 => ⟨S32x32, .i32⟩
  | 4 => ⟨S8732x4, .f32⟩
  | 5 => ⟨S91, .i32⟩
  | 6 => ⟨S_, .i32⟩
  | 7 => ⟨S32x32, .i32⟩
  | 8 => ⟨S32x32, .i1⟩
  | 9 => ⟨S_, .i32⟩
  | 10 => ⟨S32x32, .i32⟩
  | 11 => ⟨S32x32, .i32⟩
  | 12 => ⟨S32x32, .i32⟩
  | 13 => ⟨S32x32x1, .i32⟩
  | 14 => ⟨S32x32, .i32⟩
  | 15 => ⟨S32x32x2, .f32⟩
  | 16 => ⟨S32x32x2, .f32⟩
  | 17 => ⟨S32x32x2, .f32⟩
  | 18 => ⟨S32x32x2, .f32⟩
  | 19 => ⟨S8732x2, .f32⟩
  | 20 => ⟨S_, .f32⟩
  | 21 => ⟨S8732x2, .f32⟩
  | 22 => ⟨S8732x2, .f32⟩
  | 23 => ⟨S8732x2, .f32⟩
  | 24 => ⟨S8732x2, .f32⟩
  | 25 => ⟨S8732x2, .f32⟩
  | 26 => ⟨S8732x2, .f32⟩
  | 27 => ⟨S32x32x1x2, .f32⟩
  | 28 => ⟨S1x1x8732x2, .f32⟩
  | 29 => ⟨S32x32x8732x2, .f32⟩
  | 30 => ⟨S32x32x8732x2, .f32⟩
  | 31 => ⟨S32x32x8732x2, .f32⟩
  | 32 => ⟨S32x32x1x2, .f32⟩
  | 33 => ⟨S1x1x8732x2, .f32⟩
  | 34 => ⟨S32x32x8732x2, .f32⟩
  | 35 => ⟨S32x32x8732x2, .f32⟩
  | 36 => ⟨S32x32x8732x2, .f32⟩
  | 37 => ⟨S32x32x8732x2, .f32⟩
  | 38 => ⟨S_, .f32⟩
  | 39 => ⟨S32x32x8732x2, .f32⟩
  | 40 => ⟨S32x32x8732x2, .f32⟩
  | 41 => ⟨S32x32x8732x1, .f32⟩
  | 42 => ⟨S32x32x8732, .f32⟩
  | 43 => ⟨S32x32x8732x1, .f32⟩
  | 44 => ⟨S32x32x8732, .f32⟩
  | 45 => ⟨S32x32x8732, .f32⟩
  | 46 => ⟨S32x32x2, .f32⟩
  | 47 => ⟨S8732x2, .f32⟩
  | 48 => ⟨S32x32x1, .f32⟩
  | 49 => ⟨S32x32, .f32⟩
  | 50 => ⟨S32x32x1, .f32⟩
  | 51 => ⟨S32x32, .f32⟩
  | 52 => ⟨S32x32, .f32⟩
  | 53 => ⟨S8732x1, .f32⟩
  | 54 => ⟨S8732, .f32⟩
  | 55 => ⟨S8732x1, .f32⟩
  | 56 => ⟨S8732, .f32⟩
  | 57 => ⟨S8732, .f32⟩
  | 58 => ⟨S32x32x1, .f32⟩
  | 59 => ⟨S1x1x8732, .f32⟩
  | 60 => ⟨S32x32x8732, .f32⟩
  | 61 => ⟨S32x32x8732, .f32⟩
  | 62 => ⟨S32x32x8732, .f32⟩
  | 63 => ⟨S32x32x8732, .f32⟩
  | 64 => ⟨S32x32x8732, .f32⟩
  | 65 => ⟨S32, .i32⟩
  | 66 => ⟨S32x1, .i32⟩
  | 67 => ⟨S_, .f32⟩
  | 68 => ⟨S32x8732, .f32⟩
  | 69 => ⟨S32x32x8732, .i32⟩
  | 70 => ⟨S_, .f32⟩
  | 71 => ⟨S_, .i32⟩
  | 72 => ⟨S32x8732, .f32⟩
  | 73 => ⟨S32x8732, .i32⟩
  | 74 => ⟨S32x32x8732, .i32⟩
  | 75 => ⟨S_, .f32⟩
  | 76 => ⟨S_, .i32⟩
  | 77 => ⟨S32x32, .f32⟩
  | 78 => ⟨S32x32, .i32⟩
  | 79 => ⟨S32, .i32⟩
  | 80 => ⟨S32x32, .i32⟩
  | 81 => ⟨S32x32, .i32⟩
  | 82 => ⟨S32x32x1, .i32⟩
  | 83 => ⟨S32x32x1, .i32⟩
  | 84 => ⟨S32x32x2, .i32⟩
  | 85 => ⟨S32x8732, .i32⟩
  | 86 => ⟨S32x32, .i32⟩
  | 87 => ⟨S32x32x1, .i32⟩
  | 88 => ⟨S32x32x1, .i32⟩
  | 89 => ⟨S32x32x2, .i32⟩
  | 90 => ⟨S_, .f32⟩
  | 91 => ⟨S32x32, .f32⟩
  | 92 => ⟨S32x8732, .f32⟩
  | 93 => ⟨S32x8732, .i32⟩
  | 94 => ⟨S32x8732x1, .i32⟩
  | 95 => ⟨S32x8732x1, .i32⟩
  | 96 => ⟨S32x8732x2, .i32⟩
  | 97 => ⟨S32x8732, .i32⟩
  | 98 => ⟨S_, .f32⟩
  | 99 => ⟨S32x8732, .f32⟩
  | 100 => ⟨S32x8732, .i1⟩
  | 101 => ⟨S_, .i32⟩
  | 102 => ⟨S_, .i32⟩
  | 103 => ⟨S32x8732, .i32⟩
  | 104 => ⟨S32x8732, .i32⟩
  | 105 => ⟨S32x8732, .i32⟩
  | 106 => ⟨S32x8732x1, .i32⟩
  | 107 => ⟨S32x8732x1, .i32⟩
  | 108 => ⟨S32x8732x2, .i32⟩
  | 109 => ⟨S32x8732x4, .f32⟩
  | 110 => ⟨S32x8732x2, .f32⟩
  | 111 => ⟨S32x8732x2, .f32⟩
  | 112 => ⟨S_, .f32⟩
  | 113 => ⟨S32x8732x2, .f32⟩
  | 114 => ⟨S32x8732x2, .f32⟩
  | 115 => ⟨S32x8732x2, .f32⟩
  | 116 => ⟨S8732x2, .f32⟩
  | 117 => ⟨S1x8732x2, .f32⟩
  | 118 => ⟨S32x8732x2, .f32⟩
  | 119 => ⟨S32x8732x2, .f32⟩
  | 120 => ⟨S8732x2, .f32⟩
  | 121 => ⟨S_, .f32⟩
  | 122 => ⟨S8732x2, .f32⟩
  | 123 => ⟨S8732x2, .f32⟩
  | 124 => ⟨S1x8732x2, .f32⟩
  | 125 => ⟨S32x8732x2, .f32⟩
  | 126 => ⟨S32x8732x2, .f32⟩
  | 127 => ⟨S32x8732x2, .f32⟩
  | _ => ⟨S32x8732x4, .f32⟩

abbrev hbmTy0_1 (i : Nat) : BufTy := match i % 128 with
  | 0 => ⟨S8732x2, .f32⟩
  | 1 => ⟨S1x8732x2, .f32⟩
  | 2 => ⟨S32x8732x2, .f32⟩
  | 3 => ⟨S32x8732x2, .f32⟩
  | 4 => ⟨S32x8732x2, .f32⟩
  | 5 => ⟨S_, .f32⟩
  | 6 => ⟨S32x8732x2, .f32⟩
  | 7 => ⟨S32x8732x2, .f32⟩
  | 8 => ⟨S32x8732x4, .f32⟩
  | 9 => ⟨S_, .i32⟩
  | 10 => ⟨S32x8732, .i32⟩
  | 11 => ⟨S32x8732, .i1⟩
  | 12 => ⟨S32x8732x4, .f32⟩
  | 13 => ⟨S32x8732x4, .f32⟩
  | 14 => ⟨S32x8732x1, .i1⟩
  | 15 => ⟨S32x8732x1, .f32⟩
  | 16 => ⟨S32x8732x4, .f32⟩
  | 17 => ⟨S32x8732x4, .f32⟩
  | 18 => ⟨S_, .f32⟩
  | 19 => ⟨S32x8732, .f32⟩
  | 20 => ⟨S_, .f32⟩
  | 21 => ⟨S32x8732, .f32⟩
  | 22 => ⟨S32x8732, .f32⟩
  | 23 => ⟨S32x8732x1, .f32⟩
  | 24 => ⟨S32x8732x81, .f32⟩
  | 25 => ⟨S32x8732x81, .f32⟩
  | 26 => ⟨S32x8732x81, .f32⟩
  | 27 => ⟨S_, .f32⟩
  | 28 => ⟨S32x8732, .f32⟩
  | 29 => ⟨S32x8732x1, .f32⟩
  | 30 => ⟨S32x8732x1, .f32⟩
  | 31 => ⟨S32x8732x81, .f32⟩
  | 32 => ⟨S32x8732x81, .f32⟩
  | 33 => ⟨S32x8732x1, .i32⟩
  | 34 => ⟨S32x8732x1x1, .i32⟩
  | 35 => ⟨S32x8732x1, .f32⟩
  | 36 => ⟨S32x8732, .f32⟩
  | 37 => ⟨S32x8732, .f32⟩
  | 38 => ⟨S32x8732, .i32⟩
  | 39 => ⟨S_, .i32⟩
  | 40 => ⟨S_, .i32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S32x8732, .i32⟩
  | 48 => ⟨S_, .i32⟩
  | 49 => ⟨S32, .i32⟩
  | 50 => ⟨S_, .i32⟩
  | 51 => ⟨S32, .i32⟩
  | 52 => ⟨S32, .i32⟩
  | 53 => ⟨S32x8732, .f32⟩
  | 54 => ⟨S32x8732, .f32⟩
  | 55 => ⟨S_, .f32⟩
  | 56 => ⟨S_, .f32⟩
  | 57 => ⟨S_, .f32⟩
  | 58 => ⟨S_, .f32⟩
  | 59 => ⟨S32x8732, .f32⟩
  | 60 => ⟨S32x8732, .f32⟩
  | 61 => ⟨S32x8732, .f32⟩
  | 62 => ⟨S32x8732, .f32⟩
  | 63 => ⟨S32x8732, .f32⟩
  | 64 => ⟨S8732, .i32⟩
  | 65 => ⟨S1x8732, .i32⟩
  | 66 => ⟨S32x1, .i32⟩
  | 67 => ⟨S32x8732, .i32⟩
  | 68 => ⟨S32x8732, .i32⟩
  | 69 => ⟨S32x8732, .i1⟩
  | 70 => ⟨S32x8732, .f32⟩
  | 71 => ⟨S32x8732, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S128, .i32⟩
  | 81 => ⟨S_, .i32⟩
  | 82 => ⟨S128, .i32⟩
  | 83 => ⟨S128, .i1⟩
  | 84 => ⟨S_, .f32⟩
  | 85 => ⟨S_, .f32⟩
  | 86 => ⟨S128, .f32⟩
  | 87 => ⟨S128, .f32⟩
  | 88 => ⟨S128, .f32⟩
  | 89 => ⟨S1x128, .f32⟩
  | _ => ⟨S32x8732x4, .f32⟩

abbrev hbmTy (i : Nat) : BufTy := match i / 128 with
  | 0 => hbmTy0_0 i
  | 1 => hbmTy0_1 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_3 : Ref sig .tc := ⟨.hbm, 67, rfl⟩
abbrev main_v57 : Ref sig .tc := ⟨.hbm, 68, rfl⟩
abbrev main_call0_v0 : Ref sig .tc := ⟨.hbm, 69, rfl⟩
abbrev main_call0_cst : Ref sig .tc := ⟨.hbm, 70, rfl⟩
abbrev main_call0_c : Ref sig .tc := ⟨.hbm, 71, rfl⟩
abbrev main_call0_v1_0 : Ref sig .tc := ⟨.hbm, 72, rfl⟩
abbrev main_v58 : Ref sig .tc := ⟨.hbm, 73, rfl⟩
abbrev main_call1_v0 : Ref sig .tc := ⟨.hbm, 74, rfl⟩
abbrev main_call1_cst : Ref sig .tc := ⟨.hbm, 75, rfl⟩
abbrev main_call1_c : Ref sig .tc := ⟨.hbm, 76, rfl⟩
abbrev main_call1_v1_0 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_4 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_5 : Ref sig .tc := ⟨.hbm, 98, rfl⟩
abbrev main_v78 : Ref sig .tc := ⟨.hbm, 99, rfl⟩
abbrev main_v79 : Ref sig .tc := ⟨.hbm, 100, rfl⟩
abbrev main_c_6 : Ref sig .tc := ⟨.hbm, 101, rfl⟩
abbrev main_call2_v0 : Ref sig .tc := ⟨.hbm, 102, rfl⟩
abbrev main_call2_v1 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_7 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_8 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_9 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_c_10 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call3_cst : Ref sig .tc := ⟨.hbm, 146, rfl⟩
abbrev main_call3_v0 : Ref sig .tc := ⟨.hbm, 147, rfl⟩
abbrev main_call3_cst_0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_cst_1 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_v118 : Ref sig .tc := ⟨.hbm, 160, rfl⟩
abbrev main_v119 : Ref sig .tc := ⟨.hbm, 161, rfl⟩
abbrev main_call4_v0 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_11 : Ref sig .tc := ⟨.hbm, 167, rfl⟩
abbrev main_v124 : Ref sig .tc := ⟨.hbm, 168, rfl⟩
abbrev main_cst_12 : Ref sig .tc := ⟨.hbm, 169, rfl⟩
abbrev main_v125 : Ref sig .tc := ⟨.hbm, 170, rfl⟩
abbrev main_v126 : Ref sig .tc := ⟨.hbm, 171, rfl⟩
abbrev main_cst_13 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_14 : Ref sig .tc := ⟨.hbm, 176, rfl⟩
abbrev main_v130 : Ref sig .tc := ⟨.hbm, 177, rfl⟩
abbrev main_c_15 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_16 : Ref sig .tc := ⟨.hbm, 183, rfl⟩
abbrev main_v135 : Ref sig .tc := ⟨.hbm, 184, rfl⟩
abbrev main_cst_17 : Ref sig .tc := ⟨.hbm, 185, rfl⟩
abbrev main_call5_v0 : Ref sig .tc := ⟨.hbm, 186, rfl⟩
abbrev main_call5_v1 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_18 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_19 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_c_20 : Ref sig .tc := ⟨.hbm, 209, rfl⟩
abbrev main_v155 : Ref sig .tc := ⟨.hbm, 210, rfl⟩
abbrev main_v156 : Ref sig .tc := ⟨.hbm, 211, rfl⟩
abbrev main_cst_21 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_v157 : Ref sig .tc := ⟨.hbm, 216, rfl⟩
abbrev main_v158 : Ref sig .tc := ⟨.hbm, 217, rfl⟩

abbrev nD : Nat := 1
abbrev τ : Topo := Topo.v7x

variable {F : FTy → Type} [FloatOps F]
-- ==== Proof.KernelRun.lean ====
module

public import proofs.«01_k».proof.Proof.Gen.KernelIdeal.Frame
public import Idealize.ShloMosaic.Lib.Pipeline.ValueKit.Acc

/-!
# The kernel's run

The two regions run one after the other; the run leaves in the result what the second region's write-backs leave there,
and its arguments as they were.
-/

@[expose] public section

set_option maxRecDepth 16384

namespace Cert.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the arguments unchanged and the result at what the second region leaves. -/
theorem run : θ_run defs (onTc (τ := τ) (main (F := F))) ⟨m, fun _ => 0, ρ⟩ (fun r => ∀ c : Dev nD,
      r.2.mem ((c.tc : Thread nD τ).loc main_v11) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v11 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ## What the second region leaves -/

/-- The bisection's words after its 31 rounds. -/
noncomputable def words (v0 : Vec F S32x1x8732 .f32) (v2 : Vec F S32x1x128 .f32) : IVec S32x1 32 × IVec S32x1 32 :=
  (List.finRange k1_t1_loop.trips).foldl (fun s _ => (k1_pay10 v0 v2 s.1 s.2, k1_pay11 v0 v2 s.1 s.2)) (k1_pay6, k1_pay7)

/-- The second region's result, from its two operands. -/
noncomputable def total (v0 : Vec F S32x1x8732 .f32) (v2 : Vec F S32x1x128 .f32) : FVec F S1x128 .f32 :=
  k1_pay1 (k1_pay12 v0 v2 (words v0 v2).1) (k1_pay13 v2) (k1_pay14 v2) (k1_pay15 v2)

theorem out_eq (c : Dev nD) (a0 : Memref sig .tc .vmem S32x1x8732 .f32) (h0 : a0.IsWhole) (a1 : Memref sig .tc .vmem S32x1x128 .f32)
    (h1 : a1.IsWhole) (a2 : Memref sig .tc .vmem S1x128 .f32) (h2 : a2.IsWhole) (x0 : Vec F S32x1x8732 .f32)
    (x1 : Vec F S32x1x128 .f32) : out1_A_2 c a0 h0 a1 h1 a2 h2 x0 x1 = total x0 x1 := by
  frame_out
  unfold total words
  rw [Scf.fold_eq]

theorem outs_eq (V : (c : Dev nD) → (b : Ref sig .tc) → Buf (Elt F) ((c : Thread nD τ).loc b)) (c : Dev nD) (t : Fin cfg1.N) :
    outsAt1 V c t = total (iblk1 V c 0 t) (iblk1 V c 1 t) :=
  out_eq c (ms1_0 t) (hs1_0 t) (ms1_1 t) (hs1_1 t) (ms1_2 t) (hs1_2 t) (iblk1 V c 0 t) (iblk1 V c 1 t)

end Cert.Block

end
-- ==== Proof.Spec.lean ====
module

public import Idealize.ShloMosaic.Lib.Pointwise
public import Idealize.ShloMosaic.PureOps.Ideal.Laws

/-!
# What both programs compute for one image

One image has 32 object boxes with their class labels, 8732 prior boxes, and the network's output at each prior: four
offsets and 81 class scores.  This module states the multibox matching of that image as plain mathematics: overlaps,
which object each prior is matched to, the class it is given, the offsets it should have predicted, and the four
quantities the programs return (localisation loss, number of positives, loss of the positives, losses of the negatives).
-/

@[expose] public section

namespace Cert.Spec

open Idealize.ShloMosaic

/-- The values of one image. -/
@[ext] structure Image where
  /-- corner `x, y`, width and height of each object -/
  box : Fin 32 → Fin 4 → EReal
  /-- class of each object -/
  lab : Fin 32 → BitVec 32
  /-- centre `x, y`, width and height of each prior -/
  pr : Fin 8732 → Fin 4 → EReal
  /-- predicted offsets -/
  loc : Fin 8732 → Fin 4 → EReal
  /-- predicted class scores -/
  sc : Fin 8732 → Fin 81 → EReal

/-- The number one half, as its float word reads. -/
noncomputable abbrev half : EReal := Ideal.ofBits .f32 0x3F000000#32

/-! ## Matching -/

/-- `i` is the first place where `f` is greatest. -/
def IsFirstMax {n : ℕ} (f : Fin n → EReal) (i : Fin n) : Prop := (∀ j, f j ≤ f i) ∧ ∀ j, f j = f i → i ≤ j

theorem IsFirstMax.unique {n : ℕ} {f : Fin n → EReal} {i j : Fin n} (hi : IsFirstMax f i) (hj : IsFirstMax f j) :
    i = j :=
  le_antisymm (hi.2 j (le_antisymm (hi.1 j) (hj.1 i))) (hj.2 i (le_antisymm (hj.1 i) (hi.1 j)))

theorem exists_isFirstMax {n : ℕ} [NeZero n] (f : Fin n → EReal) : ∃ i, IsFirstMax f i := by
  obtain ⟨m, -, hm⟩ := Finset.exists_max_image (Finset.univ : Finset (Fin n)) f ⟨0, Finset.mem_univ _⟩
  have hne : (Finset.univ.filter fun i : Fin n => f i = f m).Nonempty := ⟨m, by simp⟩
  have hmem := Finset.min'_mem _ hne
  simp only [Finset.mem_filter, Finset.mem_univ, true_and] at hmem
  refine ⟨(Finset.univ.filter fun i : Fin n => f i = f m).min' hne, fun j => ?_, fun j hj => ?_⟩
  · rw [hmem]; exact hm j (Finset.mem_univ _)
  · exact Finset.min'_le _ _ (by simp only [Finset.mem_filter, Finset.mem_univ, true_and]; exact hj.trans hmem)

/-- The first place where `f` is greatest. -/
noncomputable def firstMax {n : ℕ} [NeZero n] (f : Fin n → EReal) : Fin n := (exists_isFirstMax f).choose

theorem firstMax_spec {n : ℕ} [NeZero n] (f : Fin n → EReal) : IsFirstMax f (firstMax f) := (exists_isFirstMax f).choose_spec

theorem IsFirstMax.eq {n : ℕ} [NeZero n] {f : Fin n → EReal} {i : Fin n} (h : IsFirstMax f i) : firstMax f = i :=
  (firstMax_spec f).unique h

/-- The greatest value of `f`. -/
noncomputable def top {n : ℕ} (f : Fin n → EReal) : EReal := Finset.univ.fold max ⊥ f

/-- The fold is the value at the first greatest place. -/
theorem top_eq {n : ℕ} [NeZero n] (f : Fin n → EReal) : top f = f (firstMax f) := by
  apply le_antisymm
  · exact Finset.fold_max_le _ |>.2 ⟨bot_le, fun j _ => (firstMax_spec f).1 j⟩
  · exact Finset.le_fold_max _ |>.2 (Or.inr ⟨_, Finset.mem_univ _, le_rfl⟩)

variable (q : Fin 32 → Fin 8732 → EReal)

/-- Prior `p` is the best prior of some object: it is then given to an object whatever their overlap. -/
def Forced (p : Fin 8732) : Prop := ∃ o, firstMax (q o) = p

/-- The objects whose best prior is `p`. -/
noncomputable def owners (p : Fin 8732) : Finset (Fin 32) := Finset.univ.filter fun o => firstMax (q o) = p

open Classical in
/-- The object prior `p` is matched to: the last object that claims it, else the first object it overlaps most. -/
noncomputable def obj (p : Fin 8732) : Fin 32 :=
  if h : (owners q p).Nonempty then (owners q p).max' h else firstMax fun o => q o p

open Classical in
/-- The overlap prior `p` counts with: 1 where an object claims it. -/
noncomputable def over (p : Fin 8732) : EReal := if Forced q p then 1 else top fun o => q o p

variable (I : Image)

/-! ## Overlaps -/

/-- Overlap in one direction of the segment from `b` of length `w` with the segment of centre `c` and length `s`. -/
noncomputable def side (b w c s : EReal) : EReal :=
  max (min (b + w) (c + s * half) - max b (c - s * half)) 0

/-- Intersection of object `o` and prior `p`. -/
noncomputable def inter (o : Fin 32) (p : Fin 8732) : EReal :=
  side (I.box o 0) (I.box o 2) (I.pr p 0) (I.pr p 2) * side (I.box o 1) (I.box o 3) (I.pr p 1) (I.pr p 3)

/-- Area of prior `p`. -/
noncomputable def area (p : Fin 8732) : EReal :=
  ((I.pr p 0 + I.pr p 2 * half) - (I.pr p 0 - I.pr p 2 * half)) *
    ((I.pr p 1 + I.pr p 3 * half) - (I.pr p 1 - I.pr p 3 * half))

/-- Intersection over union of object `o` and prior `p`. -/
noncomputable def iou (o : Fin 32) (p : Fin 8732) : EReal :=
  Ideal.div (inter I o p) ((I.box o 2 * I.box o 3 + area I p) - inter I o p)

/-! ## Targets and losses -/

open Classical in
/-- The class prior `p` should have: its object's, or background when the overlap is below one half. -/
noncomputable def cls (p : Fin 8732) : BitVec 32 :=
  if over (iou I) p < half then 0#32 else I.lab (obj (iou I) p)

open Classical in
/-- 1 at a positive prior, 0 elsewhere. -/
noncomputable def pos (p : Fin 8732) : EReal := if cls I p = 0#32 then 0 else 1

/-- The matched object's box. -/
noncomputable def mbox (p : Fin 8732) (k : Fin 4) : EReal := I.box (obj (iou I) p) k

/-- Offset of the matched object's centre along one axis. -/
noncomputable def centre (p : Fin 8732) (k l : Fin 4) : EReal :=
  Ideal.div ((mbox I p k + mbox I p l * half) - I.pr p k) (I.pr p l * ((1 / 10 : ℝ) : EReal))

/-- Logarithmic ratio of the matched object's size to the prior's along one axis. -/
noncomputable def size (p : Fin 8732) (l : Fin 4) : EReal :=
  Ideal.log (Ideal.div (mbox I p l) (I.pr p l)) * Ideal.ofBits .f32 0x40A00000#32

/-- Magnitude. -/
noncomputable def mag (x : EReal) : EReal := max x (-x)

/-- Distance of the predicted offsets of prior `p` from those it should have predicted. -/
noncomputable def dist (p : Fin 8732) : EReal :=
  mag (I.loc p 0 - centre I p 0 2) + mag (I.loc p 1 - centre I p 1 3)
    + mag (I.loc p 2 - size I p 2) + mag (I.loc p 3 - size I p 3)

open Classical in
/-- Cross entropy of the scores of prior `p` at its class. -/
noncomputable def conf (p : Fin 8732) : EReal :=
  Ideal.log (∑ c : Fin 81, Ideal.exp (I.sc p c)) - ∑ c : Fin 81, if BitVec.ofNat 32 c = cls I p then I.sc p c else 0

/-- Localisation loss of the image. -/
noncomputable def locSum : EReal := ∑ p : Fin 8732, dist I p * pos I p

/-- Number of positive priors. -/
noncomputable def nPos : EReal := ∑ p : Fin 8732, pos I p

open Classical in
/-- Cross entropy of the positives. -/
noncomputable def posSum : EReal := ∑ p : Fin 8732, if cls I p = 0#32 then 0 else conf I p

open Classical in
/-- Cross entropy of prior `p` when it is a negative, else 0. -/
noncomputable def neg (p : Fin 8732) : EReal := if cls I p = 0#32 then conf I p else 0

/-- The three sums, side by side in the first lanes of a row of 128. -/
noncomputable def lanes (l : Fin 128) : EReal :=
  if l = 0 then locSum I else if l = 1 then nPos I else if l = 2 then posSum I else 0

end Cert.Spec

end
-- ==== Proof.KernelIou.lean ====
module

public import proofs.«01_k».proof.Proof.Gen.KernelIdeal.Frame
public import proofs.«01_k».proof.Proof.Spec

/-!
# One block of the kernel: overlaps

The body reads one image's predicted offsets (transposed), scores, boxes and labels, and the priors (transposed).  The
image those blocks hold, and the body's table of overlaps as that image's.
-/

@[expose] public section

namespace Cert.Block

open Idealize.ShloMosaic Idealize.ShloMosaic.Pointwise
open Cert.KernelIdeal Cert.KernelIdeal.Gen

set_option maxRecDepth 16384

variable (x0 : Vec Ideal S1x4x8732 .f32) (x1 : Vec Ideal S1x8732x81 .f32) (x2 : Vec Ideal S1x32x4 .f32)
  (x3 : Vec Ideal S1x32x1 .i32) (x4 : Vec Ideal S4x8732 .f32)

/-- The image the blocks hold. -/
@[simps] noncomputable def img : Spec.Image where
  box o k := x2 (ix3 0 o k)
  lab o := x3 (ix3 0 o 0)
  pr p k := x4 (ix2 k p)
  loc p k := x0 (ix3 0 k p)
  sc p c := x1 (ix3 0 p c)

/-- The body's overlaps. -/
noncomputable abbrev tbl : FVec Ideal S32x8732 .f32 :=
  k0_pay19 (k0_pay41 x0 x1 x2 x3 x4) (k0_pay42 x0 x1 x2 x3 x4) (k0_pay43 x0 x1 x2 x3 x4) (k0_pay45 x0 x1 x2 x3 x4)
    (k0_pay46 x0 x1 x2 x3 x4) (k0_pay47 x0 x1 x2 x3 x4) (k0_pay48 x0 x1 x2 x3 x4)

theorem tbl_at (o : Fin 32) (p : Fin 8732) :
    tbl x0 x1 x2 x3 x4 (ix2 o p) = Spec.iou (img x0 x1 x2 x3 x4) o p := by
  unfold tbl Spec.iou Spec.inter Spec.area Spec.side
  unfold_payloads
  pointwise []
  simp only [img_box, img_pr]

end Cert.Block

end
-- ==== Proof.Words.lean ====
module

public import proofs.«01_k».proof.Proof.Spec
public import Idealize.ShloMosaic.Lib.SortNet.Extract
public import Idealize.ShloMosaic.Lib.IdealHost

/-!
# Choices written in 32-bit words

The kernel finds "the first greatest" by a signed minimum of indices and "the last object" by a signed maximum.  This
module shows that those words are the indices `Spec.firstMax` and `Spec.obj` name, and reads the constants the programs
use.
-/

@[expose] public section

namespace Cert.Spec

open Idealize.ShloMosaic

theorem negInf_word : Ideal.ofBits .f32 0xFF800000#32 = ⊥ := by simp [Ideal.ofBits, Ideal.ieee]

theorem half_word : half = ((1 / 2 : ℝ) : EReal) := by
  unfold half
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem ten_word : Ideal.ofBits .f32 0x41200000#32 = ((10 : ℝ) : EReal) := by
  simp [Ideal.ofBits, Ideal.ieee, -EReal.coe_mul]; norm_num

theorem coe_sum {n : ℕ} (r : Fin n → ℝ) : (∑ k, (r k : EReal)) = ((∑ k, r k : ℝ) : EReal) := by
  induction n with
  | zero => simp
  | succ n ih => rw [Fin.sum_univ_succ, Fin.sum_univ_succ, ih, EReal.coe_add]

theorem toInt_word {k : ℕ} (h : k < 2 ^ 31) : (BitVec.ofNat 32 k).toInt = k := by
  rw [BitVec.toInt_eq_toNat_cond, BitVec.toNat_ofNat, Nat.mod_eq_of_lt (by omega), if_pos (by omega)]

theorem word_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem select_eq_word {α : Type} {w : ℕ} (a b : BitVec w) (x y : α) :
    Scalar.select (IntOp.cmpi .eq a b) x y = if a = b then x else y := by
  by_cases h : a = b
  · simp [Scalar.select, IntOp.cmpi, h]
  · simp [Scalar.select, IntOp.cmpi, h, beq_eq_false_iff_ne.2 h]

theorem select_ne_word {α : Type} {w : ℕ} (a b : BitVec w) (x y : α) :
    Scalar.select (IntOp.cmpi .ne a b) x y = if a = b then y else x := by
  by_cases h : a = b
  · simp [Scalar.select, IntOp.cmpi, h]
  · simp [Scalar.select, IntOp.cmpi, h, bne_iff_ne.2 h]

theorem select_sge_word {α : Type} {w : ℕ} (a b : BitVec w) (x y : α) :
    Scalar.select (IntOp.cmpi .sge a b) x y = if b.toInt ≤ a.toInt then x else y := by
  by_cases h : b.toInt ≤ a.toInt <;> simp [Scalar.select, IntOp.cmpi, BitVec.sle, h]

theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => simp
  | insert a s has ih =>
    obtain ⟨h1, h2, h3⟩ := ih
    rw [Finset.fold_insert has]
    have hm := SortNet.toInt_minsi (g a) (s.fold IntOp.minsi init g)
    refine ⟨by rw [hm]; exact (min_le_right _ _).trans h1, fun i hi => ?_, ?_⟩
    · rw [hm]
      rcases Finset.mem_insert.mp hi with rfl | hi
      · exact min_le_left _ _
      · exact (min_le_right _ _).trans (h2 i hi)
    · rcases min_choice (g a).toInt (s.fold IntOp.minsi init g).toInt with h | h
      · exact Or.inr ⟨a, Finset.mem_insert_self a s, BitVec.eq_of_toInt_eq (hm.trans h)⟩
      · rcases h3 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

/-- The least index among those where `f` is greatest is the first greatest place. -/
theorem minsi_first {n : ℕ} [NeZero n] (hn : n ≤ 2 ^ 30) (f : Fin n → EReal) (m : EReal) (hm : m = top f) :
    Finset.fold IntOp.minsi 2147483647#32 (fun x => if f x = m then BitVec.ofNat 32 x.val else 1073741824#32)
      Finset.univ = BitVec.ofNat 32 (firstMax f).val := by
  subst hm
  rw [top_eq]
  obtain ⟨h1, h2, h3⟩ := fold_minsi_spec
    (fun x : Fin n => if f x = f (firstMax f) then BitVec.ofNat 32 x.val else 1073741824#32) Finset.univ 2147483647#32
  apply BitVec.eq_of_toInt_eq
  have hk := (firstMax f).isLt
  rw [toInt_word (by omega)]
  have hle := h2 (firstMax f) (Finset.mem_univ _)
  rw [if_pos rfl, toInt_word (by omega)] at hle
  apply le_antisymm hle
  have hb : (2147483647#32 : BitVec 32).toInt = 2147483647 := by decide
  have hc : (1073741824#32 : BitVec 32).toInt = 1073741824 := by decide
  rcases h3 with h3 | ⟨i, -, h3⟩
  · rw [h3, hb]; omega
  · rw [h3]
    split
    · next he =>
      have := (firstMax_spec f).2 i he
      rw [toInt_word (by omega)]
      exact_mod_cast this
    · rw [hc]; omega

variable (q : Fin 32 → Fin 8732 → EReal)

theorem forced_iff (p : Fin 8732) : Forced q p ↔ (owners q p).Nonempty := by
  simp [Forced, owners, Finset.Nonempty]

open Classical in
/-- The greatest object index among those that claim prior `p`, or the word −1 when none does. -/
theorem maxsi_last (p : Fin 8732) :
    Finset.fold IntOp.maxsi 2147483648#32 (fun o : Fin 32 => if firstMax (q o) = p then BitVec.ofNat 32 o.val else 4294967295#32)
      Finset.univ = if Forced q p then BitVec.ofNat 32 (obj q p).val else 4294967295#32 := by
  obtain ⟨h1, h2, h3⟩ := SortNet.fold_maxsi_spec
    (fun o : Fin 32 => if firstMax (q o) = p then BitVec.ofNat 32 o.val else 4294967295#32) Finset.univ 2147483648#32
  have hb : (2147483648#32 : BitVec 32).toInt = -2147483648 := by decide
  have hc : (4294967295#32 : BitVec 32).toInt = -1 := by decide
  have hle : ∀ o : Fin 32, o.val < 2 ^ 31 := fun o => by omega
  apply BitVec.eq_of_toInt_eq
  by_cases hf : (owners q p).Nonempty
  · rw [if_pos ((forced_iff q p).2 hf), obj, dif_pos hf, toInt_word (hle _)]
    have hmem : firstMax (q ((owners q p).max' hf)) = p := (Finset.mem_filter.1 (Finset.max'_mem _ hf)).2
    have hge := h2 _ (Finset.mem_univ ((owners q p).max' hf))
    rw [if_pos hmem, toInt_word (hle _)] at hge
    refine le_antisymm ?_ hge
    rcases h3 with h3 | ⟨i, -, h3⟩
    · rw [h3, hb]; omega
    · rw [h3]
      split
      · next he =>
        rw [toInt_word (hle _)]
        exact_mod_cast Finset.le_max' _ i (by simpa [owners] using he)
      · rw [hc]; omega
  · rw [if_neg (fun h => hf ((forced_iff q p).1 h))]
    have hn : ∀ o, firstMax (q o) ≠ p := fun o ho => hf ⟨o, by simpa [owners] using ho⟩
    rcases h3 with h3 | ⟨i, -, h3⟩
    · have := h2 0 (Finset.mem_univ _)
      rw [h3, if_neg (hn 0), hb, hc] at this
      omega
    · rw [h3, if_neg (hn i)]

open Classical in
/-- The matched object's index, chosen between the claim and the best overlap. -/
theorem chosen_word (p : Fin 8732) (A : BitVec 32) (hA : A = if Forced q p then BitVec.ofNat 32 (obj q p).val else 4294967295#32) :
    (if (0#32 : BitVec 32).toInt ≤ A.toInt then A else BitVec.ofNat 32 (firstMax fun o => q o p).val) = BitVec.ofNat 32 (obj q p).val := by
  subst hA
  by_cases hf : Forced q p
  · have hlt := (obj q p).isLt
    rw [if_pos hf, if_pos]
    rw [toInt_word (k := (obj q p).val) (by omega)]
    exact Int.natCast_nonneg _
  · rw [if_neg hf, if_neg (by decide), obj, dif_neg fun h => hf ((forced_iff q p).2 h)]

open Classical in
theorem claimed_word (p : Fin 8732) (A : BitVec 32) (hA : A = if Forced q p then BitVec.ofNat 32 (obj q p).val else 4294967295#32) :
    (0#32 : BitVec 32).toInt ≤ A.toInt ↔ Forced q p := by
  subst hA
  by_cases hf : Forced q p
  · have hlt := (obj q p).isLt
    rw [if_pos hf, toInt_word (k := (obj q p).val) (by omega)]
    exact iff_of_true (Int.natCast_nonneg _) hf
  · rw [if_neg hf]
    exact iff_of_false (by decide) hf

/-- A sum of words of which one only is not dropped. -/
theorem fold_addi_single {n : ℕ} (k : Fin n) (g : Fin n → BitVec 32) :
    Finset.fold IntOp.addi 0#32 (fun x => if x = k then g x else 0#32) Finset.univ = g k := by
  have h : ∀ s : Finset (Fin n), Finset.fold IntOp.addi 0#32 (fun x => if x = k then g x else 0#32) s
      = if k ∈ s then g k else 0#32 := by
    intro s
    induction s using Finset.induction_on with
    | empty => simp
    | insert a s has ih =>
      rw [Finset.fold_insert has, ih]
      by_cases ha : a = k
      · subst ha
        rw [if_pos rfl, if_neg has, if_pos (Finset.mem_insert_self _ _)]
        exact BitVec.add_zero _
      · rw [if_neg ha]
        have : k ∈ insert a s ↔ k ∈ s := by
          rw [Finset.mem_insert]; exact ⟨fun h => h.resolve_left fun e => ha e.symm, Or.inr⟩
        simp only [this]
        exact BitVec.zero_add _
  rw [h, if_pos (Finset.mem_univ _)]

end Cert.Spec

end
-- ==== Proof.KernelBlock.lean ====
module

public import proofs.«01_k».proof.Proof.KernelIou
public import proofs.«01_k».proof.Proof.Words

/-!
# One block of the kernel: matching, targets and losses

The body's values, read element by element, are those of the image its blocks hold.
-/

@[expose] public section

namespace Cert.Block

open Idealize.ShloMosaic Idealize.ShloMosaic.Pointwise
open Cert.KernelIdeal Cert.KernelIdeal.Gen

set_option maxRecDepth 16384

variable (x0 : Vec Ideal S1x4x8732 .f32) (x1 : Vec Ideal S1x8732x81 .f32) (x2 : Vec Ideal S1x32x4 .f32)
  (x3 : Vec Ideal S1x32x1 .i32) (x4 : Vec Ideal S4x8732 .f32)

local notation "𝓘" => img x0 x1 x2 x3 x4
local notation "𝓺" => Spec.iou (img x0 x1 x2 x3 x4)

/-! ## Matching -/

/-- The body's best overlap of each prior. -/
theorem best_at (p : Fin 8732) :
    k0_pay20 (k0_pay41 x0 x1 x2 x3 x4) (k0_pay42 x0 x1 x2 x3 x4) (k0_pay43 x0 x1 x2 x3 x4) (k0_pay45 x0 x1 x2 x3 x4)
      (k0_pay46 x0 x1 x2 x3 x4) (k0_pay47 x0 x1 x2 x3 x4) (k0_pay48 x0 x1 x2 x3 x4) (ix2 0 p)
      = Spec.top fun o => 𝓺 o p := by
  have hT := tbl_at x0 x1 x2 x3 x4
  unfold tbl at hT
  unfold k0_pay20
  generalize k0_pay19 (F := Ideal) _ _ _ _ _ _ _ = T at hT ⊢
  pointwise []
  simp only [hT, Spec.negInf_word]
  rfl

open Classical in
/-- The body's claims: the last object that claims each prior, or −1. -/
theorem claim_at (p : Fin 8732) :
    k0_pay21 (k0_pay41 x0 x1 x2 x3 x4) (k0_pay42 x0 x1 x2 x3 x4) (k0_pay43 x0 x1 x2 x3 x4) (k0_pay45 x0 x1 x2 x3 x4)
      (k0_pay46 x0 x1 x2 x3 x4) (k0_pay47 x0 x1 x2 x3 x4) (k0_pay48 x0 x1 x2 x3 x4) (ix2 0 p)
      = if Spec.Forced 𝓺 p then BitVec.ofNat 32 (Spec.obj 𝓺 p).val else 4294967295#32 := by
  have hT := tbl_at x0 x1 x2 x3 x4
  unfold tbl at hT
  unfold k0_pay21
  generalize k0_pay19 (F := Ideal) _ _ _ _ _ _ _ = T at hT ⊢
  pointwise []
  simp only [hT, Spec.negInf_word]
  rw [← Spec.maxsi_last]
  refine congrArg (fun g => Finset.fold IntOp.maxsi 2147483648#32 g Finset.univ) (funext fun o => ?_)
  rw [Spec.select_eq_word]
  have h := Spec.minsi_first (n := 8732) (by norm_num) (𝓺 o) _ rfl
  unfold Spec.top at h
  rw [h]
  have h1 := (Spec.firstMax (𝓺 o)).isLt
  have h2 := p.isLt
  simp only [Spec.word_inj (show (Spec.firstMax (𝓺 o)).val < 2 ^ 31 by omega) (show p.val < 2 ^ 31 by omega), Fin.ext_iff]

/-- The body's overlaps with the claimed priors at 1. -/
theorem over_at (p : Fin 8732) : k0_pay49 x0 x1 x2 x3 x4 (ix2 0 p) = Spec.over 𝓺 p := by
  have hA := claim_at x0 x1 x2 x3 x4 p
  have hB := best_at x0 x1 x2 x3 x4 p
  unfold k0_pay49 k0_pay23 k0_pay22
  generalize k0_pay21 (F := Ideal) _ _ _ _ _ _ _ = A at hA ⊢
  generalize k0_pay20 (F := Ideal) _ _ _ _ _ _ _ = B at hB ⊢
  pointwise []
  rw [Spec.select_sge_word, hB]
  unfold Spec.over
  classical exact if_congr (Spec.claimed_word _ p _ hA) rfl rfl

/-- The body's marks: object `o` is the one prior `p` is matched to. -/
theorem mark_at {α : Type} (o : Fin 32) (p : Fin 8732) (a b : α) :
    Scalar.select (k0_pay51 x0 x1 x2 x3 x4 (ix2 o p)) a b = if o = Spec.obj 𝓺 p then a else b := by
  have hA := claim_at x0 x1 x2 x3 x4 p
  have hB := best_at x0 x1 x2 x3 x4 p
  have hT := tbl_at x0 x1 x2 x3 x4
  unfold tbl at hT
  unfold k0_pay51 k0_pay25 k0_pay22
  generalize k0_pay21 (F := Ideal) _ _ _ _ _ _ _ = A at hA ⊢
  generalize k0_pay20 (F := Ideal) _ _ _ _ _ _ _ = B at hB ⊢
  generalize k0_pay19 (F := Ideal) _ _ _ _ _ _ _ = T at hT ⊢
  pointwise []
  rw [Spec.select_eq_word, Spec.select_sge_word]
  simp only [hT, hB]
  rw [Spec.minsi_first (n := 32) (by norm_num) (fun o => 𝓺 o p) _ rfl, Spec.chosen_word _ p _ hA]
  have h1 := (Spec.obj 𝓺 p).isLt
  have h2 := o.isLt
  simp only [Spec.word_inj (show (Spec.obj 𝓺 p).val < 2 ^ 31 by omega) (show o.val < 2 ^ 31 by omega), Fin.ext_iff,
    eq_comm]

/-! ## Targets -/

/-- The body's classes. -/
theorem cls_at (p : Fin 8732) : k0_pay52 x0 x1 x2 x3 x4 (ix2 0 p) = Spec.cls 𝓘 p := by
  have hO := over_at x0 x1 x2 x3 x4 p
  have hM := fun o => mark_at (α := BitVec 32) x0 x1 x2 x3 x4 o p
  unfold k0_pay52
  generalize k0_pay49 x0 x1 x2 x3 x4 = O at hO ⊢
  generalize k0_pay51 x0 x1 x2 x3 x4 = M at hM ⊢
  pointwise [k0_pay26, k0_pay50, k0_pay24]
  simp only [hO, hM]
  rw [Spec.fold_addi_single (Spec.obj 𝓺 p)]
  rfl

/-- A flag read as a number. -/
theorem flag_word (c : BitVec 32) :
    (FloatOps.sitofp (F := Ideal) .f32 (BitVec.setWidth 32 (IntOp.cmpi .ne c 0#32)) : EReal) = if c = 0#32 then 0 else 1 := by
  by_cases h : c = 0#32
  · rw [if_pos h, h]
    show ((((0#32 : BitVec 32).toInt : ℝ)) : EReal) = 0
    simp
  · rw [if_neg h]
    have e : IntOp.cmpi .ne c 0#32 = 1#1 := by simp [IntOp.cmpi, bne_iff_ne.2 h]
    rw [e]
    show ((((1#32 : BitVec 32).toInt : ℝ)) : EReal) = 1
    have : (1#32 : BitVec 32).toInt = 1 := by decide
    rw [this]
    simp

/-- The body's positives as numbers. -/
theorem pos_at (p : Fin 8732) :
    k0_pay27 (k0_pay49 x0 x1 x2 x3 x4) (k0_pay50 x0 x1 x2 x3 x4) (k0_pay51 x0 x1 x2 x3 x4) (ix2 0 p) = Spec.pos 𝓘 p := by
  have hC := cls_at x0 x1 x2 x3 x4 p
  unfold k0_pay52 at hC
  unfold k0_pay27
  generalize k0_pay26 (F := Ideal) _ _ _ = C at hC ⊢
  pointwise []
  rw [hC]
  unfold Spec.pos
  exact flag_word _

/-- The body's matched corner `y`, width, height, and centre `x`. -/
theorem mbox1_at (p : Fin 8732) :
    k0_pay29 (k0_pay43 x0 x1 x2 x3 x4) (k0_pay51 x0 x1 x2 x3 x4) (ix2 0 p) = Spec.mbox 𝓘 p 1 := by
  have hM := fun o => mark_at (α := EReal) x0 x1 x2 x3 x4 o p
  generalize k0_pay51 x0 x1 x2 x3 x4 = M at hM ⊢
  unfold k0_pay29 k0_pay43 k0_pay12 k0_pay10
  pointwise []
  simp only [hM]
  rw [Finset.sum_ite_eq' Finset.univ (Spec.obj 𝓺 p)]
  simp only [Finset.mem_univ, if_true]
  rfl

theorem mbox2_at (p : Fin 8732) :
    k0_pay30 (k0_pay44 x0 x1 x2 x3 x4) (k0_pay51 x0 x1 x2 x3 x4) (ix2 0 p) = Spec.mbox 𝓘 p 2 := by
  have hM := fun o => mark_at (α := EReal) x0 x1 x2 x3 x4 o p
  generalize k0_pay51 x0 x1 x2 x3 x4 = M at hM ⊢
  unfold k0_pay30 k0_pay44 k0_pay13 k0_pay10
  pointwise []
  simp only [hM]
  rw [Finset.sum_ite_eq' Finset.univ (Spec.obj 𝓺 p)]
  simp only [Finset.mem_univ, if_true]
  rfl

theorem mbox3_at (p : Fin 8732) :
    k0_pay31 (k0_pay14 (View.ld x2 r0_4)) (k0_pay51 x0 x1 x2 x3 x4) (ix2 0 p) = Spec.mbox 𝓘 p 3 := by
  have hM := fun o => mark_at (α := EReal) x0 x1 x2 x3 x4 o p
  generalize k0_pay51 x0 x1 x2 x3 x4 = M at hM ⊢
  unfold k0_pay31 k0_pay14 k0_pay10
  pointwise []
  simp only [hM]
  rw [Finset.sum_ite_eq' Finset.univ (Spec.obj 𝓺 p)]
  simp only [Finset.mem_univ, if_true]
  rfl

theorem centre_at (p : Fin 8732) :
    k0_pay32 (k0_pay11 (View.ld x2 r0_4)) (k0_pay44 x0 x1 x2 x3 x4) (k0_pay51 x0 x1 x2 x3 x4) (ix2 0 p)
      = Spec.mbox 𝓘 p 0 + Spec.mbox 𝓘 p 2 * Spec.half := by
  have hM := fun o => mark_at (α := EReal) x0 x1 x2 x3 x4 o p
  have h2 := mbox2_at x0 x1 x2 x3 x4 p
  generalize k0_pay51 x0 x1 x2 x3 x4 = M at hM h2 ⊢
  unfold k0_pay32 k0_pay11 k0_pay10
  generalize k0_pay30 (F := Ideal) _ _ = W at h2 ⊢
  pointwise []
  simp only [hM, h2]
  rw [Finset.sum_ite_eq' Finset.univ (Spec.obj 𝓺 p)]
  simp only [Finset.mem_univ, if_true]
  rfl

end Cert.Block

end
-- ==== Proof.KernelLoss.lean ====
module

public import proofs.«01_k».proof.Proof.KernelBlock

/-!
# One block of the kernel: losses

The body's losses and number of positives are those of the image its blocks hold.
-/

@[expose] public section

namespace Cert.Block

open Idealize.ShloMosaic Idealize.ShloMosaic.Pointwise
open Cert.KernelIdeal Cert.KernelIdeal.Gen

set_option maxRecDepth 16384

variable (x0 : Vec Ideal S1x4x8732 .f32) (x1 : Vec Ideal S1x8732x81 .f32) (x2 : Vec Ideal S1x32x4 .f32)
  (x3 : Vec Ideal S1x32x1 .i32) (x4 : Vec Ideal S4x8732 .f32)

local notation "𝓘" => img x0 x1 x2 x3 x4
local notation "𝓺" => Spec.iou (img x0 x1 x2 x3 x4)

/-! ## Losses -/

/-- The body's number of positives. -/
theorem nPos_eq :
    k0_pay28 (k0_pay49 x0 x1 x2 x3 x4) (k0_pay50 x0 x1 x2 x3 x4) (k0_pay51 x0 x1 x2 x3 x4) = Spec.nPos 𝓘 := by
  have hP := pos_at x0 x1 x2 x3 x4
  unfold k0_pay28
  generalize k0_pay27 (F := Ideal) _ _ _ = P at hP ⊢
  pointwise []
  simp only [hP]
  simp [Spec.nPos]

/-- The body's localisation loss. -/
theorem locSum_eq :
    k0_pay33 (k0_pay1 (View.ld x4 r0_0)) (k0_pay2 (View.ld x4 r0_1)) (k0_pay3 (View.ld x4 r0_2)) (k0_pay4 (View.ld x4 r0_3))
      (k0_pay27 (k0_pay49 x0 x1 x2 x3 x4) (k0_pay50 x0 x1 x2 x3 x4) (k0_pay51 x0 x1 x2 x3 x4))
      (k0_pay29 (k0_pay43 x0 x1 x2 x3 x4) (k0_pay51 x0 x1 x2 x3 x4))
      (k0_pay30 (k0_pay44 x0 x1 x2 x3 x4) (k0_pay51 x0 x1 x2 x3 x4))
      (k0_pay31 (k0_pay14 (View.ld x2 r0_4)) (k0_pay51 x0 x1 x2 x3 x4))
      (k0_pay32 (k0_pay11 (View.ld x2 r0_4)) (k0_pay44 x0 x1 x2 x3 x4) (k0_pay51 x0 x1 x2 x3 x4))
      (View.ld x0 r0_6) = Spec.locSum 𝓘 := by
  have hP := pos_at x0 x1 x2 x3 x4
  have h1 := mbox1_at x0 x1 x2 x3 x4
  have h2 := mbox2_at x0 x1 x2 x3 x4
  have h3 := mbox3_at x0 x1 x2 x3 x4
  have hC := centre_at x0 x1 x2 x3 x4
  generalize k0_pay27 (F := Ideal) _ _ _ = P at hP ⊢
  generalize k0_pay29 (F := Ideal) _ _ = B1 at h1 ⊢
  generalize k0_pay30 (F := Ideal) _ _ = B2 at h2 ⊢
  generalize k0_pay31 (F := Ideal) _ _ = B3 at h3 ⊢
  generalize k0_pay32 (F := Ideal) _ _ _ = C at hC ⊢
  unfold k0_pay33 k0_pay1 k0_pay2 k0_pay3 k0_pay4
  pointwise []
  simp only [hP, h1, h2, h3, hC, Fin.sum_univ_one]
  rfl

/-- The body's cross entropies. -/
theorem conf_at (p : Fin 8732) :
    k0_pay37 (k0_pay53 x0 x1 x2 x3 x4) (k0_pay54 x0 x1 x2 x3 x4) (k0_pay55 x0 x1 x2 x3 x4) (ix2 0 p) = Spec.conf 𝓘 p := by
  have hC := cls_at x0 x1 x2 x3 x4 p
  unfold k0_pay37 k0_pay53 k0_pay54 k0_pay55
  generalize k0_pay52 x0 x1 x2 x3 x4 = C at hC ⊢
  pointwise [k0_pay34, k0_pay35, k0_pay36]
  simp only [Spec.select_eq_word, hC]
  rfl

/-- What the body stores for the negatives. -/
theorem neg_at (p : Fin 8732) :
    k0_pay39 (k0_pay52 x0 x1 x2 x3 x4) (k0_pay53 x0 x1 x2 x3 x4) (k0_pay54 x0 x1 x2 x3 x4) (k0_pay55 x0 x1 x2 x3 x4)
      (ix3 0 0 p) = Spec.neg 𝓘 p := by
  have hC := cls_at x0 x1 x2 x3 x4 p
  have hF := conf_at x0 x1 x2 x3 x4 p
  unfold k0_pay39 k0_pay38
  generalize k0_pay37 (F := Ideal) _ _ _ = F at hF ⊢
  generalize k0_pay52 x0 x1 x2 x3 x4 = C at hC ⊢
  pointwise []
  rw [Spec.select_ne_word, hC, hF]
  rfl

theorem lane_word (l : Fin 128) (k : ℕ) (hk : k < 128) : BitVec.ofNat 32 l.val = BitVec.ofNat 32 k ↔ l = ⟨k, hk⟩ := by
  have := l.isLt
  rw [Spec.word_inj (by omega) (by omega), Fin.ext_iff]

/-- Three values put in the first three lanes one by one. -/
theorem three_lanes (l : Fin 128) (a b c : EReal) :
    (if l = ⟨0, by norm_num⟩ then a else 0) + (if l = ⟨1, by norm_num⟩ then b else 0) + (if l = ⟨2, by norm_num⟩ then c else 0)
      = if l = 0 then a else if l = 1 then b else if l = 2 then c else 0 := by
  have e0 : (⟨0, by norm_num⟩ : Fin 128) = 0 := rfl
  have e1 : (⟨1, by norm_num⟩ : Fin 128) = 1 := rfl
  have e2 : (⟨2, by norm_num⟩ : Fin 128) = 2 := rfl
  rw [e0, e1, e2]
  by_cases c0 : l = 0
  · subst c0; simp
  · by_cases c1 : l = 1
    · subst c1; simp
    · by_cases c2 : l = 2
      · subst c2; simp
      · simp [c0, c1, c2]

end Cert.Block

end
-- ==== Proof.KernelLanes.lean ====
module

public import proofs.«01_k».proof.Proof.KernelLoss

/-!
# One block of the kernel: the row of sums

The three sums the body stores, lane by lane.
-/

@[expose] public section

namespace Cert.Block

open Idealize.ShloMosaic Idealize.ShloMosaic.Pointwise
open Cert.KernelIdeal Cert.KernelIdeal.Gen

set_option maxRecDepth 16384

variable (x0 : Vec Ideal S1x4x8732 .f32) (x1 : Vec Ideal S1x8732x81 .f32) (x2 : Vec Ideal S1x32x4 .f32)
  (x3 : Vec Ideal S1x32x1 .i32) (x4 : Vec Ideal S4x8732 .f32)

local notation "𝓘" => img x0 x1 x2 x3 x4
local notation "𝓺" => Spec.iou (img x0 x1 x2 x3 x4)

/-- A value chosen by a lane's number. -/
theorem lane_select (l : Fin 128) (k : ℕ) (hk : k < 128) (a b : EReal) :
    Scalar.select (IntOp.cmpi .eq (BitVec.ofNat 32 l.val) (BitVec.ofNat 32 k)) a b = if l = ⟨k, hk⟩ then a else b := by
  rw [Spec.select_eq_word]
  exact if_congr (lane_word l k hk) rfl rfl

/-- The row of sums, from the classes and the cross entropies. -/
theorem row_at (C : IVec S1x8732 32) (n L : EReal) (T : IVec S8732x1 32) (S : FVec Ideal S8732x81 .f32) (E : FVec Ideal S8732x1 .f32)
    (l : Fin 128) :
    k0_pay40 (F := Ideal) C n L T S E (ix3 0 0 l)
      = if l = 0 then L else if l = 1 then n else if l = 2 then
          ∑ p : Fin 8732, (if C (ix2 0 p) = 0#32 then 0 else k0_pay37 T S E (ix2 0 p)) else 0 := by
  unfold k0_pay40 k0_pay38
  generalize k0_pay37 (F := Ideal) T S E = F
  pointwise []
  rw [Fin.sum_univ_one]
  simp only [Spec.select_ne_word]
  generalize (∑ p : Fin 8732, (if C (ix2 0 p) = 0#32 then (0 : EReal) else F (ix2 0 p))) = P
  refine Eq.trans ?_ (three_lanes l L n P)
  exact congrArg₂ (· + ·) (congrArg₂ (· + ·) (lane_select l 0 _ L 0) (lane_select l 1 _ n 0)) (lane_select l 2 _ P 0)

/-- What the body stores for the sums. -/
theorem lanes_at (n L : EReal) (l : Fin 128) :
    k0_pay40 (k0_pay52 x0 x1 x2 x3 x4) n L
      (k0_pay53 x0 x1 x2 x3 x4) (k0_pay54 x0 x1 x2 x3 x4) (k0_pay55 x0 x1 x2 x3 x4)
      (ix3 0 0 l) = if l = 0 then L else if l = 1 then n else if l = 2 then Spec.posSum 𝓘 else 0 := by
  rw [row_at]
  have e : (∑ p : Fin 8732, (if k0_pay52 x0 x1 x2 x3 x4 (ix2 0 p) = 0#32 then 0
      else k0_pay37 (k0_pay53 x0 x1 x2 x3 x4) (k0_pay54 x0 x1 x2 x3 x4) (k0_pay55 x0 x1 x2 x3 x4) (ix2 0 p))) = Spec.posSum 𝓘 := by
    unfold Spec.posSum
    refine Finset.sum_congr rfl fun p _ => ?_
    rw [cls_at, conf_at]
  rw [e]

end Cert.Block

end
-- ==== Proof.KernelArrays.lean ====
module

public import proofs.«01_k».proof.Proof.KernelLanes
public import proofs.«01_k».proof.Proof.Gen.KernelIdeal.Frame
public import Idealize.ShloMosaic.Lib.Pipeline.ValueKit.Point

/-!
# The kernel's arrays

Grid point `t` reads image `t` and writes row `t` of both results, so each result is, row by row, what `Spec` says of
the image.
-/

@[expose] public section

namespace Cert.Block

open Idealize.ShloMosaic Idealize.ShloMosaic.TcCoe Idealize.SL.Sem Idealize.ShloMosaic.Pointwise
open Cert.KernelIdeal Cert.KernelIdeal.Gen

set_option maxRecDepth 16384

variable (m : (ℓ : Loc nD τ sig) → Buf (Elt Ideal) ℓ)  (ρ : Dev nD → PrngReg)

theorem index0 (t : Fin cfg0.N) : win0_0.index t = ![(grid0.coords t 0).val, 0, 0] :=
  (by decide +kernel : ∀ t : Fin grid0.N, win0_0.index t = ![(grid0.coords t 0).val, 0, 0]) t
theorem index1 (t : Fin cfg0.N) : win0_1.index t = ![(grid0.coords t 0).val, 0, 0] :=
  (by decide +kernel : ∀ t : Fin grid0.N, win0_1.index t = ![(grid0.coords t 0).val, 0, 0]) t
theorem index2 (t : Fin cfg0.N) : win0_2.index t = ![(grid0.coords t 0).val, 0, 0] :=
  (by decide +kernel : ∀ t : Fin grid0.N, win0_2.index t = ![(grid0.coords t 0).val, 0, 0]) t
theorem index3 (t : Fin cfg0.N) : win0_3.index t = ![(grid0.coords t 0).val, 0, 0] :=
  (by decide +kernel : ∀ t : Fin grid0.N, win0_3.index t = ![(grid0.coords t 0).val, 0, 0]) t
theorem index4 (t : Fin cfg0.N) : win0_4.index t = ![0, 0] :=
  (by decide +kernel : ∀ t : Fin grid0.N, win0_4.index t = ![0, 0]) t
theorem index5 (t : Fin cfg0.N) : win0_5.index t = ![(grid0.coords t 0).val, 0, 0] :=
  (by decide +kernel : ∀ t : Fin grid0.N, win0_5.index t = ![(grid0.coords t 0).val, 0, 0]) t
theorem index6 (t : Fin cfg0.N) : win0_6.index t = ![(grid0.coords t 0).val, 0, 0] :=
  (by decide +kernel : ∀ t : Fin grid0.N, win0_6.index t = ![(grid0.coords t 0).val, 0, 0]) t

/-- The image grid point `t` works on. -/
def row (t : Fin cfg0.N) : Fin 32 := grid0.coords t 0

/-- The classes of the objects: the labels looked up in the table of classes, a negative label counted from its end. -/
noncomputable def classes (a : IVec S32x32 32) : IVec S32x32 32 :=
  Host.gather gather_S91_S32x32x1_S32x32_n_0_n_n_0_2_1 (fun i => lit0 (S91.rowMajor i))
    (broadcastInDim S32x32x1 ![0, 1] bcast_S32x32_S32x32x1_0_1
      (select (cmpi .slt a (broadcastInDim S32x32 ![] bcast_S_S32x32 (constantI S_ 32 0#32)))
        (addi a (broadcastInDim S32x32 ![] bcast_S_S32x32 (constantI S_ 32 91#32))) a))

/-- Image `b` of the arguments device `c` holds. -/
@[simps] noncomputable def image (c : Dev nD) (b : Fin 32) : Spec.Image where
  box o k := m ((c : Thread nD τ).loc main_arg2) (ix3 b o k)
  lab o := classes (m ((c : Thread nD τ).loc main_arg3)) (ix2 b o)
  pr p k := m ((c : Thread nD τ).loc main_arg4) (ix2 p k)
  loc p k := m ((c : Thread nD τ).loc main_arg0) (ix3 b p k)
  sc p k := m ((c : Thread nD τ).loc main_arg1) (ix3 b p k)

/-- The transposed offsets the host hands to the kernel. -/
theorem V_offsets (c : Dev nD) (b : Fin 32) (k : Fin 4) (p : Fin 8732) :
    (V1 m ρ c main_v8 : Vec Ideal S32x4x8732 .f32) (ix3 b k p) = m ((c : Thread nD τ).loc main_arg0) (ix3 b p k) := by
  show (StableHlo.after hostOps0 (StableHlo.launchContents m c) (Proc.devRef .tc main_v8) : Vec Ideal S32x4x8732 .f32) (ix3 b k p) = _
  entry_read
  pointwise

/-- The transposed priors the host hands to the kernel. -/
theorem V_priors (c : Dev nD) (k : Fin 4) (p : Fin 8732) :
    (V1 m ρ c main_v9 : Vec Ideal S4x8732 .f32) (ix2 k p) = m ((c : Thread nD τ).loc main_arg4) (ix2 p k) := by
  show (StableHlo.after hostOps0 (StableHlo.launchContents m c) (Proc.devRef .tc main_v9) : Vec Ideal S4x8732 .f32) (ix2 k p) = _
  entry_read
  pointwise

theorem read0 (c : Dev nD) (t : Fin cfg0.N) (k : Fin 4) (p : Fin 8732) :
    (iblk0 (V1 m ρ) c 0 t : Vec Ideal S1x4x8732 .f32) (ix3 0 k p) = m ((c : Thread nD τ).loc main_arg0) (ix3 (grid0.coords t 0) p k) := by
  have e : (win0_0.blk t).view.emb (ix3 0 k p) = (ix3 (grid0.coords t 0) k p : S32x4x8732.Idx) := by blk_ext [index0]
  blk_simp [iblk0]
  rw [e]
  exact V_offsets m ρ c _ _ _

theorem read1 (c : Dev nD) (t : Fin cfg0.N) (k : Fin 81) (p : Fin 8732) :
    (iblk0 (V1 m ρ) c 1 t : Vec Ideal S1x8732x81 .f32) (ix3 0 p k) = m ((c : Thread nD τ).loc main_arg1) (ix3 (grid0.coords t 0) p k) := by
  blk_ext! [iblk0, index1]

theorem read2 (c : Dev nD) (t : Fin cfg0.N) (o : Fin 32) (k : Fin 4) :
    (iblk0 (V1 m ρ) c 2 t : Vec Ideal S1x32x4 .f32) (ix3 0 o k) = m ((c : Thread nD τ).loc main_arg2) (ix3 (grid0.coords t 0) o k) := by
  blk_ext! [iblk0, index2]

theorem V_classes (c : Dev nD) : V1 m ρ c main_v7 = shapeCast S32x32x1 (classes (m ((c : Thread nD τ).loc main_arg3))) shapeCasts_S32x32_S32x32x1 := by
  show StableHlo.after hostOps0 (StableHlo.launchContents m c) (Proc.devRef .tc main_v7) = _
  entry_read
  rfl

theorem read3 (c : Dev nD) (t : Fin cfg0.N) (o : Fin 32) :
    (iblk0 (V1 m ρ) c 3 t : Vec Ideal S1x32x1 .i32) (ix3 0 o 0) = classes (m ((c : Thread nD τ).loc main_arg3)) (ix2 (grid0.coords t 0) o) := by
  have h := V_classes m ρ c
  generalize classes (m ((c : Thread nD τ).loc main_arg3)) = L at h ⊢
  have e : (win0_3.blk t).view.emb (ix3 0 o 0) = (ix3 (grid0.coords t 0) o 0 : S32x32x1.Idx) := by blk_ext [index3]
  have hL : ∀ b : Fin 32, shapeCast S32x32x1 L shapeCasts_S32x32_S32x32x1 (ix3 b o 0) = L (ix2 b o) := fun b => by pointwise
  refine Eq.trans ?_ (hL _)
  blk_simp [iblk0]
  rw [e, h]

theorem read4 (c : Dev nD) (t : Fin cfg0.N) (k : Fin 4) (p : Fin 8732) :
    (iblk0 (V1 m ρ) c 4 t : Vec Ideal S4x8732 .f32) (ix2 k p) = m ((c : Thread nD τ).loc main_arg4) (ix2 p k) := by
  have e : (win0_4.blk t).view.emb (ix2 k p) = (ix2 k p : S4x8732.Idx) := by blk_ext [index4]
  blk_simp [iblk0]
  rw [e]
  exact V_priors m ρ c _ _

/-- Blocks that hold an image, element by element. -/
theorem img_of (I : Spec.Image) (x0 : Vec Ideal S1x4x8732 .f32) (x1 : Vec Ideal S1x8732x81 .f32) (x2 : Vec Ideal S1x32x4 .f32)
    (x3 : Vec Ideal S1x32x1 .i32) (x4 : Vec Ideal S4x8732 .f32) (h0 : ∀ k p, x0 (ix3 0 k p) = I.loc p k)
    (h1 : ∀ k p, x1 (ix3 0 p k) = I.sc p k) (h2 : ∀ o k, x2 (ix3 0 o k) = I.box o k) (h3 : ∀ o, x3 (ix3 0 o 0) = I.lab o)
    (h4 : ∀ k p, x4 (ix2 k p) = I.pr p k) : img x0 x1 x2 x3 x4 = I :=
  Spec.Image.ext (funext fun o => funext fun k => h2 o k) (funext fun o => h3 o)
    (funext fun p => funext fun k => h4 k p) (funext fun p => funext fun k => h0 k p)
    (funext fun p => funext fun k => h1 k p)

/-- The blocks of grid point `t` hold image `t`. -/
theorem img_eq (c : Dev nD) (t : Fin cfg0.N) :
    img (iblk0 (V1 m ρ) c 0 t) (iblk0 (V1 m ρ) c 1 t) (iblk0 (V1 m ρ) c 2 t) (iblk0 (V1 m ρ) c 3 t) (iblk0 (V1 m ρ) c 4 t) = image m c (row t) := by
  apply img_of
  · intro k p; exact (read0 m ρ c t k p).trans (image_loc m c (row t) p k).symm
  · intro k p; exact (read1 m ρ c t k p).trans (image_sc m c (row t) p k).symm
  · intro o k; exact (read2 m ρ c t o k).trans (image_box m c (row t) o k).symm
  · intro o; exact (read3 m ρ c t o).trans (image_lab m c (row t) o).symm
  · intro k p; exact (read4 m ρ c t k p).trans (image_pr m c (row t) p k).symm

/-- What one grid point leaves of the negatives. -/
theorem out6_at (x0 : Vec Ideal S1x4x8732 .f32) (x1 : Vec Ideal S1x8732x81 .f32) (x2 : Vec Ideal S1x32x4 .f32)
    (x3 : Vec Ideal S1x32x1 .i32) (x4 : Vec Ideal S4x8732 .f32) (y : S1x1x8732.Idx) :
    out0_6 x0 x1 x2 x3 x4 y = Spec.neg (img x0 x1 x2 x3 x4) (y 2) := by
  obtain ⟨p, rfl⟩ : ∃ p, y = ix3 0 0 p := ⟨y 2, by blk_ext⟩
  have e : (ix3 0 0 p : S1x1x8732.Idx) = r0_8.emb (ix3 0 0 p) := by blk_ext
  show out0_6 x0 x1 x2 x3 x4 (ix3 0 0 p) = Spec.neg (img x0 x1 x2 x3 x4) p
  unfold out0_6
  rw [e]
  exact (View.canon_cons_emb r0_8 _ _ _).trans (neg_at x0 x1 x2 x3 x4 p)

/-- What one grid point leaves of the sums. -/
theorem out5_at (x0 : Vec Ideal S1x4x8732 .f32) (x1 : Vec Ideal S1x8732x81 .f32) (x2 : Vec Ideal S1x32x4 .f32)
    (x3 : Vec Ideal S1x32x1 .i32) (x4 : Vec Ideal S4x8732 .f32) (y : S1x1x128.Idx) :
    out0_5 x0 x1 x2 x3 x4 y = Spec.lanes (img x0 x1 x2 x3 x4) (y 2) := by
  obtain ⟨l, rfl⟩ : ∃ l, y = ix3 0 0 l := ⟨y 2, by blk_ext⟩
  have e : (ix3 0 0 l : S1x1x128.Idx) = r0_9.emb (ix3 0 0 l) := by blk_ext
  show out0_5 x0 x1 x2 x3 x4 (ix3 0 0 l) = Spec.lanes (img x0 x1 x2 x3 x4) l
  unfold out0_5
  rw [e, nPos_eq, locSum_eq]
  exact (View.canon_cons_emb r0_9 _ _ _).trans (lanes_at x0 x1 x2 x3 x4 _ _ l)

/-- The kernel's second result: the cross entropies of the negatives. -/
theorem arr6 (c : Dev nD) :
    (dat0 (V1 m ρ) c).arrAt 6 cfg0.N = fun y => Spec.neg (image m c (y 0)) (y 2) := by
  refine (dat0 (V1 m ρ) c).arrAt_eq_of_covers 6 _ (by decide +kernel) fun t hf y => ?_
  blk_simp
  rw [after0_6]
  have e0 : (win0_6.blk t).view.emb y 0 = row t := by
    apply Fin.ext; unfold row; blk_simp [index6]
  have e2 : (win0_6.blk t).view.emb y 2 = y 2 := by
    apply Fin.ext; blk_simp [index6]
  rw [e0, e2, ← img_eq]
  exact out6_at _ _ _ _ _ y

/-- The kernel's first result: the sums. -/
theorem arr5 (c : Dev nD) :
    (dat0 (V1 m ρ) c).arrAt 5 cfg0.N = fun y => Spec.lanes (image m c (y 0)) (y 2) := by
  refine (dat0 (V1 m ρ) c).arrAt_eq_of_covers 5 _ (by decide +kernel) fun t hf y => ?_
  blk_simp
  rw [after0_5]
  have e0 : (win0_5.blk t).view.emb y 0 = row t := by
    apply Fin.ext; unfold row; blk_simp [index5]
  have e2 : (win0_5.blk t).view.emb y 2 = y 2 := by
    apply Fin.ext; blk_simp [index5]
  rw [e0, e2, ← img_eq]
  exact out5_at _ _ _ _ _ y

end Cert.Block

end
-- ==== Proof.Mining.lean ====
module

public import Idealize.ShloMosaic.PureOps.Ideal.Laws

/-!
# Sum of the greatest losses by bisection

The sum of the `k` greatest of some nonnegative numbers, without sorting them: bisect over the words of the nonnegative
floats for the greatest float `t` that at least `k` of the numbers reach, add up the numbers above `t`, and count `t` for
the remaining ones.  The result is exact when the `k`-th greatest number and the next one are further apart than two
neighbouring floats.
-/

@[expose] public section

namespace Cert.Mine

open Idealize.ShloMosaic

/-! ## Nonnegative floats -/

/-- The value of the float with word `w`, sign bit clear. -/
noncomputable def val (w : ℕ) : ℝ :=
  if w / 2 ^ 23 = 0 then (w % 2 ^ 23 : ℕ) * (2 : ℝ) ^ (-149 : ℤ)
  else (2 ^ 23 + w % 2 ^ 23 : ℕ) * (2 : ℝ) ^ ((w / 2 ^ 23 : ℕ) - 150 : ℤ)

/-- The word of the greatest finite float. -/
abbrev last : ℕ := 2139095039

theorem ofBits_val {w : ℕ} (hw : w ≤ last) : Ideal.ofBits .f32 (BitVec.ofNat 32 w) = (val w : EReal) := by
  have hneg : ((BitVec.ofNat 32 w).extractLsb' (8 + 23) 1 == 1#1) = false := by
    rw [beq_eq_false_iff_ne]
    intro h
    have := congrArg BitVec.toNat h
    simp only [BitVec.extractLsb'_toNat, BitVec.toNat_ofNat, Nat.shiftRight_eq_div_pow] at this
    unfold last at hw
    omega
  have hex : ((BitVec.ofNat 32 w).extractLsb' 23 8).toNat = w / 2 ^ 23 := by
    simp only [BitVec.extractLsb'_toNat, BitVec.toNat_ofNat, Nat.shiftRight_eq_div_pow]
    unfold last at hw
    omega
  have hfr : ((BitVec.ofNat 32 w).extractLsb' 0 23).toNat = w % 2 ^ 23 := by
    simp only [BitVec.extractLsb'_toNat, BitVec.toNat_ofNat, Nat.shiftRight_eq_div_pow]
    omega
  show Ideal.ieee 8 23 (BitVec.ofNat 32 w) = _
  unfold Ideal.ieee
  simp only [hneg, hex, hfr]
  have h255 : ¬ w / 2 ^ 23 = 2 ^ 8 - 1 := by unfold last at hw; omega
  rw [if_neg h255]
  unfold val
  split
  · norm_num
  · have e : ((w / 2 ^ 23 : ℕ) : ℤ) - (2 ^ (8 - 1) - 1) - (23 : ℕ) = ((w / 2 ^ 23 : ℕ) : ℤ) - 150 := by norm_num; ring
    rw [e]
    simp

/-- The distance from a float to the next. -/
noncomputable def gap (w : ℕ) : ℝ :=
  if w / 2 ^ 23 = 0 then (2 : ℝ) ^ (-149 : ℤ) else (2 : ℝ) ^ ((w / 2 ^ 23 : ℕ) - 150 : ℤ)

theorem gap_pos (w : ℕ) : 0 < gap w := by unfold gap; split <;> positivity

theorem val_nonneg (w : ℕ) : 0 ≤ val w := by unfold val; split <;> positivity

theorem val_zero : val 0 = 0 := by simp [val]

theorem val_succ (w : ℕ) : val (w + 1) = val w + gap w := by
  unfold val gap
  have hm : w % 2 ^ 23 < 2 ^ 23 := Nat.mod_lt _ (by norm_num)
  by_cases hc : w % 2 ^ 23 + 1 < 2 ^ 23
  · have e1 : (w + 1) / 2 ^ 23 = w / 2 ^ 23 := by omega
    have e2 : (w + 1) % 2 ^ 23 = w % 2 ^ 23 + 1 := by omega
    rw [e1, e2]
    split <;> (push_cast; ring)
  · have e1 : (w + 1) / 2 ^ 23 = w / 2 ^ 23 + 1 := by omega
    have e2 : (w + 1) % 2 ^ 23 = 0 := by omega
    have e3 : w % 2 ^ 23 = 2 ^ 23 - 1 := by omega
    rw [e1, e2, e3, if_neg (Nat.succ_ne_zero _)]
    split
    · rename_i h
      rw [h]
      norm_num
    · have e4 : (2 : ℝ) ^ (((w / 2 ^ 23 + 1 : ℕ) : ℤ) - 150) = 2 * (2 : ℝ) ^ (((w / 2 ^ 23 : ℕ) : ℤ) - 150) := by
        rw [show (((w / 2 ^ 23 + 1 : ℕ) : ℤ) - 150) = (((w / 2 ^ 23 : ℕ) : ℤ) - 150) + 1 by push_cast; ring,
          zpow_add_one₀ (by norm_num)]
        ring
      rw [e4]
      norm_num
      ring

theorem gap_le (w : ℕ) : gap w ≤ val w * 2 ^ (-23 : ℤ) + 2 ^ (-149 : ℤ) := by
  unfold gap val
  split
  · have : (0 : ℝ) ≤ (w % 2 ^ 23 : ℕ) * (2 : ℝ) ^ (-149 : ℤ) * 2 ^ (-23 : ℤ) := by positivity
    linarith
  · set z := (2 : ℝ) ^ (((w / 2 ^ 23 : ℕ) : ℤ) - 150) with hz
    have hz0 : 0 < z := by positivity
    have h1 : (0 : ℝ) ≤ 2 ^ (-149 : ℤ) := by positivity
    have h2 : (2 ^ 23 : ℝ) ≤ ((2 ^ 23 + w % 2 ^ 23 : ℕ) : ℝ) := by push_cast; linarith [Nat.cast_nonneg (α := ℝ) (w % 2 ^ 23)]
    have h3 : (2 ^ 23 : ℝ) * z * 2 ^ (-23 : ℤ) = z := by norm_num; ring
    have h4 : (2 ^ 23 : ℝ) * z * 2 ^ (-23 : ℤ) ≤ ((2 ^ 23 + w % 2 ^ 23 : ℕ) : ℝ) * z * 2 ^ (-23 : ℤ) := by gcongr
    linarith

theorem val_mono : Monotone val := monotone_nat_of_le_succ fun w => by
  rw [val_succ]; linarith [gap_pos w]

theorem val_succ_le (w : ℕ) : val (w + 1) ≤ val w * (1 + 2 ^ (-23 : ℤ)) + 2 ^ (-149 : ℤ) := by
  rw [val_succ]
  linarith [gap_le w]

/-! ## Bisection -/

open Classical in
/-- One step: `l` is kept low enough, `h` is the least word known to be too high. -/
noncomputable def step (P : ℕ → Prop) (s : ℕ × ℕ) : ℕ × ℕ :=
  if P (s.1 + (s.2 - s.1) / 2) then (s.1 + (s.2 - s.1) / 2, s.2) else (s.1, s.1 + (s.2 - s.1) / 2)

/-- The states of the bisection. -/
noncomputable def search (P : ℕ → Prop) : ℕ → ℕ × ℕ
  | 0 => (0, last + 1)
  | i + 1 => step P (search P i)

/-- What every state satisfies. -/
structure Good (P : ℕ → Prop) (i : ℕ) (s : ℕ × ℕ) : Prop where
  le : s.1 ≤ s.2
  low : s.1 ≤ last
  high : s.2 ≤ last + 1
  width : s.2 - s.1 ≤ 2 ^ (31 - i)
  reach : s.1 = 0 ∨ P s.1
  miss : ∀ w, s.2 ≤ w → w ≤ last → ¬ P w

theorem good (P : ℕ → Prop) (hP : ∀ v w, v ≤ w → P w → P v) : ∀ i ≤ 31, Good P i (search P i) := by
  intro i
  induction i with
  | zero =>
    intro _
    refine ⟨Nat.zero_le _, Nat.zero_le _, le_rfl, ?_, .inl rfl, fun w h1 h2 => ?_⟩
    · show last + 1 - 0 ≤ 2 ^ (31 - 0)
      norm_num
    · have : last + 1 ≤ w := h1
      omega
  | succ i ih =>
    intro hi
    obtain ⟨a, b, c, d, r, f⟩ := ih (by omega)
    have hp : 2 ^ (31 - i) = 2 * 2 ^ (31 - (i + 1)) := by
      rw [show 31 - i = (31 - (i + 1)) + 1 by omega, pow_succ]; ring
    show Good P (i + 1) (step P (search P i))
    generalize search P i = s at *
    obtain ⟨l, h⟩ := s
    simp only at a b c d r f
    unfold step
    simp only
    rw [hp] at d
    have e (P : ℕ → Prop) (s : ℕ × ℕ) (q : ℕ) (hq : q = 2 ^ (31 - (i + 1))) (a : s.1 ≤ s.2) (b : s.1 ≤ last) (c : s.2 ≤ last + 1) (w : s.2 - s.1 ≤ q) (e : s.1 = 0 ∨ P s.1) (f : ∀ w, s.2 ≤ w → w ≤ last → ¬ P w) : Good P (i + 1) s := ⟨a, b, c, hq ▸ w, e, f⟩
    generalize hq : 2 ^ (31 - (i + 1)) = q at d
    split
    · rename_i hm
      exact e _ _ q hq.symm (by simp only; omega) (by simp only; omega) c (by simp only; omega) (.inr hm) f
    · rename_i hm
      exact e _ _ q hq.symm (by simp only; omega) b (by simp only; omega) (by simp only; omega) r
        (fun w h1 h2 hw => hm (hP _ w h1 hw))

/-- The last word of the bisection. -/
theorem search_spec (P : ℕ → Prop) (hP : ∀ v w, v ≤ w → P w → P v) :
    (search P 31).1 ≤ last ∧ ((search P 31).1 = 0 ∨ P (search P 31).1) ∧ ∀ w, (search P 31).1 < w → w ≤ last → ¬ P w := by
  obtain ⟨a, b, c, d, e, f⟩ := good P hP 31 le_rfl
  refine ⟨b, e, fun w h1 h2 => f w ?_ h2⟩
  have : 2 ^ (31 - 31) = 1 := rfl
  omega

/-! ## The sum -/

variable {n : ℕ} (a : Fin n → ℝ)

open Classical in
/-- How many of the numbers reach `t`. -/
noncomputable def cnt (t : ℝ) : ℕ := (Finset.univ.filter fun p => t ≤ a p).card

theorem cnt_le (t : ℝ) : cnt a t ≤ n := by
  classical
  exact (Finset.card_le_univ _).trans (Fintype.card_fin n).le

theorem cnt_anti {t u : ℝ} (h : t ≤ u) : cnt a u ≤ cnt a t := by
  classical
  exact Finset.card_le_card fun p hp => by
    simp only [Finset.mem_filter, Finset.mem_univ, true_and] at hp ⊢
    exact h.trans hp

open Classical in
theorem cnt_perm (σ : Equiv.Perm (Fin n)) (t : ℝ) : cnt a t = (Finset.univ.filter fun r => t ≤ a (σ r)).card := by
  unfold cnt
  refine (Finset.card_bij (fun r _ => σ r) ?_ ?_ ?_).symm
  · intro r hr; simpa using hr
  · intro r _ r' _ h; exact σ.injective h
  · intro p hp; exact ⟨σ.symm p, by simpa using hp, by simp⟩

open Classical in
/-- A threshold between the `k` greatest numbers and the others gives their sum. -/
theorem sum_split (σ : Equiv.Perm (Fin n)) (k : ℕ) (t : ℝ) (hk : k ≤ n ∨ t = 0)
    (hup : ∀ r : Fin n, r.val < k → t ≤ a (σ r)) (hdown : ∀ r : Fin n, k ≤ r.val → a (σ r) ≤ t) :
    (∑ p, if t < a p then a p else 0) + ((k : ℝ) - ∑ p, if t < a p then (1 : ℝ) else 0) * t
      = ∑ r : Fin n, if r.val < k then a (σ r) else 0 := by
  have e1 : (∑ p, if t < a p then a p else 0) - (∑ p, if t < a p then (1 : ℝ) else 0) * t
      = ∑ r : Fin n, if t < a (σ r) then a (σ r) - t else 0 := by
    rw [Finset.sum_mul, ← Finset.sum_sub_distrib, ← Equiv.sum_comp σ]
    exact Finset.sum_congr rfl fun r _ => by split <;> ring
  have e2 : (∑ r : Fin n, if t < a (σ r) then a (σ r) - t else 0) = ∑ r : Fin n, ((if r.val < k then a (σ r) else 0) - (if r.val < k then 1 else 0) * t) := by
    refine Finset.sum_congr rfl fun r _ => ?_
    by_cases hr : r.val < k
    · have := hup r hr
      rw [if_pos hr, if_pos hr]
      split
      · ring
      · have : a (σ r) = t := le_antisymm (not_lt.1 ‹_›) this
        rw [this]; ring
    · rw [if_neg hr, if_neg hr, if_neg (not_lt.2 (hdown r (not_lt.1 hr)))]
      ring
  have e3 : (∑ r : Fin n, if r.val < k then (1 : ℝ) else 0) * t = k * t := by
    rcases hk with hk | hk
    · congr 1
      rw [Finset.sum_boole]
      congr 1
      have : (Finset.univ.filter fun r : Fin n => r.val < k) = (Finset.univ : Finset (Fin k)).map (Fin.castLEEmb hk) := by
        ext r
        simp only [Finset.mem_filter, Finset.mem_univ, true_and, Finset.mem_map]
        exact ⟨fun h => ⟨⟨r.val, h⟩, rfl⟩, by rintro ⟨q, rfl⟩; exact q.isLt⟩
      rw [this, Finset.card_map, Finset.card_univ, Fintype.card_fin]
    · rw [hk]; ring
  rw [Finset.sum_sub_distrib, ← Finset.sum_mul, e3] at e2
  linarith

open Classical in
/-- The sum found by bisection is the sum of the `k` greatest numbers. -/
theorem mined (ha : ∀ p, 0 ≤ a p) (hmax : ∀ p, a p ≤ val last) (σ : Equiv.Perm (Fin n))
    (hσ : ∀ r s : Fin n, r ≤ s → a (σ s) ≤ a (σ r)) (k : ℕ)
    (apart : ∀ (r : ℕ) (h : r + 1 < n), k = r + 1 → a (σ ⟨r + 1, h⟩) ≤ 0
      ∨ a (σ ⟨r + 1, h⟩) * (1 + 2 ^ (-20 : ℤ)) + 2 ^ (-100 : ℤ) ≤ a (σ ⟨r, by omega⟩))
    (l : ℕ) (hl : l ≤ last) (h1 : l = 0 ∨ k ≤ cnt a (val l)) (h2 : ∀ w, l < w → w ≤ last → ¬ k ≤ cnt a (val w)) :
    (∑ p, if val l < a p then a p else 0) + ((k : ℝ) - ∑ p, if val l < a p then (1 : ℝ) else 0) * val l
      = ∑ r : Fin n, if r.val < k then a (σ r) else 0 := by
  apply sum_split
  · rcases h1 with rfl | h1
    · exact .inr val_zero
    · refine .inl (h1.trans ?_)
      exact (Finset.card_le_univ _).trans (by simp)
  · intro r hr
    rcases h1 with rfl | h1
    · rw [val_zero]; exact ha _
    · by_contra hlt
      rw [not_le] at hlt
      rw [cnt_perm a σ] at h1
      have : (Finset.univ.filter fun s => val l ≤ a (σ s)) ⊆ Finset.univ.filter fun s : Fin n => s < r := by
        intro s hs
        simp only [Finset.mem_filter, Finset.mem_univ, true_and] at hs ⊢
        by_contra hsr
        exact absurd (hs.trans (hσ r s (not_lt.1 hsr))) (not_le.2 hlt)
      have hc := Finset.card_le_card this
      have hlow : (Finset.univ.filter fun s : Fin n => s < r).card = r.val := by
        rw [Finset.filter_gt_eq_Iio]
        simp
      omega
  · intro r hr
    rcases Nat.eq_zero_or_pos k with rfl | hk
    · have : l = last := by
        by_contra hne
        exact h2 last (by omega) le_rfl (Nat.zero_le _)
      rw [this]
      exact hmax _
    · obtain ⟨j, rfl⟩ : ∃ j, k = j + 1 := ⟨k - 1, by omega⟩
      have hj : j + 1 < n := by have := r.isLt; omega
      refine (hσ ⟨j + 1, hj⟩ r hr).trans ?_
      by_contra hlt
      rw [not_le] at hlt
      have hllt : l < last := by
        rcases Nat.lt_or_ge l last with h | h
        · exact h
        · exact absurd (hmax (σ ⟨j + 1, hj⟩)) (not_le.2 ((val_mono h).trans_lt hlt))
      have hv := val_nonneg l
      have hgap : a (σ ⟨j + 1, hj⟩) * (1 + 2 ^ (-20 : ℤ)) + 2 ^ (-100 : ℤ) ≤ a (σ ⟨j, by omega⟩) := by
        rcases apart j hj rfl with h | h
        · linarith
        · exact h
      have hnext : val (l + 1) ≤ a (σ ⟨j, by omega⟩) := by
        refine (val_succ_le l).trans (le_trans ?_ hgap)
        have e1 : (2 : ℝ) ^ (-23 : ℤ) ≤ 2 ^ (-20 : ℤ) := zpow_le_zpow_right₀ (by norm_num) (by norm_num)
        have e2 : (2 : ℝ) ^ (-149 : ℤ) ≤ 2 ^ (-100 : ℤ) := zpow_le_zpow_right₀ (by norm_num) (by norm_num)
        have e3 : (0 : ℝ) ≤ 2 ^ (-23 : ℤ) := by positivity
        have e4 : val l * (1 + 2 ^ (-23 : ℤ)) ≤ a (σ ⟨j + 1, hj⟩) * (1 + 2 ^ (-20 : ℤ)) :=
          mul_le_mul hlt.le (by linarith) (by linarith) (by linarith)
        linarith
      apply h2 (l + 1) (Nat.lt_succ_self l) hllt
      rw [cnt_perm a σ]
      have hsub : (Finset.univ.filter fun s : Fin n => s ≤ ⟨j, by omega⟩) ⊆ Finset.univ.filter fun s => val (l + 1) ≤ a (σ s) := by
        intro s hs
        simp only [Finset.mem_filter, Finset.mem_univ, true_and] at hs ⊢
        exact hnext.trans (hσ _ _ hs)
      have hc := Finset.card_le_card hsub
      have hlow : (Finset.univ.filter fun s : Fin n => s ≤ ⟨j, by omega⟩).card = j + 1 := by
        rw [Finset.filter_ge_eq_Iic]
        simp
      omega

end Cert.Mine

end
-- ==== Proof.MineKernel.lean ====
module

public import proofs.«01_k».proof.Proof.Gen.KernelIdeal.Skeleton
public import proofs.«01_k».proof.Proof.Mining
public import proofs.«01_k».proof.Proof.Words

/-!
# The second region's words

The region bisects in words, one row per image: a row's words follow the bisection of `Mining` as long as the row of losses
is real, and the sums it makes at the end are those of `Mining`.
-/

@[expose] public section

namespace Cert.Block

open Idealize.ShloMosaic Idealize.ShloMosaic.TcCoe Idealize.SL.Sem Idealize.ShloMosaic.Pointwise
open Cert.KernelIdeal Cert.KernelIdeal.Gen

set_option maxRecDepth 16384

/-! ## Words -/

/-- Half of a nonnegative word, rounded down. -/
theorem half_div {n : ℕ} (hn : n < 2 ^ 31) : IntOp.divsi ArithUnit.vector (BitVec.ofNat 32 n) 2#32 = BitVec.ofNat 32 (n / 2) := by
  unfold IntOp.divsi
  have hm : (BitVec.ofNat 32 n).msb = false := by
    rw [BitVec.msb_eq_false_iff_two_mul_lt, BitVec.toNat_ofNat]
    omega
  rw [if_neg (by simp [IntOp.SDivCorner])]
  rw [BitVec.sdiv_eq, hm]
  have h2 : (2#32 : BitVec 32).msb = false := by decide
  rw [h2]
  apply BitVec.eq_of_toNat_eq
  simp only [BitVec.udiv_eq, BitVec.toNat_udiv, BitVec.toNat_ofNat]
  rw [Nat.mod_eq_of_lt (a := n) (by omega), Nat.mod_eq_of_lt (a := n / 2) (by omega)]

/-- The remainder of a nonnegative word by two. -/
theorem half_rem {n : ℕ} (hn : n < 2 ^ 31) : IntOp.remsi ArithUnit.vector (BitVec.ofNat 32 n) 2#32 = BitVec.ofNat 32 (n % 2) := by
  unfold IntOp.remsi
  have hm : (BitVec.ofNat 32 n).msb = false := by
    rw [BitVec.msb_eq_false_iff_two_mul_lt, BitVec.toNat_ofNat]
    omega
  rw [if_neg (by simp [IntOp.SDivCorner])]
  rw [BitVec.srem_eq, hm]
  have h2 : (2#32 : BitVec 32).msb = false := by decide
  rw [h2]
  apply BitVec.eq_of_toNat_eq
  simp only [BitVec.umod_eq, BitVec.toNat_umod, BitVec.toNat_ofNat]
  rw [Nat.mod_eq_of_lt (a := n) (by omega), Nat.mod_eq_of_lt (a := n % 2) (by omega)]

/-- The word in the middle of `l` and `h`, where the kernel holds the word before `h`. -/
theorem mid_word {l h : ℕ} (hle : l ≤ h) (hh : h ≤ Mine.last + 1) (lo hi : BitVec 32) (hlo : lo = BitVec.ofNat 32 l)
    (hhi : hi = BitVec.ofNat 32 h - 1#32) : IntOp.addi lo
      (Scalar.select
        (IntOp.andi
          (IntOp.cmpi CmpIPredicate.ne
            (IntOp.subi
              (BitVec.setWidth 32
                (IntOp.cmpi CmpIPredicate.sgt (IntOp.addi (IntOp.subi hi lo) 1#32) 0#32))
              (BitVec.setWidth 32
                (IntOp.cmpi CmpIPredicate.slt (IntOp.addi (IntOp.subi hi lo) 1#32) 0#32)))
            (Scalar.subi (Scalar.extui (Scalar.cmpi CmpIPredicate.sgt 2#32 0#32))
              (Scalar.extui (Scalar.cmpi CmpIPredicate.slt 2#32 0#32))))
          (IntOp.cmpi CmpIPredicate.ne
            (IntOp.remsi ArithUnit.vector (IntOp.addi (IntOp.subi hi lo) 1#32) 2#32) 0#32))
        (IntOp.subi (IntOp.divsi ArithUnit.vector (IntOp.addi (IntOp.subi hi lo) 1#32) 2#32)
          1#32)
        (IntOp.divsi ArithUnit.vector (IntOp.addi (IntOp.subi hi lo) 1#32) 2#32))
      = BitVec.ofNat 32 (l + (h - l) / 2) := by
  unfold Mine.last at hh
  have hd : IntOp.addi (IntOp.subi hi lo) 1#32 = BitVec.ofNat 32 (h - l) := by
    subst hlo hhi
    apply BitVec.eq_of_toNat_eq
    simp only [IntOp.addi, IntOp.subi, BitVec.toNat_add, BitVec.toNat_sub, BitVec.toNat_ofNat]
    omega
  rw [hd, half_div (by omega), half_rem (by omega), hlo]
  have hc : Scalar.subi (Scalar.extui (Scalar.cmpi CmpIPredicate.sgt 2#32 0#32))
      (Scalar.extui (Scalar.cmpi CmpIPredicate.slt 2#32 0#32)) = (1#32 : BitVec 32) := by decide
  rw [hc]
  have hsel : ∀ (c : BitVec 1) (x y : BitVec 32), c = 0#1 → Scalar.select c x y = y := by
    rintro _ x y rfl; rfl
  rw [hsel]
  · exact (BitVec.ofNat_add _ _).symm
  · rcases Nat.eq_zero_or_pos (h - l) with h0 | hp
    · rw [h0]; decide
    · have e1 : IntOp.cmpi CmpIPredicate.sgt (BitVec.ofNat 32 (h - l)) 0#32 = 1#1 := by
        have : BitVec.slt 0#32 (BitVec.ofNat 32 (h - l)) = true := by
          rw [BitVec.slt_iff_toInt_lt, Spec.toInt_word (k := h - l) (by omega)]
          exact Int.natCast_pos.2 hp
        simp [IntOp.cmpi, this]
      have e2 : IntOp.cmpi CmpIPredicate.slt (BitVec.ofNat 32 (h - l)) 0#32 = 0#1 := by
        have : BitVec.slt (BitVec.ofNat 32 (h - l)) 0#32 = false := by
          rw [Bool.eq_false_iff]
          intro hc
          rw [BitVec.slt_iff_toInt_lt, Spec.toInt_word (k := h - l) (by omega)] at hc
          exact absurd hc (not_lt.2 (Int.natCast_nonneg _))
        simp [IntOp.cmpi, this]
      rw [e1, e2]
      have e3 : IntOp.cmpi CmpIPredicate.ne (IntOp.subi (BitVec.setWidth 32 1#1) (BitVec.setWidth 32 0#1)) (1#32) = 0#1 := by decide
      rw [e3]
      exact BitVec.zero_and

open Classical in
/-- A count of truths held in a word. -/
theorem count_true {n : ℕ} (P : Fin n → Prop) [∀ i, Decidable (P i)] :
    Finset.fold IntOp.addi 0#32 (fun i => BitVec.setWidth 32 (BitVec.ofBool (decide (P i)))) Finset.univ
      = BitVec.ofNat 32 (Finset.univ.filter P).card := by
  have h : ∀ s : Finset (Fin n), Finset.fold IntOp.addi 0#32 (fun i => BitVec.setWidth 32 (BitVec.ofBool (decide (P i)))) s
      = BitVec.ofNat 32 (s.filter P).card := by
    intro s
    induction s using Finset.induction_on with
    | empty => rfl
    | insert a s has ih =>
      rw [Finset.fold_insert has, ih, Finset.filter_insert]
      by_cases ha : P a
      · rw [if_pos ha, Finset.card_insert_of_notMem fun h => has (Finset.mem_filter.1 h).1, BitVec.ofNat_add, BitVec.add_comm]
        simp [IntOp.addi, ha]
      · rw [if_neg ha]
        simp [IntOp.addi, ha]
  exact h _

/-- How many of a row's losses reach a number, counted in words. -/
theorem count_reach {n : ℕ} (a : Fin n → ℝ) (t : ℝ) (v : Fin n → EReal) (h : ∀ p, v p = (a p : EReal))
    [∀ p, Decidable ((t : EReal) ≤ v p)] :
    Finset.fold IntOp.addi 0#32 (fun i => BitVec.setWidth 32 (BitVec.ofBool (decide ((t : EReal) ≤ v i)))) Finset.univ
      = BitVec.ofNat 32 (Mine.cnt a t) := by
  rw [count_true]
  unfold Mine.cnt
  congr 2
  ext x
  simp only [Finset.mem_filter, Finset.mem_univ, true_and]
  rw [h, EReal.coe_le_coe_iff]

theorem bit_real (P : Prop) [Decidable P] :
    FloatOps.sitofp (F := Ideal) .f32 (BitVec.setWidth 32 (BitVec.ofBool (decide P))) = ((if P then (1 : ℝ) else 0 : ℝ) : EReal) := by
  show ((((BitVec.setWidth 32 (BitVec.ofBool (decide P))).toInt : ℝ)) : EReal) = _
  by_cases h : P <;> simp [h]

/-- A natural number held as a float, back in a word. -/
theorem word_of_nat {n : ℕ} (hn : n < 2 ^ 31) : FloatOps.fptosi (F := Ideal) (φ := .f32) 32 (((n : ℝ) : EReal)) = BitVec.ofNat 32 n := by
  show BitVec.ofInt 32 (Ideal.toIntClamped _ _ (((n : ℝ) : EReal))) = _
  rw [Ideal.toIntClamped_coe, if_pos (Nat.cast_nonneg _), Int.floor_natCast]
  have : max (-((2 ^ (32 - 1) : ℕ) : ℤ)) (min (((2 ^ (32 - 1) : ℕ) : ℤ) - 1) (n : ℤ)) = n := by
    have e : ((2 ^ (32 - 1) : ℕ) : ℤ) = 2147483648 := by norm_num
    rw [e]
    omega
  rw [this]
  exact BitVec.ofInt_natCast _ _

/-! ## One row -/

variable (v0 : Vec Ideal S32x1x8732 .f32) (v2 : Vec Ideal S32x1x128 .f32)

/-- What is asked of row `b`: its losses are `a`, real, and its positives number `n`. -/
structure Row (b : Fin 32) (a : Fin 8732 → ℝ) (n : ℕ) : Prop where
  loss : ∀ p, v0 (ix3 b 0 p) = (a p : EReal)
  num : v2 (ix3 b 0 1) = ((n : ℝ) : EReal)
  le : n ≤ 8732

/-- The question the bisection asks of a word: is it reached by three losses per positive? -/
def Asked (a : Fin 8732 → ℝ) (n : ℕ) (w : ℕ) : Prop := 3 * n ≤ Mine.cnt a (Mine.val w)

theorem asked_anti (a : Fin 8732 → ℝ) (n : ℕ) (v w : ℕ) (h : v ≤ w) (hw : Asked a n w) : Asked a n v :=
  hw.trans (Mine.cnt_anti a (Mine.val_mono h))

variable {v0 v2} {b : Fin 32} {a : Fin 8732 → ℝ} {n : ℕ}

theorem pay5_at (h : Row v0 v2 b a n) : k1_pay5 (F := Ideal) v2 (ix2 b 0) = BitVec.ofNat 32 (3 * n) := by
  have hn := h.num
  have hle := h.le
  pointwise [k1_pay5, k1_pay4, k1_pay3]
  rw [hn, word_of_nat (by omega)]
  exact (BitVec.ofNat_mul 3 n).symm

theorem pay8_at {l u : ℕ} (hle : l ≤ u) (hu : u ≤ Mine.last + 1) (lo hi : IVec S32x1 32) (hlo : lo (ix2 b 0) = BitVec.ofNat 32 l)
    (hhi : hi (ix2 b 0) = BitVec.ofNat 32 u - 1#32) : k1_pay8 lo hi (ix2 b 0) = BitVec.ofNat 32 (l + (u - l) / 2) := by
  pointwise [k1_pay8]
  exact mid_word hle hu _ _ hlo hhi

theorem pay9_eq (lo hi : IVec S32x1 32) (v : Fin 8732 → EReal) (hv : ∀ p, v0 (ix3 b 0 p) = v p) :
    k1_pay9 (F := Ideal) v0 v2 lo hi (ix2 b 0) = IntOp.cmpi .sge
      (Finset.fold IntOp.addi 0#32 (fun i => BitVec.setWidth 32 (BitVec.ofBool (decide
        (Ideal.ofBits .f32 (k1_pay8 lo hi (ix2 b 0)) ≤ v i)))) Finset.univ) (k1_pay5 (F := Ideal) v2 (ix2 b 0)) := by
  unfold k1_pay9
  generalize k1_pay8 lo hi = M
  generalize k1_pay5 (F := Ideal) v2 = K
  pointwise [k1_pay2]
  simp only [hv]

theorem sge_word {x y : ℕ} (hx : x < 2 ^ 31) (hy : y < 2 ^ 31) [Decidable (y ≤ x)] :
    IntOp.cmpi .sge (BitVec.ofNat 32 x) (BitVec.ofNat 32 y) = if y ≤ x then 1#1 else 0#1 := by
  have : BitVec.sle (BitVec.ofNat 32 y) (BitVec.ofNat 32 x) = decide (y ≤ x) := by
    rw [Bool.eq_iff_iff, BitVec.sle_iff_toInt_le, Spec.toInt_word hx, Spec.toInt_word hy, decide_eq_true_iff]
    omega
  show BitVec.ofBool (BitVec.sle (BitVec.ofNat 32 y) (BitVec.ofNat 32 x)) = _
  rw [this]
  by_cases hA : y ≤ x
  · rw [if_pos hA, decide_eq_true hA]; rfl
  · rw [if_neg hA, decide_eq_false hA]; rfl

theorem pay9_at (h : Row v0 v2 b a n) (lo hi : IVec S32x1 32) {w : ℕ} (hw : w ≤ Mine.last)
    (hm : k1_pay8 lo hi (ix2 b 0) = BitVec.ofNat 32 w) [Decidable (Asked a n w)] :
    k1_pay9 (F := Ideal) v0 v2 lo hi (ix2 b 0) = if Asked a n w then 1#1 else 0#1 := by
  have hn := h.le
  have hc := Mine.cnt_le a (Mine.val w)
  have hD : Decidable (3 * n ≤ Mine.cnt a (Mine.val w)) := inferInstanceAs (Decidable (Asked a n w))
  refine (pay9_eq lo hi (fun p => (a p : EReal)) h.loss).trans ?_
  rw [hm, pay5_at h, Mine.ofBits_val hw, count_reach a (Mine.val w) _ fun _ => rfl, sge_word (by omega) (by omega)]
  exact if_congr Iff.rfl rfl rfl

/-- The row's words at state `s` of the bisection. -/
def Holds (b : Fin 32) (s : ℕ × ℕ) (w : IVec S32x1 32 × IVec S32x1 32) : Prop :=
  w.1 (ix2 b 0) = BitVec.ofNat 32 s.1 ∧ w.2 (ix2 b 0) = BitVec.ofNat 32 s.2 - 1#32

theorem holds_start : Holds b (0, Mine.last + 1) (k1_pay6, k1_pay7) := by
  constructor <;> rfl

theorem holds_step (h : Row v0 v2 b a n) {s : ℕ × ℕ} (h1 : s.1 ≤ s.2) (h2 : s.1 ≤ Mine.last) (h3 : s.2 ≤ Mine.last + 1)
    {w : IVec S32x1 32 × IVec S32x1 32} (hw : Holds b s w) :
    Holds b (Mine.step (Asked a n) s) (k1_pay10 v0 v2 w.1 w.2, k1_pay11 v0 v2 w.1 w.2) := by
  classical
  obtain ⟨lo, hi⟩ := w
  obtain ⟨l, u⟩ := s
  obtain ⟨hlo, hhi⟩ := hw
  simp only at h1 h2 h3 hlo hhi
  have hm := pay8_at h1 h3 lo hi hlo hhi
  have hmid : l + (u - l) / 2 ≤ Mine.last := by omega
  have hq := pay9_at h lo hi hmid hm
  have e10 : k1_pay10 (F := Ideal) v0 v2 lo hi (ix2 b 0)
      = Scalar.select (k1_pay9 (F := Ideal) v0 v2 lo hi (ix2 b 0)) (k1_pay8 lo hi (ix2 b 0)) (lo (ix2 b 0)) := rfl
  have e11 : k1_pay11 (F := Ideal) v0 v2 lo hi (ix2 b 0)
      = Scalar.select (k1_pay9 (F := Ideal) v0 v2 lo hi (ix2 b 0)) (hi (ix2 b 0)) (k1_pay8 lo hi (ix2 b 0) - 1#32) := rfl
  unfold Holds Mine.step
  simp only
  rw [e10, e11, hq, hm, hlo, hhi]
  by_cases hA : Asked a n (l + (u - l) / 2)
  · rw [if_pos hA, if_pos hA]
    exact ⟨rfl, rfl⟩
  · rw [if_neg hA, if_neg hA]
    exact ⟨rfl, rfl⟩

/-- Rounds that do not look at their number. -/
theorem foldl_const {α β : Type} (f : α → α) (L : List β) (y : α) : L.foldl (fun s _ => f s) y = f^[L.length] y := by
  induction L generalizing y with
  | nil => rfl
  | cons c L ih => exact ih (f y)

end Cert.Block

end
-- ==== Proof.MineTotal.lean ====
module

public import proofs.«01_k».proof.Proof.MineKernel
public import proofs.«01_k».proof.Proof.KernelRun

/-!
# The second region's result

The loss, from the rows of losses and the sums of every image: the losses of the positives and three times as many of the
greatest losses of the negatives per positive, and the localisation loss per coordinate.
-/

@[expose] public section

namespace Cert.Block

open Idealize.ShloMosaic Idealize.ShloMosaic.TcCoe Idealize.SL.Sem Idealize.ShloMosaic.Pointwise
open Cert.KernelIdeal Cert.KernelIdeal.Gen

set_option maxRecDepth 16384

section

variable {v0 : Vec Ideal S32x1x8732 .f32} {v2 : Vec Ideal S32x1x128 .f32}

/-- A row's words are those of the bisection. -/
theorem words_at {b : Fin 32} {a : Fin 8732 → ℝ} {n : ℕ} (h : Row v0 v2 b a n) :
    (words v0 v2).1 (ix2 b 0) = BitVec.ofNat 32 (Mine.search (Asked a n) 31).1 := by
  have e : words v0 v2 = (fun s : IVec S32x1 32 × IVec S32x1 32 =>
      (k1_pay10 v0 v2 s.1 s.2, k1_pay11 v0 v2 s.1 s.2))^[31] (k1_pay6, k1_pay7) := by
    unfold words
    rw [foldl_const (fun s : IVec S32x1 32 × IVec S32x1 32 => (k1_pay10 v0 v2 s.1 s.2, k1_pay11 v0 v2 s.1 s.2)),
      List.length_finRange]
    rfl
  have key : ∀ i ≤ 31, Holds b (Mine.search (Asked a n) i) ((fun s : IVec S32x1 32 × IVec S32x1 32 =>
      (k1_pay10 v0 v2 s.1 s.2, k1_pay11 v0 v2 s.1 s.2))^[i] (k1_pay6, k1_pay7)) := by
    intro i
    induction i with
    | zero => intro _; exact holds_start
    | succ i ih =>
      intro hi
      have g := Mine.good (Asked a n) (asked_anti a n) i (by omega)
      rw [Function.iterate_succ_apply']
      exact holds_step h g.le g.low g.high (ih (by omega))
  rw [e]
  exact (key 31 le_rfl).1

end

/-- The sum a row makes once its threshold `t` is found. -/
theorem row_sum {n : ℕ} (a : Fin n → ℝ) (k : ℕ) (hk : k < 2 ^ 31) (t : ℝ) (v : Fin n → EReal) (hv : ∀ p, v p = (a p : EReal))
    [∀ p, Decidable ((t : EReal) < v p)] :
    (∑ p, if (t : EReal) < v p then v p else 0) + (FloatOps.sitofp (F := Ideal) .f32 (BitVec.ofNat 32 k)
        - ∑ p, FloatOps.sitofp (F := Ideal) .f32 (BitVec.setWidth 32 (BitVec.ofBool (decide ((t : EReal) < v p))))) * (t : EReal)
      = (((∑ p, if t < a p then a p else 0) + ((k : ℝ) - ∑ p, if t < a p then (1 : ℝ) else 0) * t : ℝ) : EReal) := by
  have e1 : ∀ p, (if (t : EReal) < v p then v p else 0) = ((if t < a p then a p else 0 : ℝ) : EReal) := fun p => by
    have : (t : EReal) < v p ↔ t < a p := by rw [hv, EReal.coe_lt_coe_iff]
    by_cases h : t < a p
    · rw [if_pos (this.2 h), if_pos h, hv]
    · rw [if_neg fun h' => h (this.1 h'), if_neg h, EReal.coe_zero]
  have e2 : ∀ p, FloatOps.sitofp (F := Ideal) .f32 (BitVec.setWidth 32 (BitVec.ofBool (decide ((t : EReal) < v p))))
      = ((if t < a p then (1 : ℝ) else 0 : ℝ) : EReal) := fun p => by
    rw [bit_real]
    have : (t : EReal) < v p ↔ t < a p := by rw [hv, EReal.coe_lt_coe_iff]
    exact congrArg _ (if_congr this rfl rfl)
  have e3 : FloatOps.sitofp (F := Ideal) .f32 (BitVec.ofNat 32 k) = (((k : ℝ)) : EReal) := by
    show (((BitVec.ofNat 32 k).toInt : ℝ) : EReal) = _
    rw [Spec.toInt_word hk]
    norm_cast
  simp only [e1, e2]
  rw [e3, Spec.coe_sum, Spec.coe_sum, ← EReal.coe_sub, ← EReal.coe_mul, ← EReal.coe_add]

section

variable (v0 : Vec Ideal S32x1x8732 .f32) (v2 : Vec Ideal S32x1x128 .f32)

theorem pay12_eq (w : IVec S32x1 32) (a : Fin 32 → Fin 8732 → ℝ) (n : Fin 32 → ℕ) (h : ∀ b, Row v0 v2 b (a b) (n b))
    (l : Fin 32 → ℕ) (hl : ∀ b, l b ≤ Mine.last) (hw : ∀ b, w (ix2 b 0) = BitVec.ofNat 32 (l b)) :
    k1_pay12 (F := Ideal) v0 v2 w = ((∑ b, ((∑ p, if Mine.val (l b) < a b p then a b p else 0)
      + (((3 * n b : ℕ) : ℝ) - ∑ p, if Mine.val (l b) < a b p then (1 : ℝ) else 0) * Mine.val (l b)) : ℝ) : EReal) := by
  have h5 : ∀ b, k1_pay5 (F := Ideal) v2 (ix2 b 0) = BitVec.ofNat 32 (3 * n b) := fun b => pay5_at (h b)
  unfold k1_pay12
  generalize k1_pay5 (F := Ideal) v2 = K at *
  pointwise [k1_pay2]
  rw [← Spec.coe_sum]
  refine Finset.sum_congr rfl fun b _ => ?_
  rw [Fin.sum_univ_one, hw, h5, Mine.ofBits_val (hl b)]
  exact row_sum (a b) (3 * n b) (by have := (h b).le; omega) (Mine.val (l b)) _ (h b).loss

theorem pay13_eq : k1_pay13 (F := Ideal) v2 = ∑ b : Fin 32, v2 (ix3 b 0 0) := by
  pointwise [k1_pay13, k1_pay3]
  exact Finset.sum_congr rfl fun b _ => Fin.sum_univ_one _

theorem pay14_eq : k1_pay14 (F := Ideal) v2 = ∑ b : Fin 32, v2 (ix3 b 0 1) := by
  pointwise [k1_pay14, k1_pay4, k1_pay3]
  exact Finset.sum_congr rfl fun b _ => Fin.sum_univ_one _

theorem pay1_eq (l : Fin 128) (x y z : EReal) : k1_pay1 (F := Ideal) x y z (k1_pay15 v2) (ix2 0 l)
    = if l = 0 then Ideal.div (x + ∑ b : Fin 32, v2 (ix3 b 0 2)) z + Ideal.div y (z * Ideal.ofBits .f32 0x40800000#32) else 0 := by
  pointwise [k1_pay1, k1_pay15, k1_pay3]
  rw [Spec.select_eq_word]
  refine (if_congr ?_ ?_ rfl)
  · rw [Spec.word_inj (by omega) (by omega), Fin.ext_iff]
    rfl
  · congr 3
    exact Finset.sum_congr rfl fun b _ => Fin.sum_univ_one _

/-- The second region's result when every row is real, and sorted by `σ` as the bisection needs. -/
theorem total_at (a : Fin 32 → Fin 8732 → ℝ) (n : Fin 32 → ℕ) (h : ∀ b, Row v0 v2 b (a b) (n b))
    (ha : ∀ b p, 0 ≤ a b p) (hmax : ∀ b p, a b p ≤ Mine.val Mine.last) (σ : Fin 32 → Equiv.Perm (Fin 8732))
    (hσ : ∀ b (r s : Fin 8732), r ≤ s → a b (σ b s) ≤ a b (σ b r))
    (apart : ∀ b (r : ℕ) (h : r + 1 < 8732), 3 * n b = r + 1 → a b (σ b ⟨r + 1, h⟩) ≤ 0
      ∨ a b (σ b ⟨r + 1, h⟩) * (1 + 2 ^ (-20 : ℤ)) + 2 ^ (-100 : ℤ) ≤ a b (σ b ⟨r, by omega⟩)) (l : Fin 128) :
    total v0 v2 (ix2 0 l) = if l = 0 then
        Ideal.div (((∑ b, ∑ r : Fin 8732, if r.val < 3 * n b then a b (σ b r) else 0 : ℝ) : EReal) + ∑ b : Fin 32, v2 (ix3 b 0 2))
          (∑ b : Fin 32, v2 (ix3 b 0 1))
        + Ideal.div (∑ b : Fin 32, v2 (ix3 b 0 0)) ((∑ b : Fin 32, v2 (ix3 b 0 1)) * Ideal.ofBits .f32 0x40800000#32)
      else 0 := by
  have hs : ∀ b, _ := fun b => Mine.search_spec (Asked (a b) (n b)) (asked_anti (a b) (n b))
  unfold total
  rw [pay1_eq, pay13_eq, pay14_eq, pay12_eq v0 v2 _ a n h (fun b => (Mine.search (Asked (a b) (n b)) 31).1) (fun b => (hs b).1)
    fun b => words_at (h b)]
  have e : ∀ b, (∑ p, if Mine.val (Mine.search (Asked (a b) (n b)) 31).1 < a b p then a b p else 0)
      + (((3 * n b : ℕ) : ℝ) - ∑ p, if Mine.val (Mine.search (Asked (a b) (n b)) 31).1 < a b p then (1 : ℝ) else 0)
        * Mine.val (Mine.search (Asked (a b) (n b)) 31).1 = ∑ r : Fin 8732, if r.val < 3 * n b then a b (σ b r) else 0 := fun b =>
    Mine.mined (a b) (ha b) (hmax b) (σ b) (hσ b) (3 * n b) (apart b) _ (hs b).1 (hs b).2.1 (hs b).2.2
  simp only [e]

end

end Cert.Block

end
-- ==== Proof.KernelTotal.lean ====
module

public import proofs.«01_k».proof.Proof.KernelArrays
public import proofs.«01_k».proof.Proof.MineTotal

/-!
# The kernel's result

The second region reads both arrays the first one leaves, whole, and writes the result, whole.
-/

@[expose] public section

namespace Cert.Block

open Idealize.ShloMosaic Idealize.ShloMosaic.TcCoe Idealize.SL.Sem Idealize.ShloMosaic.Pointwise
open Cert.KernelIdeal Cert.KernelIdeal.Gen

set_option maxRecDepth 16384

variable (m : (ℓ : Loc nD τ sig) → Buf (Elt Ideal) ℓ) (ρ : Dev nD → PrngReg)

/-- The losses of the negatives, as the second region finds them. -/
theorem mined0 (c : Dev nD) (t : Fin cfg1.N) :
    (iblk1 (V2 m ρ) c 0 t : Vec Ideal S32x1x8732 .f32) = fun y => Spec.neg (image m c (y 0)) (y 2) := by
  have h : V2 m ρ c main_v10_1 = _ := (hF0 m ρ c 6).symm.trans (arr6 m ρ c)
  have e : ∀ y, (win1_0.blk t).view.emb y = y := fun y => by
    funext a; apply Fin.ext; blk_simp; exact (congrArg (· + _) (Nat.zero_mul _)).trans (Nat.zero_add _)
  funext y
  have := congrFun h y
  refine Eq.trans ?_ this
  blk_simp [iblk1]
  rw [e]

/-- The sums of every image, as the second region finds them. -/
theorem mined1 (c : Dev nD) (t : Fin cfg1.N) :
    (iblk1 (V2 m ρ) c 1 t : Vec Ideal S32x1x128 .f32) = fun y => Spec.lanes (image m c (y 0)) (y 2) := by
  have h : V2 m ρ c main_v10_0 = _ := (hF0 m ρ c 5).symm.trans (arr5 m ρ c)
  have e : ∀ y, (win1_1.blk t).view.emb y = y := fun y => by
    funext a; apply Fin.ext; blk_simp; exact (congrArg (· + _) (Nat.zero_mul _)).trans (Nat.zero_add _)
  funext y
  have := congrFun h y
  refine Eq.trans ?_ this
  blk_simp [iblk1]
  rw [e]

/-- The kernel's result. -/
theorem arr_result (c : Dev nD) : (dat1 (V2 m ρ) c).arrAt 2 cfg1.N
    = total (F := Ideal) (fun y => Spec.neg (image m c (y 0)) (y 2)) (fun y => Spec.lanes (image m c (y 0)) (y 2)) := by
  refine (dat1 (V2 m ρ) c).arrAt_eq_of_covers 2 _ (by decide +kernel) fun t hf y => ?_
  have e : ∀ y, (win1_2.blk t).view.emb y = y := fun y => by
    funext a; apply Fin.ext; blk_simp; exact (congrArg (· + _) (Nat.zero_mul _)).trans (Nat.zero_add _)
  rw [after1_2, outs_eq, mined0, mined1]
  blk_simp
  rw [e]
  rfl

end Cert.Block

end
-- ==== Proof.ReadLine.lean ====
module

public import Idealize.ShloMosaic.Lib.StableHlo.RunRead

@[expose] public section

/-! One buffer of a line of operations in which every buffer is written once: what the line leaves there is the
writing operation's function of what the line leaves in the operands. -/

namespace Cert

open Idealize.ShloMosaic Idealize.ShloMosaic.StableHlo

variable {τ : Topo} {sig : RefSig} {Val : EltTy → Type}
variable {ops : List (HloOp τ sig Val)} {W : List (Ref sig .tc)}

/-- The reference is not written from operation `k` on, so its contents before operation `k` are the final ones. -/
theorem upto_final (hW : ops.map HloOp.writes = W.map fun w => {Proc.devRef (τ := τ) .tc w}) (k : ℕ)
    {r : Ref sig .tc} (hr : r ∉ W.drop k) (V : Valuation τ sig Val) :
    upto ops V k (Proc.devRef .tc r) = after ops V (Proc.devRef .tc r) := by
  have hsplit : after ops V = after (ops.drop k) (upto ops V k) := by
    have happ : ∀ (l₁ l₂ : List (HloOp τ sig Val)) (V : Valuation τ sig Val),
        after (l₁ ++ l₂) V = after l₂ (after l₁ V) := by
      intro l₁ l₂
      induction l₁ with
      | nil => intro V; rfl
      | cons op l ih => intro V; exact ih _
    have h := happ (ops.take k) (ops.drop k) V
    rwa [List.take_append_drop] at h
  rw [hsplit]
  refine (after_unwritten (W.drop k) ?_ hr _).symm
  rw [List.map_drop, hW, List.map_drop]

/-- The final contents of a buffer whose last writer is operation `k`. -/
theorem read_op (hW : ops.map HloOp.writes = W.map fun w => {Proc.devRef (τ := τ) .tc w}) (k : ℕ)
    {op : HloOp τ sig Val} (hk : ops[k]? = some op) {r : Ref sig .tc} (hr : r ∉ W.drop (k + 1)) (V : Valuation τ sig Val) :
    after ops V (Proc.devRef .tc r) = op.result (upto ops V k) (Proc.devRef .tc r) := by
  obtain ⟨hlt, hop⟩ := List.getElem?_eq_some_iff.mp hk
  refine after_last_write (W.drop (k + 1)) (rest := ops.drop (k + 1)) ?_ ?_ hr V
  · rw [List.drop_eq_getElem_cons hlt, hop]
  · rw [List.map_drop, hW, List.map_drop]

section
variable (hW : ops.map HloOp.writes = W.map fun w => {Proc.devRef (τ := τ) .tc w}) (k : ℕ)
include hW

theorem read_nullary {y : Ref sig .tc} {v : y.ty.Contents Val} {hy} (hk : ops[k]? = some (nullary y v hy))
    (hr : y ∉ W.drop (k + 1)) (V : Valuation τ sig Val) : after ops V (Proc.devRef .tc y) = v :=
  (read_op hW k hk hr V).trans (nullary_result' ..)

theorem read_unary {x y : Ref sig .tc} {f : x.ty.Contents Val → y.ty.Contents Val} {hx hy}
    (hk : ops[k]? = some (unary x y f hx hy)) (hr : y ∉ W.drop (k + 1)) (h1 : x ∉ W.drop k) (V : Valuation τ sig Val) :
    after ops V (Proc.devRef .tc y) = f (after ops V (Proc.devRef .tc x)) :=
  ((read_op hW k hk hr V).trans (unary_result' ..)).trans (congrArg f (upto_final hW k h1 V))

theorem read_binary {a b y : Ref sig .tc} {f : a.ty.Contents Val → b.ty.Contents Val → y.ty.Contents Val} {ha hb hy}
    (hk : ops[k]? = some (binary a b y f ha hb hy)) (hr : y ∉ W.drop (k + 1)) (h1 : a ∉ W.drop k) (h2 : b ∉ W.drop k)
    (V : Valuation τ sig Val) :
    after ops V (Proc.devRef .tc y) = f (after ops V (Proc.devRef .tc a)) (after ops V (Proc.devRef .tc b)) :=
  ((read_op hW k hk hr V).trans (binary_result' ..)).trans
    (congrArg₂ f (upto_final hW k h1 V) (upto_final hW k h2 V))

theorem read_ternary {c a b y : Ref sig .tc}
    {f : c.ty.Contents Val → a.ty.Contents Val → b.ty.Contents Val → y.ty.Contents Val} {hc ha hb hy}
    (hk : ops[k]? = some (ternary c a b y f hc ha hb hy)) (hr : y ∉ W.drop (k + 1)) (h0 : c ∉ W.drop k)
    (h1 : a ∉ W.drop k) (h2 : b ∉ W.drop k) (V : Valuation τ sig Val) :
    after ops V (Proc.devRef .tc y)
      = f (after ops V (Proc.devRef .tc c)) (after ops V (Proc.devRef .tc a)) (after ops V (Proc.devRef .tc b)) := by
  refine ((read_op hW k hk hr V).trans (ternary_result' ..)).trans ?_
  rw [upto_final hW k h0 V, upto_final hW k h1 V, upto_final hW k h2 V]

theorem read_quaternary {a b c e y : Ref sig .tc}
    {f : a.ty.Contents Val → b.ty.Contents Val → c.ty.Contents Val → e.ty.Contents Val → y.ty.Contents Val}
    {ha hb hc he hy} (hk : ops[k]? = some (quaternary a b c e y f ha hb hc he hy)) (hr : y ∉ W.drop (k + 1))
    (h0 : a ∉ W.drop k) (h1 : b ∉ W.drop k) (h2 : c ∉ W.drop k) (h3 : e ∉ W.drop k) (V : Valuation τ sig Val) :
    after ops V (Proc.devRef .tc y)
      = f (after ops V (Proc.devRef .tc a)) (after ops V (Proc.devRef .tc b)) (after ops V (Proc.devRef .tc c))
          (after ops V (Proc.devRef .tc e)) := by
  refine ((read_op hW k hk hr V).trans (quaternary_result' ..)).trans ?_
  rw [upto_final hW k h0 V, upto_final hW k h1 V, upto_final hW k h2 V, upto_final hW k h3 V]

theorem read_reshape {x y : Ref sig .tc} {he hn hx hy}
    (hk : ops[k]? = some (reshape (τ := τ) (Val := Val) x y he hn hx hy)) (hr : y ∉ W.drop (k + 1))
    (h1 : x ∉ W.drop k) (V : Valuation τ sig Val) :
    after ops V (Proc.devRef .tc y) = fun i => he ▸ shapeCast y.ty.shape (after ops V (Proc.devRef .tc x)) hn i := by
  refine ((read_op hW k hk hr V).trans (reshape_result' ..)).trans ?_
  rw [upto_final hW k h1 V]

/-! The same for operations of a called function, whose references carry the type of their contents. -/

theorem read_nullaryT {Ty : BufTy} {y : TRef sig Ty} {v : Ty.Contents Val} (hk : ops[k]? = some (TRef.nullary y v))
    (hr : y.ref ∉ W.drop (k + 1)) (V : Valuation τ sig Val) : y.ofBuf (after ops V (Proc.devRef .tc y.ref)) = v := by
  rw [read_nullary hW k hk hr V, TRef.ofBuf_toBuf]

theorem read_unaryT {Tx Ty : BufTy} {x : TRef sig Tx} {y : TRef sig Ty} {f : Tx.Contents Val → Ty.Contents Val}
    (hk : ops[k]? = some (TRef.unary x y f)) (hr : y.ref ∉ W.drop (k + 1)) (h1 : x.ref ∉ W.drop k)
    (V : Valuation τ sig Val) :
    y.ofBuf (after ops V (Proc.devRef .tc y.ref)) = f (x.ofBuf (after ops V (Proc.devRef .tc x.ref))) := by
  rw [read_unary hW k hk hr h1 V, TRef.ofBuf_toBuf]

theorem read_binaryT {Ta Tb Ty : BufTy} {a : TRef sig Ta} {b : TRef sig Tb} {y : TRef sig Ty}
    {f : Ta.Contents Val → Tb.Contents Val → Ty.Contents Val} (hk : ops[k]? = some (TRef.binary a b y f))
    (hr : y.ref ∉ W.drop (k + 1)) (h1 : a.ref ∉ W.drop k) (h2 : b.ref ∉ W.drop k) (V : Valuation τ sig Val) :
    y.ofBuf (after ops V (Proc.devRef .tc y.ref))
      = f (a.ofBuf (after ops V (Proc.devRef .tc a.ref))) (b.ofBuf (after ops V (Proc.devRef .tc b.ref))) := by
  rw [read_binary hW k hk hr h1 h2 V, TRef.ofBuf_toBuf]

theorem read_ternaryT {Tc Ta Tb Ty : BufTy} {c : TRef sig Tc} {a : TRef sig Ta} {b : TRef sig Tb} {y : TRef sig Ty}
    {f : Tc.Contents Val → Ta.Contents Val → Tb.Contents Val → Ty.Contents Val}
    (hk : ops[k]? = some (TRef.ternary c a b y f)) (hr : y.ref ∉ W.drop (k + 1)) (h0 : c.ref ∉ W.drop k)
    (h1 : a.ref ∉ W.drop k) (h2 : b.ref ∉ W.drop k) (V : Valuation τ sig Val) :
    y.ofBuf (after ops V (Proc.devRef .tc y.ref))
      = f (c.ofBuf (after ops V (Proc.devRef .tc c.ref))) (a.ofBuf (after ops V (Proc.devRef .tc a.ref)))
          (b.ofBuf (after ops V (Proc.devRef .tc b.ref))) := by
  rw [read_ternary hW k hk hr h0 h1 h2 V, TRef.ofBuf_toBuf]

theorem read_quaternaryT {Ta Tb Tc Te Ty : BufTy} {a : TRef sig Ta} {b : TRef sig Tb} {c : TRef sig Tc}
    {e : TRef sig Te} {y : TRef sig Ty}
    {f : Ta.Contents Val → Tb.Contents Val → Tc.Contents Val → Te.Contents Val → Ty.Contents Val}
    (hk : ops[k]? = some (TRef.quaternary a b c e y f)) (hr : y.ref ∉ W.drop (k + 1)) (h0 : a.ref ∉ W.drop k)
    (h1 : b.ref ∉ W.drop k) (h2 : c.ref ∉ W.drop k) (h3 : e.ref ∉ W.drop k) (V : Valuation τ sig Val) :
    y.ofBuf (after ops V (Proc.devRef .tc y.ref))
      = f (a.ofBuf (after ops V (Proc.devRef .tc a.ref))) (b.ofBuf (after ops V (Proc.devRef .tc b.ref)))
          (c.ofBuf (after ops V (Proc.devRef .tc c.ref))) (e.ofBuf (after ops V (Proc.devRef .tc e.ref))) := by
  rw [read_quaternary hW k hk hr h0 h1 h2 h3 V, TRef.ofBuf_toBuf]

end

end Cert

end
-- ==== Proof.RefLine.lean ====
module

public import proofs.«01_k».proof.Proof.Gen.ReferenceIdeal
public import Idealize.ShloMosaic.Lib.Pointwise
public import Idealize.ShloMosaic.Lib.StableHlo.RunRead
public import proofs.«01_k».proof.Proof.ReadLine

@[expose] public section

noncomputable section

/-! The reference program as a list of its 213 operations, and the run of that list. -/

namespace Cert.Ref

open Cert.ReferenceIdeal Cert.ReferenceIdeal.Gen Idealize.ShloMosaic Idealize.ShloMosaic.TcCoe Idealize.SL.Sem
open Idealize.ShloMosaic.StableHlo

variable {F : FTy → Type} [FloatOps F]

/-- Operations 0 to 59. -/
abbrev line0 : List (HloOp τ sig (Elt F)) :=
  [ nullary main_c (fun i => lit0 (S91.rowMajor i)),
    nullary main_c_0 (constantI S_ 32 0#32),
    unary main_c_0 main_v0 (broadcastInDim S32x32 ![] bcast_S_S32x32 : (⟨S_, .i32⟩ : BufTy).Contents (Elt F) → (⟨S32x32, .i32⟩ : BufTy).Contents (Elt F)),
    binary main_arg3 main_v0 main_v1 (cmpi .slt : (⟨S32x32, .i32⟩ : BufTy).Contents (Elt F) → (⟨S32x32, .i32⟩ : BufTy).Contents (Elt F) → (⟨S32x32, .i1⟩ : BufTy).Contents (Elt F)),
    nullary main_c_1 (constantI S_ 32 91#32),
    unary main_c_1 main_v2 (broadcastInDim S32x32 ![] bcast_S_S32x32 : (⟨S_, .i32⟩ : BufTy).Contents (Elt F) → (⟨S32x32, .i32⟩ : BufTy).Contents (Elt F)),
    binary main_arg3 main_v2 main_v3 (addi : (⟨S32x32, .i32⟩ : BufTy).Contents (Elt F) → (⟨S32x32, .i32⟩ : BufTy).Contents (Elt F) → (⟨S32x32, .i32⟩ : BufTy).Contents (Elt F)),
    ternary main_v1 main_v3 main_arg3 main_v4 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    unary main_v4 main_v5 (broadcastInDim S32x32x1 ![0, 1] bcast_S32x32_S32x32x1_0_1 : (⟨S32x32, .i32⟩ : BufTy).Contents (Elt F) → (⟨S32x32x1, .i32⟩ : BufTy).Contents (Elt F)),
    binary main_c main_v5 main_v6 ((fun x i => Host.gather gather_S91_S32x32x1_S32x32_n_0_n_n_0_2_1 x i) : (⟨S91, .i32⟩ : BufTy).Contents (Elt F) → (⟨S32x32x1, .i32⟩ : BufTy).Contents (Elt F) → (⟨S32x32, .i32⟩ : BufTy).Contents (Elt F)),
    unary main_arg2 main_v7 ((extractStridedSlice S32x32x2 ![0, 0, 0] · slices_S32x32x4_S32x32x2_0_0_0) : (⟨S32x32x4, .f32⟩ : BufTy).Contents (Elt F) → (⟨S32x32x2, .f32⟩ : BufTy).Contents (Elt F)),
    unary main_arg2 main_v8 ((extractStridedSlice S32x32x2 ![0, 0, 0] · slices_S32x32x4_S32x32x2_0_0_0) : (⟨S32x32x4, .f32⟩ : BufTy).Contents (Elt F) → (⟨S32x32x2, .f32⟩ : BufTy).Contents (Elt F)),
    unary main_arg2 main_v9 ((extractStridedSlice S32x32x2 ![0, 0, 2] · slices_S32x32x4_S32x32x2_0_0_2) : (⟨S32x32x4, .f32⟩ : BufTy).Contents (Elt F) → (⟨S32x32x2, .f32⟩ : BufTy).Contents (Elt F)),
    binary main_v8 main_v9 main_v10 (addf : (⟨S32x32x2, .f32⟩ : BufTy).Contents (Elt F) → (⟨S32x32x2, .f32⟩ : BufTy).Contents (Elt F) → (⟨S32x32x2, .f32⟩ : BufTy).Contents (Elt F)),
    unary main_arg4 main_v11 ((extractStridedSlice S8732x2 ![0, 2] · slices_S8732x4_S8732x2_0_2) : (⟨S8732x4, .f32⟩ : BufTy).Contents (Elt F) → (⟨S8732x2, .f32⟩ : BufTy).Contents (Elt F)),
    nullary main_cst (constant S_ .f32 0x40000000#32),
    unary main_cst main_v12 (broadcastInDim S8732x2 ![] bcast_S_S8732x2 : (⟨S_, .f32⟩ : BufTy).Contents (Elt F) → (⟨S8732x2, .f32⟩ : BufTy).Contents (Elt F)),
    binary main_v11 main_v12 main_v13 (Host.divf : (⟨S8732x2, .f32⟩ : BufTy).Contents (Elt F) → (⟨S8732x2, .f32⟩ : BufTy).Contents (Elt F) → (⟨S8732x2, .f32⟩ : BufTy).Contents (Elt F)),
    unary main_arg4 main_v14 ((extractStridedSlice S8732x2 ![0, 0] · slices_S8732x4_S8732x2_0_0) : (⟨S8732x4, .f32⟩ : BufTy).Contents (Elt F) → (⟨S8732x2, .f32⟩ : BufTy).Contents (Elt F)),
    binary main_v14 main_v13 main_v15 (subf : (⟨S8732x2, .f32⟩ : BufTy).Contents (Elt F) → (⟨S8732x2, .f32⟩ : BufTy).Contents (Elt F) → (⟨S8732x2, .f32⟩ : BufTy).Contents (Elt F)),
    unary main_arg4 main_v16 ((extractStridedSlice S8732x2 ![0, 0] · slices_S8732x4_S8732x2_0_0) : (⟨S8732x4, .f32⟩ : BufTy).Contents (Elt F) → (⟨S8732x2, .f32⟩ : BufTy).Contents (Elt F)),
    binary main_v16 main_v13 main_v17 (addf : (⟨S8732x2, .f32⟩ : BufTy).Contents (Elt F) → (⟨S8732x2, .f32⟩ : BufTy).Contents (Elt F) → (⟨S8732x2, .f32⟩ : BufTy).Contents (Elt F)),
    unary main_v7 main_v18 (broadcastInDim S32x32x1x2 ![0, 1, 3] bcast_S32x32x2_S32x32x1x2_0_1_3 : (⟨S32x32x2, .f32⟩ : BufTy).Contents (Elt F) → (⟨S32x32x1x2, .f32⟩ : BufTy).Contents (Elt F)),
    unary main_v15 main_v19 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v18 main_v20 (broadcastInDim S32x32x8732x2 ![0, 1, 2, 3] bcast_S32x32x1x2_S32x32x8732x2_0_1_2_3 : (⟨S32x32x1x2, .f32⟩ : BufTy).Contents (Elt F) → (⟨S32x32x8732x2, .f32⟩ : BufTy).Contents (Elt F)),
    unary main_v19 main_v21 (broadcastInDim S32x32x8732x2 ![0, 1, 2, 3] bcast_S1x1x8732x2_S32x32x8732x2_0_1_2_3 : (⟨S1x1x8732x2, .f32⟩ : BufTy).Contents (Elt F) → (⟨S32x32x8732x2, .f32⟩ : BufTy).Contents (Elt F)),
    binary main_v20 main_v21 main_v22 (maximumf : (⟨S32x32x8732x2, .f32⟩ : BufTy).Contents (Elt F) → (⟨S32x32x8732x2, .f32⟩ : BufTy).Contents (Elt F) → (⟨S32x32x8732x2, .f32⟩ : BufTy).Contents (Elt F)),
    unary main_v10 main_v23 (broadcastInDim S32x32x1x2 ![0, 1, 3] bcast_S32x32x2_S32x32x1x2_0_1_3 : (⟨S32x32x2, .f32⟩ : BufTy).Contents (Elt F) → (⟨S32x32x1x2, .f32⟩ : BufTy).Contents (Elt F)),
    unary main_v17 main_v24 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v23 main_v25 (broadcastInDim S32x32x8732x2 ![0, 1, 2, 3] bcast_S32x32x1x2_S32x32x8732x2_0_1_2_3 : (⟨S32x32x1x2, .f32⟩ : BufTy).Contents (Elt F) → (⟨S32x32x8732x2, .f32⟩ : BufTy).Contents (Elt F)),
    unary main_v24 main_v26 (broadcastInDim S32x32x8732x2 ![0, 1, 2, 3] bcast_S1x1x8732x2_S32x32x8732x2_0_1_2_3 : (⟨S1x1x8732x2, .f32⟩ : BufTy).Contents (Elt F) → (⟨S32x32x8732x2, .f32⟩ : BufTy).Contents (Elt F)),
    binary main_v25 main_v26 main_v27 (minimumf : (⟨S32x32x8732x2, .f32⟩ : BufTy).Contents (Elt F) → (⟨S32x32x8732x2, .f32⟩ : BufTy).Contents (Elt F) → (⟨S32x32x8732x2, .f32⟩ : BufTy).Contents (Elt F)),
    binary main_v27 main_v22 main_v28 (subf : (⟨S32x32x8732x2, .f32⟩ : BufTy).Contents (Elt F) → (⟨S32x32x8732x2, .f32⟩ : BufTy).Contents (Elt F) → (⟨S32x32x8732x2, .f32⟩ : BufTy).Contents (Elt F)),
    nullary main_cst_2 (constant S_ .f32 0x00000000#32),
    unary main_cst_2 main_v29 (broadcastInDim S32x32x8732x2 ![] bcast_S_S32x32x8732x2 : (⟨S_, .f32⟩ : BufTy).Contents (Elt F) → (⟨S32x32x8732x2, .f32⟩ : BufTy).Contents (Elt F)),
    binary main_v28 main_v29 main_v30 (maximumf : (⟨S32x32x8732x2, .f32⟩ : BufTy).Contents (Elt F) → (⟨S32x32x8732x2, .f32⟩ : BufTy).Contents (Elt F) → (⟨S32x32x8732x2, .f32⟩ : BufTy).Contents (Elt F)),
    unary main_v30 main_v31 ((extractStridedSlice S32x32x8732x1 ![0, 0, 0, 0] · slices_S32x32x8732x2_S32x32x8732x1_0_0_0_0) : (⟨S32x32x8732x2, .f32⟩ : BufTy).Contents (Elt F) → (⟨S32x32x8732x1, .f32⟩ : BufTy).Contents (Elt F)),
    reshape main_v31 main_v32 (rfl : (.f32 : EltTy) = .f32) shapeCasts_S32x32x8732x1_S32x32x8732,
    unary main_v30 main_v33 ((extractStridedSlice S32x32x8732x1 ![0, 0, 0, 1] · slices_S32x32x8732x2_S32x32x8732x1_0_0_0_1) : (⟨S32x32x8732x2, .f32⟩ : BufTy).Contents (Elt F) → (⟨S32x32x8732x1, .f32⟩ : BufTy).Contents (Elt F)),
    reshape main_v33 main_v34 (rfl : (.f32 : EltTy) = .f32) shapeCasts_S32x32x8732x1_S32x32x8732,
    binary main_v32 main_v34 main_v35 (mulf : (⟨S32x32x8732, .f32⟩ : BufTy).Contents (Elt F) → (⟨S32x32x8732, .f32⟩ : BufTy).Contents (Elt F) → (⟨S32x32x8732, .f32⟩ : BufTy).Contents (Elt F)),
    binary main_v10 main_v7 main_v36 (subf : (⟨S32x32x2, .f32⟩ : BufTy).Contents (Elt F) → (⟨S32x32x2, .f32⟩ : BufTy).Contents (Elt F) → (⟨S32x32x2, .f32⟩ : BufTy).Contents (Elt F)),
    binary main_v17 main_v15 main_v37 (subf : (⟨S8732x2, .f32⟩ : BufTy).Contents (Elt F) → (⟨S8732x2, .f32⟩ : BufTy).Contents (Elt F) → (⟨S8732x2, .f32⟩ : BufTy).Contents (Elt F)),
    unary main_v36 main_v38 ((extractStridedSlice S32x32x1 ![0, 0, 0] · slices_S32x32x2_S32x32x1_0_0_0) : (⟨S32x32x2, .f32⟩ : BufTy).Contents (Elt F) → (⟨S32x32x1, .f32⟩ : BufTy).Contents (Elt F)),
    reshape main_v38 main_v39 (rfl : (.f32 : EltTy) = .f32) shapeCasts_S32x32x1_S32x32,
    unary main_v36 main_v40 ((extractStridedSlice S32x32x1 ![0, 0, 1] · slices_S32x32x2_S32x32x1_0_0_1) : (⟨S32x32x2, .f32⟩ : BufTy).Contents (Elt F) → (⟨S32x32x1, .f32⟩ : BufTy).Contents (Elt F)),
    reshape main_v40 main_v41 (rfl : (.f32 : EltTy) = .f32) shapeCasts_S32x32x1_S32x32,
    binary main_v39 main_v41 main_v42 (mulf : (⟨S32x32, .f32⟩ : BufTy).Contents (Elt F) → (⟨S32x32, .f32⟩ : BufTy).Contents (Elt F) → (⟨S32x32, .f32⟩ : BufTy).Contents (Elt F)),
    unary main_v37 main_v43 ((extractStridedSlice S8732x1 ![0, 0] · slices_S8732x2_S8732x1_0_0) : (⟨S8732x2, .f32⟩ : BufTy).Contents (Elt F) → (⟨S8732x1, .f32⟩ : BufTy).Contents (Elt F)),
    reshape main_v43 main_v44 (rfl : (.f32 : EltTy) = .f32) shapeCasts_S8732x1_S8732,
    unary main_v37 main_v45 ((extractStridedSlice S8732x1 ![0, 1] · slices_S8732x2_S8732x1_0_1) : (⟨S8732x2, .f32⟩ : BufTy).Contents (Elt F) → (⟨S8732x1, .f32⟩ : BufTy).Contents (Elt F)),
    reshape main_v45 main_v46 (rfl : (.f32 : EltTy) = .f32) shapeCasts_S8732x1_S8732,
    binary main_v44 main_v46 main_v47 (mulf : (⟨S8732, .f32⟩ : BufTy).Contents (Elt F) → (⟨S8732, .f32⟩ : BufTy).Contents (Elt F) → (⟨S8732, .f32⟩ : BufTy).Contents (Elt F)),
    unary main_v42 main_v48 (broadcastInDim S32x32x1 ![0, 1] bcast_S32x32_S32x32x1_0_1 : (⟨S32x32, .f32⟩ : BufTy).Contents (Elt F) → (⟨S32x32x1, .f32⟩ : BufTy).Contents (Elt F)),
    unary main_v47 main_v49 (broadcastInDim S1x1x8732 ![2] bcast_S8732_S1x1x8732_2 : (⟨S8732, .f32⟩ : BufTy).Contents (Elt F) → (⟨S1x1x8732, .f32⟩ : BufTy).Contents (Elt F)),
    unary main_v48 main_v50 (broadcastInDim S32x32x8732 ![0, 1, 2] bcast_S32x32x1_S32x32x8732_0_1_2 : (⟨S32x32x1, .f32⟩ : BufTy).Contents (Elt F) → (⟨S32x32x8732, .f32⟩ : BufTy).Contents (Elt F)),
    unary main_v49 main_v51 (broadcastInDim S32x32x8732 ![0, 1, 2] bcast_S1x1x8732_S32x32x8732_0_1_2 : (⟨S1x1x8732, .f32⟩ : BufTy).Contents (Elt F) → (⟨S32x32x8732, .f32⟩ : BufTy).Contents (Elt F)),
    binary main_v50 main_v51 main_v52 (addf : (⟨S32x32x8732, .f32⟩ : BufTy).Contents (Elt F) → (⟨S32x32x8732, .f32⟩ : BufTy).Contents (Elt F) → (⟨S32x32x8732, .f32⟩ : BufTy).Contents (Elt F)),
    binary main_v52 main_v35 main_v53 (subf : (⟨S32x32x8732, .f32⟩ : BufTy).Contents (Elt F) → (⟨S32x32x8732, .f32⟩ : BufTy).Contents (Elt F) → (⟨S32x32x8732, .f32⟩ : BufTy).Contents (Elt F)),
    binary main_v35 main_v53 main_v54 (Host.divf : (⟨S32x32x8732, .f32⟩ : BufTy).Contents (Elt F) → (⟨S32x32x8732, .f32⟩ : BufTy).Contents (Elt F) → (⟨S32x32x8732, .f32⟩ : BufTy).Contents (Elt F))]

/-- What those operations write, in order. -/
abbrev line0Out : List (Ref sig .tc) :=
  [main_c, main_c_0, main_v0, main_v1, main_c_1, main_v2, main_v3, main_v4, main_v5, main_v6, main_v7, main_v8, main_v9, main_v10, main_v11, main_cst, main_v12, main_v13, main_v14, main_v15, main_v16, main_v17, main_v18, main_v19, main_v20, main_v21, main_v22, main_v23, main_v24, main_v25, main_v26, main_v27, main_v28, main_cst_2, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]

/-- Operations 60 to 129. -/
abbrev line1 : List (HloOp τ sig (Elt F)) :=
  [ nullary main_v55 (iotaInDim S32 32 0),
    unary main_v55 main_v56 (broadcastInDim S32x1 ![0] bcast_S32_S32x1_0 : (⟨S32, .i32⟩ : BufTy).Contents (Elt F) → (⟨S32x1, .i32⟩ : BufTy).Contents (Elt F)),
    nullary main_cst_3 (constant S_ .f32 0xFF800000#32),
    binary main_v54 main_cst_3 main_v57 ((fun x v => Host.reduce FloatOps.maximumf x v reducesTo_S32x32x8732_S32x8732_d1 h_S_) : (⟨S32x32x8732, .f32⟩ : BufTy).Contents (Elt F) → (⟨S_, .f32⟩ : BufTy).Contents (Elt F) → (⟨S32x8732, .f32⟩ : BufTy).Contents (Elt F)),
    TRef.nullary (TRef.of (T := ⟨S32x32x8732, .i32⟩) main_call0_v0) (iotaInDim S32x32x8732 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32x32x8732, .f32⟩) main_v54) (TRef.of (T := ⟨S32x32x8732, .i32⟩) main_call0_v0) (TRef.of (T := ⟨S_, .f32⟩) main_call0_cst) (TRef.of (T := ⟨S_, .i32⟩) main_call0_c) (TRef.of (T := ⟨S32x8732, .f32⟩) main_call0_v1_0) (fun x y u v j => (Host.argReduce reducer_argmax_f32_i32 x y u v reducesTo_S32x32x8732_S32x8732_d1 h_S_ j).1),
    TRef.quaternary (TRef.of (T := ⟨S32x32x8732, .f32⟩) main_v54) (TRef.of (T := ⟨S32x32x8732, .i32⟩) main_call0_v0) (TRef.of (T := ⟨S_, .f32⟩) main_call0_cst) (TRef.of (T := ⟨S_, .i32⟩) main_call0_c) (TRef.of (T := ⟨S32x8732, .i32⟩) main_v58) (fun x y u v j => (Host.argReduce reducer_argmax_f32_i32 x y u v reducesTo_S32x32x8732_S32x8732_d1 h_S_ j).2),
    TRef.nullary (TRef.of (T := ⟨S32x32x8732, .i32⟩) main_call1_v0) (iotaInDim S32x32x8732 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x32x8732, .f32⟩) main_v54) (TRef.of (T := ⟨S32x32x8732, .i32⟩) main_call1_v0) (TRef.of (T := ⟨S_, .f32⟩) main_call1_cst) (TRef.of (T := ⟨S_, .i32⟩) main_call1_c) (TRef.of (T := ⟨S32x32, .f32⟩) main_call1_v1_0) (fun x y u v j => (Host.argReduce reducer_argmax_f32_i32 x y u v reducesTo_S32x32x8732_S32x32_d2 h_S_ j).1),
    TRef.quaternary (TRef.of (T := ⟨S32x32x8732, .f32⟩) main_v54) (TRef.of (T := ⟨S32x32x8732, .i32⟩) main_call1_v0) (TRef.of (T := ⟨S_, .f32⟩) main_call1_cst) (TRef.of (T := ⟨S_, .i32⟩) main_call1_c) (TRef.of (T := ⟨S32x32, .i32⟩) main_v59) (fun x y u v j => (Host.argReduce reducer_argmax_f32_i32 x y u v reducesTo_S32x32x8732_S32x32_d2 h_S_ j).2),
    nullary main_v60 (iotaInDim S32 32 0),
    unary main_v60 main_v61 (broadcastInDim S32x32 ![1] bcast_S32_S32x32_1 : (⟨S32, .i32⟩ : BufTy).Contents (Elt F) → (⟨S32x32, .i32⟩ : BufTy).Contents (Elt F)),
    unary main_v56 main_v62 (broadcastInDim S32x32 ![0, 1] bcast_S32x1_S32x32_0_1 : (⟨S32x1, .i32⟩ : BufTy).Contents (Elt F) → (⟨S32x32, .i32⟩ : BufTy).Contents (Elt F)),
    unary main_v62 main_v63 (broadcastInDim S32x32x1 ![0, 1] bcast_S32x32_S32x32x1_0_1 : (⟨S32x32, .i32⟩ : BufTy).Contents (Elt F) → (⟨S32x32x1, .i32⟩ : BufTy).Contents (Elt F)),
    unary main_v59 main_v64 (broadcastInDim S32x32x1 ![0, 1] bcast_S32x32_S32x32x1_0_1 : (⟨S32x32, .i32⟩ : BufTy).Contents (Elt F) → (⟨S32x32x1, .i32⟩ : BufTy).Contents (Elt F)),
    binary main_v63 main_v64 main_v65 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
    ternary main_v58 main_v65 main_v61 main_v66 ((fun x i u => Host.scatter scatter_S32x8732_S32x32x2_S32x32_n_01_01_2 (fun _ b => b) x i u) : (⟨S32x8732, .i32⟩ : BufTy).Contents (Elt F) → (⟨S32x32x2, .i32⟩ : BufTy).Contents (Elt F) → (⟨S32x32, .i32⟩ : BufTy).Contents (Elt F) → (⟨S32x8732, .i32⟩ : BufTy).Contents (Elt F)),
    unary main_v56 main_v67 (broadcastInDim S32x32 ![0, 1] bcast_S32x1_S32x32_0_1 : (⟨S32x1, .i32⟩ : BufTy).Contents (Elt F) → (⟨S32x32, .i32⟩ : BufTy).Contents (Elt F)),
    unary main_v67 main_v68 (broadcastInDim S32x32x1 ![0, 1] bcast_S32x32_S32x32x1_0_1 : (⟨S32x32, .i32⟩ : BufTy).Contents (Elt F) → (⟨S32x32x1, .i32⟩ : BufTy).Contents (Elt F)),
    unary main_v59 main_v69 (broadcastInDim S32x32x1 ![0, 1] bcast_S32x32_S32x32x1_0_1 : (⟨S32x32, .i32⟩ : BufTy).Contents (Elt F) → (⟨S32x32x1, .i32⟩ : BufTy).Contents (Elt F)),
    binary main_v68 main_v69 main_v70 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
    nullary main_cst_4 (constant S_ .f32 0x3F800000#32),
    unary main_cst_4 main_v71 (broadcastInDim S32x32 ![] bcast_S_S32x32 : (⟨S_, .f32⟩ : BufTy).Contents (Elt F) → (⟨S32x32, .f32⟩ : BufTy).Contents (Elt F)),
    ternary main_v57 main_v70 main_v71 main_v72 ((fun x i u => Host.scatter scatter_S32x8732_S32x32x2_S32x32_n_01_01_2 (fun _ b => b) x i u) : (⟨S32x8732, .f32⟩ : BufTy).Contents (Elt F) → (⟨S32x32x2, .i32⟩ : BufTy).Contents (Elt F) → (⟨S32x32, .f32⟩ : BufTy).Contents (Elt F) → (⟨S32x8732, .f32⟩ : BufTy).Contents (Elt F)),
    unary main_v56 main_v73 (broadcastInDim S32x8732 ![0, 1] bcast_S32x1_S32x8732_0_1 : (⟨S32x1, .i32⟩ : BufTy).Contents (Elt F) → (⟨S32x8732, .i32⟩ : BufTy).Contents (Elt F)),
    unary main_v73 main_v74 (broadcastInDim S32x8732x1 ![0, 1] bcast_S32x8732_S32x8732x1_0_1 : (⟨S32x8732, .i32⟩ : BufTy).Contents (Elt F) → (⟨S32x8732x1, .i32⟩ : BufTy).Contents (Elt F)),
    unary main_v66 main_v75 (broadcastInDim S32x8732x1 ![0, 1] bcast_S32x8732_S32x8732x1_0_1 : (⟨S32x8732, .i32⟩ : BufTy).Contents (Elt F) → (⟨S32x8732x1, .i32⟩ : BufTy).Contents (Elt F)),
    binary main_v74 main_v75 main_v76 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F)),
    binary main_v6 main_v76 main_v77 ((fun x i => Host.gather gather_S32x32_S32x8732x2_S32x8732_n_01_n_n_01_2_11 x i) : (⟨S32x32, .i32⟩ : BufTy).Contents (Elt F) → (⟨S32x8732x2, .i32⟩ : BufTy).Contents (Elt F) → (⟨S32x8732, .i32⟩ : BufTy).Contents (Elt F)),
    nullary main_cst_5 (constant S_ .f32 0x3F000000#32),
    unary main_cst_5 main_v78 (broadcastInDim S32x8732 ![] bcast_S_S32x8732 : (⟨S_, .f32⟩ : BufTy).Contents (Elt F) → (⟨S32x8732, .f32⟩ : BufTy).Contents (Elt F)),
    binary main_v72 main_v78 main_v79 (cmpf .olt : (⟨S32x8732, .f32⟩ : BufTy).Contents (Elt F) → (⟨S32x8732, .f32⟩ : BufTy).Contents (Elt F) → (⟨S32x8732, .i1⟩ : BufTy).Contents (Elt F)),
    nullary main_c_6 (constantI S_ 32 0#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S32x8732, .i32⟩) main_call2_v1) (broadcastInDim S32x8732 ![] bcast_S_S32x8732),
    TRef.ternary (TRef.of (T := ⟨S32x8732, .i1⟩) main_v79) (TRef.of (T := ⟨S32x8732, .i32⟩) main_call2_v1) (TRef.of (T := ⟨S32x8732, .i32⟩) main_v77) (TRef.of (T := ⟨S32x8732, .i32⟩) main_v80) select,
    unary main_v56 main_v81 (broadcastInDim S32x8732 ![0, 1] bcast_S32x1_S32x8732_0_1 : (⟨S32x1, .i32⟩ : BufTy).Contents (Elt F) → (⟨S32x8732, .i32⟩ : BufTy).Contents (Elt F)),
    unary main_v81 main_v82 (broadcastInDim S32x8732x1 ![0, 1] bcast_S32x8732_S32x8732x1_0_1 : (⟨S32x8732, .i32⟩ : BufTy).Contents (Elt F) → (⟨S32x8732x1, .i32⟩ : BufTy).Contents (Elt F)),
    unary main_v66 main_v83 (broadcastInDim S32x8732x1 ![0, 1] bcast_S32x8732_S32x8732x1_0_1 : (⟨S32x8732, .i32⟩ : BufTy).Contents (Elt F) → (⟨S32x8732x1, .i32⟩ : BufTy).Contents (Elt F)),
    binary main_v82 main_v83 main_v84 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F)),
    binary main_arg2 main_v84 main_v85 ((fun x i => Host.gather gather_S32x32x4_S32x8732x2_S32x8732x4_2_01_n_n_01_2_114 x i) : (⟨S32x32x4, .f32⟩ : BufTy).Contents (Elt F) → (⟨S32x8732x2, .i32⟩ : BufTy).Contents (Elt F) → (⟨S32x8732x4, .f32⟩ : BufTy).Contents (Elt F)),
    unary main_v85 main_v86 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
    unary main_v85 main_v87 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
    nullary main_cst_7 (constant S_ .f32 0x40000000#32),
    unary main_cst_7 main_v88 (broadcastInDim S32x8732x2 ![] bcast_S_S32x8732x2 : (⟨S_, .f32⟩ : BufTy).Contents (Elt F) → (⟨S32x8732x2, .f32⟩ : BufTy).Contents (Elt F)),
    binary main_v87 main_v88 main_v89 (Host.divf : (⟨S32x8732x2, .f32⟩ : BufTy).Contents (Elt F) → (⟨S32x8732x2, .f32⟩ : BufTy).Contents (Elt F) → (⟨S32x8732x2, .f32⟩ : BufTy).Contents (Elt F)),
    binary main_v86 main_v89 main_v90 (addf : (⟨S32x8732x2, .f32⟩ : BufTy).Contents (Elt F) → (⟨S32x8732x2, .f32⟩ : BufTy).Contents (Elt F) → (⟨S32x8732x2, .f32⟩ : BufTy).Contents (Elt F)),
    unary main_arg4 main_v91 ((extractStridedSlice S8732x2 ![0, 0] · slices_S8732x4_S8732x2_0_0) : (⟨S8732x4, .f32⟩ : BufTy).Contents (Elt F) → (⟨S8732x2, .f32⟩ : BufTy).Contents (Elt F)),
    unary main_v91 main_v92 (broadcastInDim S1x8732x2 ![1, 2] bcast_S8732x2_S1x8732x2_1_2 : (⟨S8732x2, .f32⟩ : BufTy).Contents (Elt F) → (⟨S1x8732x2, .f32⟩ : BufTy).Contents (Elt F)),
    unary main_v92 main_v93 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v90 main_v93 main_v94 (subf : (⟨S32x8732x2, .f32⟩ : BufTy).Contents (Elt F) → (⟨S32x8732x2, .f32⟩ : BufTy).Contents (Elt F) → (⟨S32x8732x2, .f32⟩ : BufTy).Contents (Elt F)),
    unary main_arg4 main_v95 ((extractStridedSlice S8732x2 ![0, 2] · slices_S8732x4_S8732x2_0_2) : (⟨S8732x4, .f32⟩ : BufTy).Contents (Elt F) → (⟨S8732x2, .f32⟩ : BufTy).Contents (Elt F)),
    nullary main_cst_8 (constant S_ .f32 0x41200000#32),
    unary main_cst_8 main_v96 (broadcastInDim S8732x2 ![] bcast_S_S8732x2 : (⟨S_, .f32⟩ : BufTy).Contents (Elt F) → (⟨S8732x2, .f32⟩ : BufTy).Contents (Elt F)),
    binary main_v95 main_v96 main_v97 (Host.divf : (⟨S8732x2, .f32⟩ : BufTy).Contents (Elt F) → (⟨S8732x2, .f32⟩ : BufTy).Contents (Elt F) → (⟨S8732x2, .f32⟩ : BufTy).Contents (Elt F)),
    unary main_v97 main_v98 (broadcastInDim S1x8732x2 ![1, 2] bcast_S8732x2_S1x8732x2_1_2 : (⟨S8732x2, .f32⟩ : BufTy).Contents (Elt F) → (⟨S1x8732x2, .f32⟩ : BufTy).Contents (Elt F)),
    unary main_v98 main_v99 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v94 main_v99 main_v100 (Host.divf : (⟨S32x8732x2, .f32⟩ : BufTy).Contents (Elt F) → (⟨S32x8732x2, .f32⟩ : BufTy).Contents (Elt F) → (⟨S32x8732x2, .f32⟩ : BufTy).Contents (Elt F)),
    unary main_v85 main_v101 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
    unary main_arg4 main_v102 ((extractStridedSlice S8732x2 ![0, 2] · slices_S8732x4_S8732x2_0_2) : (⟨S8732x4, .f32⟩ : BufTy).Contents (Elt F) → (⟨S8732x2, .f32⟩ : BufTy).Contents (Elt F)),
    unary main_v102 main_v103 (broadcastInDim S1x8732x2 ![1, 2] bcast_S8732x2_S1x8732x2_1_2 : (⟨S8732x2, .f32⟩ : BufTy).Contents (Elt F) → (⟨S1x8732x2, .f32⟩ : BufTy).Contents (Elt F)),
    unary main_v103 main_v104 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v101 main_v104 main_v105 (Host.divf : (⟨S32x8732x2, .f32⟩ : BufTy).Contents (Elt F) → (⟨S32x8732x2, .f32⟩ : BufTy).Contents (Elt F) → (⟨S32x8732x2, .f32⟩ : BufTy).Contents (Elt F)),
    unary main_v105 main_v106 (Host.log : (⟨S32x8732x2, .f32⟩ : BufTy).Contents (Elt F) → (⟨S32x8732x2, .f32⟩ : BufTy).Contents (Elt F)),
    nullary main_cst_9 (constant S_ .f32 0x40A00000#32),
    unary main_cst_9 main_v107 (broadcastInDim S32x8732x2 ![] bcast_S_S32x8732x2 : (⟨S_, .f32⟩ : BufTy).Contents (Elt F) → (⟨S32x8732x2, .f32⟩ : BufTy).Contents (Elt F))]

/-- What those operations write, in order. -/
abbrev line1Out : List (Ref sig .tc) :=
  [main_v55, main_v56, main_cst_3, main_v57, main_call0_v0, main_call0_cst, main_call0_c, main_call0_v1_0, main_v58, main_call1_v0, main_call1_cst, main_call1_c, main_call1_v1_0, main_v59, main_v60, main_v61, main_v62, main_v63, main_v64, main_v65, main_v66, main_v67, main_v68, main_v69, main_v70, main_cst_4, main_v71, main_v72, main_v73, main_v74, main_v75, main_v76, main_v77, main_cst_5, main_v78, main_v79, main_c_6, main_call2_v0, main_call2_v1, main_v80, main_v81, main_v82, main_v83, main_v84, main_v85, main_v86, main_v87, main_cst_7, main_v88, main_v89, main_v90, main_v91, main_v92, main_v93, main_v94, main_v95, main_cst_8, main_v96, main_v97, main_v98, main_v99, main_v100, main_v101, main_v102, main_v103, main_v104, main_v105, main_v106, main_cst_9, main_v107]

/-- Operations 130 to 206. -/
abbrev line2 : List (HloOp τ sig (Elt F)) :=
  [ binary main_v106 main_v107 main_v108 (mulf : (⟨S32x8732x2, .f32⟩ : BufTy).Contents (Elt F) → (⟨S32x8732x2, .f32⟩ : BufTy).Contents (Elt F) → (⟨S32x8732x2, .f32⟩ : BufTy).Contents (Elt F)),
    binary main_v100 main_v108 main_v109 ((fun a b => concatenate S32x8732x4 2 [⟨S32x8732x2, a⟩, ⟨S32x8732x2, b⟩] concatenates_S32x8732x2_S32x8732x2_S32x8732x4_d2) : (⟨S32x8732x2, .f32⟩ : BufTy).Contents (Elt F) → (⟨S32x8732x2, .f32⟩ : BufTy).Contents (Elt F) → (⟨S32x8732x4, .f32⟩ : BufTy).Contents (Elt F)),
    nullary main_c_10 (constantI S_ 32 0#32),
    unary main_c_10 main_v110 (broadcastInDim S32x8732 ![] bcast_S_S32x8732 : (⟨S_, .i32⟩ : BufTy).Contents (Elt F) → (⟨S32x8732, .i32⟩ : BufTy).Contents (Elt F)),
    binary main_v80 main_v110 main_v111 (cmpi .ne : (⟨S32x8732, .i32⟩ : BufTy).Contents (Elt F) → (⟨S32x8732, .i32⟩ : BufTy).Contents (Elt F) → (⟨S32x8732, .i1⟩ : BufTy).Contents (Elt F)),
    binary main_arg0 main_v109 main_v112 (subf : (⟨S32x8732x4, .f32⟩ : BufTy).Contents (Elt F) → (⟨S32x8732x4, .f32⟩ : BufTy).Contents (Elt F) → (⟨S32x8732x4, .f32⟩ : BufTy).Contents (Elt F)),
    unary main_v112 main_v113 (Host.absf : (⟨S32x8732x4, .f32⟩ : BufTy).Contents (Elt F) → (⟨S32x8732x4, .f32⟩ : BufTy).Contents (Elt F)),
    unary main_v111 main_v114 (broadcastInDim S32x8732x1 ![0, 1] bcast_S32x8732_S32x8732x1_0_1 : (⟨S32x8732, .i1⟩ : BufTy).Contents (Elt F) → (⟨S32x8732x1, .i1⟩ : BufTy).Contents (Elt F)),
    unary main_v114 main_v115 (uitofp .f32 : (⟨S32x8732x1, .i1⟩ : BufTy).Contents (Elt F) → (⟨S32x8732x1, .f32⟩ : BufTy).Contents (Elt F)),
    unary main_v115 main_v116 (broadcastInDim S32x8732x4 ![0, 1, 2] bcast_S32x8732x1_S32x8732x4_0_1_2 : (⟨S32x8732x1, .f32⟩ : BufTy).Contents (Elt F) → (⟨S32x8732x4, .f32⟩ : BufTy).Contents (Elt F)),
    binary main_v113 main_v116 main_v117 (mulf : (⟨S32x8732x4, .f32⟩ : BufTy).Contents (Elt F) → (⟨S32x8732x4, .f32⟩ : BufTy).Contents (Elt F) → (⟨S32x8732x4, .f32⟩ : BufTy).Contents (Elt F)),
    TRef.nullary (TRef.of (T := ⟨S_, .f32⟩) main_call3_cst) (constant S_ .f32 0xFF800000#32),
    TRef.binary (TRef.of (T := ⟨S32x8732x81, .f32⟩) main_arg1) (TRef.of (T := ⟨S_, .f32⟩) main_call3_cst) (TRef.of (T := ⟨S32x8732, .f32⟩) main_call3_v0) (fun x v => Host.reduce FloatOps.maximumf x v reducesTo_S32x8732x81_S32x8732_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S32x8732, .f32⟩) main_call3_v1) (broadcastInDim S32x8732 ![] bcast_S_S32x8732),
    TRef.binary (TRef.of (T := ⟨S32x8732, .f32⟩) main_call3_v1) (TRef.of (T := ⟨S32x8732, .f32⟩) main_call3_v0) (TRef.of (T := ⟨S32x8732, .f32⟩) main_call3_v2) maximumf,
    TRef.unary (TRef.of (T := ⟨S32x8732, .f32⟩) main_call3_v2) (TRef.of (T := ⟨S32x8732x1, .f32⟩) main_call3_v3) (broadcastInDim S32x8732x1 ![0, 1] bcast_S32x8732_S32x8732x1_0_1),
    TRef.unary (TRef.of (T := ⟨S32x8732x1, .f32⟩) main_call3_v3) (TRef.of (T := ⟨S32x8732x81, .f32⟩) main_call3_v4) (broadcastInDim S32x8732x81 ![0, 1, 2] bcast_S32x8732x1_S32x8732x81_0_1_2),
    TRef.binary (TRef.of (T := ⟨S32x8732x81, .f32⟩) main_arg1) (TRef.of (T := ⟨S32x8732x81, .f32⟩) main_call3_v4) (TRef.of (T := ⟨S32x8732x81, .f32⟩) main_call3_v5) subf,
    TRef.unary (TRef.of (T := ⟨S32x8732x81, .f32⟩) main_call3_v5) (TRef.of (T := ⟨S32x8732x81, .f32⟩) main_call3_v6) Host.exp,
    TRef.nullary (TRef.of (T := ⟨S_, .f32⟩) main_call3_cst_1) (constant S_ .f32 0x00000000#32),
    TRef.binary (TRef.of (T := ⟨S32x8732x81, .f32⟩) main_call3_v6) (TRef.of (T := ⟨S_, .f32⟩) main_call3_cst_1) (TRef.of (T := ⟨S32x8732, .f32⟩) main_call3_v7) (fun x v => Host.reduceAdd x v reducesTo_S32x8732x81_S32x8732_d2 h_S_),
    TRef.unary (TRef.of (T := ⟨S32x8732, .f32⟩) main_call3_v7) (TRef.of (T := ⟨S32x8732x1, .f32⟩) main_call3_v8) (broadcastInDim S32x8732x1 ![0, 1] bcast_S32x8732_S32x8732x1_0_1),
    TRef.unary (TRef.of (T := ⟨S32x8732x1, .f32⟩) main_call3_v8) (TRef.of (T := ⟨S32x8732x1, .f32⟩) main_call3_v9) Host.log,
    TRef.unary (TRef.of (T := ⟨S32x8732x1, .f32⟩) main_call3_v9) (TRef.of (T := ⟨S32x8732x81, .f32⟩) main_call3_v10) (broadcastInDim S32x8732x81 ![0, 1, 2] bcast_S32x8732x1_S32x8732x81_0_1_2),
    TRef.binary (TRef.of (T := ⟨S32x8732x81, .f32⟩) main_call3_v5) (TRef.of (T := ⟨S32x8732x81, .f32⟩) main_call3_v10) (TRef.of (T := ⟨S32x8732x81, .f32⟩) main_v118) subf,
    unary main_v80 main_v119 (broadcastInDim S32x8732x1 ![0, 1] bcast_S32x8732_S32x8732x1_0_1 : (⟨S32x8732, .i32⟩ : BufTy).Contents (Elt F) → (⟨S32x8732x1, .i32⟩ : BufTy).Contents (Elt F)),
    TRef.reshape (TRef.of (T := ⟨S32x8732x1, .i32⟩) main_v119) (TRef.of (T := ⟨S32x8732x1x1, .i32⟩) main_call4_v0) (rfl : (.i32 : EltTy) = .i32) shapeCasts_S32x8732x1_S32x8732x1x1,
    TRef.binary (TRef.of (T := ⟨S32x8732x81, .f32⟩) main_v118) (TRef.of (T := ⟨S32x8732x1x1, .i32⟩) main_call4_v0) (TRef.of (T := ⟨S32x8732x1, .f32⟩) main_v120) (fun x i => Host.gather gather_S32x8732x81_S32x8732x1x1_S32x8732x1_n_2_01_01_2_3_111 x i),
    reshape main_v120 main_v121 (rfl : (.f32 : EltTy) = .f32) shapeCasts_S32x8732x1_S32x8732,
    unary main_v121 main_v122 (Host.negf : (⟨S32x8732, .f32⟩ : BufTy).Contents (Elt F) → (⟨S32x8732, .f32⟩ : BufTy).Contents (Elt F)),
    unary main_v111 main_v123 ((extui 32 · natLt_1_32) : (⟨S32x8732, .i1⟩ : BufTy).Contents (Elt F) → (⟨S32x8732, .i32⟩ : BufTy).Contents (Elt F)),
    nullary main_c_11 (constantI S_ 32 0#32),
    binary main_v123 main_c_11 main_v124 ((fun x v => Host.reduce IntOp.addi x v reducesTo_S32x8732_S_d0_1 h_S_) : (⟨S32x8732, .i32⟩ : BufTy).Contents (Elt F) → (⟨S_, .i32⟩ : BufTy).Contents (Elt F) → (⟨S_, .i32⟩ : BufTy).Contents (Elt F)),
    nullary main_cst_12 (constant S_ .f32 0x00000000#32),
    binary main_v117 main_cst_12 main_v125 ((fun x v => Host.reduceAdd x v reducesTo_S32x8732x4_S_d0_1_2 h_S_) : (⟨S32x8732x4, .f32⟩ : BufTy).Contents (Elt F) → (⟨S_, .f32⟩ : BufTy).Contents (Elt F) → (⟨S_, .f32⟩ : BufTy).Contents (Elt F)),
    unary main_v124 main_v126 (sitofp .f32 : (⟨S_, .i32⟩ : BufTy).Contents (Elt F) → (⟨S_, .f32⟩ : BufTy).Contents (Elt F)),
    nullary main_cst_13 (constant S_ .f32 0x40800000#32),
    binary main_v126 main_cst_13 main_v127 (mulf : (⟨S_, .f32⟩ : BufTy).Contents (Elt F) → (⟨S_, .f32⟩ : BufTy).Contents (Elt F) → (⟨S_, .f32⟩ : BufTy).Contents (Elt F)),
    binary main_v125 main_v127 main_v128 (Host.divf : (⟨S_, .f32⟩ : BufTy).Contents (Elt F) → (⟨S_, .f32⟩ : BufTy).Contents (Elt F) → (⟨S_, .f32⟩ : BufTy).Contents (Elt F)),
    unary main_v111 main_v129 ((extui 32 · natLt_1_32) : (⟨S32x8732, .i1⟩ : BufTy).Contents (Elt F) → (⟨S32x8732, .i32⟩ : BufTy).Contents (Elt F)),
    nullary main_c_14 (constantI S_ 32 0#32),
    binary main_v129 main_c_14 main_v130 ((fun x v => Host.reduce IntOp.addi x v reducesTo_S32x8732_S32_d1 h_S_) : (⟨S32x8732, .i32⟩ : BufTy).Contents (Elt F) → (⟨S_, .i32⟩ : BufTy).Contents (Elt F) → (⟨S32, .i32⟩ : BufTy).Contents (Elt F)),
    nullary main_c_15 (constantI S_ 32 3#32),
    unary main_c_15 main_v131 (broadcastInDim S32 ![] bcast_S_S32 : (⟨S_, .i32⟩ : BufTy).Contents (Elt F) → (⟨S32, .i32⟩ : BufTy).Contents (Elt F)),
    binary main_v131 main_v130 main_v132 (muli : (⟨S32, .i32⟩ : BufTy).Contents (Elt F) → (⟨S32, .i32⟩ : BufTy).Contents (Elt F) → (⟨S32, .i32⟩ : BufTy).Contents (Elt F)),
    unary main_v111 main_v133 (uitofp .f32 : (⟨S32x8732, .i1⟩ : BufTy).Contents (Elt F) → (⟨S32x8732, .f32⟩ : BufTy).Contents (Elt F)),
    binary main_v122 main_v133 main_v134 (mulf : (⟨S32x8732, .f32⟩ : BufTy).Contents (Elt F) → (⟨S32x8732, .f32⟩ : BufTy).Contents (Elt F) → (⟨S32x8732, .f32⟩ : BufTy).Contents (Elt F)),
    nullary main_cst_16 (constant S_ .f32 0x00000000#32),
    binary main_v134 main_cst_16 main_v135 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S32x8732, .f32⟩) main_call5_v1) (broadcastInDim S32x8732 ![] bcast_S_S32x8732),
    TRef.ternary (TRef.of (T := ⟨S32x8732, .i1⟩) main_v111) (TRef.of (T := ⟨S32x8732, .f32⟩) main_call5_v1) (TRef.of (T := ⟨S32x8732, .f32⟩) main_v122) (TRef.of (T := ⟨S32x8732, .f32⟩) main_v136) select,
    unary main_v136 main_v137 (Host.negf : (⟨S32x8732, .f32⟩ : BufTy).Contents (Elt F) → (⟨S32x8732, .f32⟩ : BufTy).Contents (Elt F)),
    TRef.unary (TRef.of (T := ⟨S32x8732, .f32⟩) main_v137) (TRef.of (T := ⟨S32x8732, .f32⟩) main_v138) (fun x => Host.sort S32x8732 1 comparator_f32_d1 x),
    unary main_v138 main_v139 (Host.negf : (⟨S32x8732, .f32⟩ : BufTy).Contents (Elt F) → (⟨S32x8732, .f32⟩ : BufTy).Contents (Elt F)),
    nullary main_v140 (iotaInDim S8732 32 0),
    unary main_v140 main_v141 (broadcastInDim S1x8732 ![1] bcast_S8732_S1x8732_1 : (⟨S8732, .i32⟩ : BufTy).Contents (Elt F) → (⟨S1x8732, .i32⟩ : BufTy).Contents (Elt F)),
    unary main_v132 main_v142 (broadcastInDim S32x1 ![0] bcast_S32_S32x1_0 : (⟨S32, .i32⟩ : BufTy).Contents (Elt F) → (⟨S32x1, .i32⟩ : BufTy).Contents (Elt F)),
    unary main_v141 main_v143 (broadcastInDim S32x8732 ![0, 1] bcast_S1x8732_S32x8732_0_1 : (⟨S1x8732, .i32⟩ : BufTy).Contents (Elt F) → (⟨S32x8732, .i32⟩ : BufTy).Contents (Elt F)),
    unary main_v142 main_v144 (broadcastInDim S32x8732 ![0, 1] bcast_S32x1_S32x8732_0_1 : (⟨S32x1, .i32⟩ : BufTy).Contents (Elt F) → (⟨S32x8732, .i32⟩ : BufTy).Contents (Elt F)),
    binary main_v143 main_v144 main_v145 (cmpi .slt : (⟨S32x8732, .i32⟩ : BufTy).Contents (Elt F) → (⟨S32x8732, .i32⟩ : BufTy).Contents (Elt F) → (⟨S32x8732, .i1⟩ : BufTy).Contents (Elt F)),
    unary main_v145 main_v146 (uitofp .f32 : (⟨S32x8732, .i1⟩ : BufTy).Contents (Elt F) → (⟨S32x8732, .f32⟩ : BufTy).Contents (Elt F)),
    binary main_v139 main_v146 main_v147 (mulf : (⟨S32x8732, .f32⟩ : BufTy).Contents (Elt F) → (⟨S32x8732, .f32⟩ : BufTy).Contents (Elt F) → (⟨S32x8732, .f32⟩ : BufTy).Contents (Elt F)),
    nullary main_cst_18 (constant S_ .f32 0x00000000#32),
    binary main_v147 main_cst_18 main_v148 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F)),
    binary main_v148 main_v135 main_v149 (addf : (⟨S_, .f32⟩ : BufTy).Contents (Elt F) → (⟨S_, .f32⟩ : BufTy).Contents (Elt F) → (⟨S_, .f32⟩ : BufTy).Contents (Elt F)),
    unary main_v124 main_v150 (sitofp .f32 : (⟨S_, .i32⟩ : BufTy).Contents (Elt F) → (⟨S_, .f32⟩ : BufTy).Contents (Elt F)),
    binary main_v149 main_v150 main_v151 (Host.divf : (⟨S_, .f32⟩ : BufTy).Contents (Elt F) → (⟨S_, .f32⟩ : BufTy).Contents (Elt F) → (⟨S_, .f32⟩ : BufTy).Contents (Elt F)),
    nullary main_cst_19 (constant S_ .f32 0x3F800000#32),
    binary main_cst_19 main_v128 main_v152 (mulf : (⟨S_, .f32⟩ : BufTy).Contents (Elt F) → (⟨S_, .f32⟩ : BufTy).Contents (Elt F) → (⟨S_, .f32⟩ : BufTy).Contents (Elt F)),
    binary main_v151 main_v152 main_v153 (addf : (⟨S_, .f32⟩ : BufTy).Contents (Elt F) → (⟨S_, .f32⟩ : BufTy).Contents (Elt F) → (⟨S_, .f32⟩ : BufTy).Contents (Elt F)),
    nullary main_v154 (iotaInDim S128 32 0),
    nullary main_c_20 (constantI S_ 32 0#32),
    unary main_c_20 main_v155 (broadcastInDim S128 ![] bcast_S_S128 : (⟨S_, .i32⟩ : BufTy).Contents (Elt F) → (⟨S128, .i32⟩ : BufTy).Contents (Elt F)),
    binary main_v154 main_v155 main_v156 (cmpi .eq : (⟨S128, .i32⟩ : BufTy).Contents (Elt F) → (⟨S128, .i32⟩ : BufTy).Contents (Elt F) → (⟨S128, .i1⟩ : BufTy).Contents (Elt F))]

/-- What those operations write, in order. -/
abbrev line2Out : List (Ref sig .tc) :=
  [main_v108, main_v109, main_c_10, main_v110, main_v111, main_v112, main_v113, main_v114, main_v115, main_v116, main_v117, main_call3_cst, main_call3_v0, main_call3_cst_0, main_call3_v1, main_call3_v2, main_call3_v3, main_call3_v4, main_call3_v5, main_call3_v6, main_call3_cst_1, main_call3_v7, main_call3_v8, main_call3_v9, main_call3_v10, main_v118, main_v119, main_call4_v0, main_v120, main_v121, main_v122, main_v123, main_c_11, main_v124, main_cst_12, main_v125, main_v126, main_cst_13, main_v127, main_v128, main_v129, main_c_14, main_v130, main_c_15, main_v131, main_v132, main_v133, main_v134, main_cst_16, main_v135, main_cst_17, main_call5_v0, main_call5_v1, main_v136, main_v137, main_v138, main_v139, main_v140, main_v141, main_v142, main_v143, main_v144, main_v145, main_v146, main_v147, main_cst_18, main_v148, main_v149, main_v150, main_v151, main_cst_19, main_v152, main_v153, main_v154, main_c_20, main_v155, main_v156]

/-- Operations 207 to 212. -/
abbrev line3 : List (HloOp τ sig (Elt F)) :=
  [ nullary main_cst_21 (constant S_ .f32 0x00000000#32),
    TRef.unary (TRef.of (T := ⟨S_, .f32⟩) main_cst_21) (TRef.of (T := ⟨S_, .f32⟩) main_call7_v0) id,
    TRef.unary (TRef.of (T := ⟨S_, .f32⟩) main_v153) (TRef.of (T := ⟨S128, .f32⟩) main_call7_v1) (broadcastInDim S128 ![] bcast_S_S128),
    TRef.unary (TRef.of (T := ⟨S_, .f32⟩) main_call7_v0) (TRef.of (T := ⟨S128, .f32⟩) main_call7_v2) (broadcastInDim S128 ![] bcast_S_S128),
    TRef.ternary (TRef.of (T := ⟨S128, .i1⟩) main_v156) (TRef.of (T := ⟨S128, .f32⟩) main_call7_v1) (TRef.of (T := ⟨S128, .f32⟩) main_call7_v2) (TRef.of (T := ⟨S128, .f32⟩) main_v157) select,
    unary main_v157 main_v158 (broadcastInDim S1x128 ![1] bcast_S128_S1x128_1 : (⟨S128, .f32⟩ : BufTy).Contents (Elt F) → (⟨S1x128, .f32⟩ : BufTy).Contents (Elt F))]

/-- What those operations write, in order. -/
abbrev line3Out : List (Ref sig .tc) :=
  [main_cst_21, main_call7_v0, main_call7_v1, main_call7_v2, main_v157, main_v158]

/-- The whole program. -/
abbrev line : List (HloOp τ sig (Elt F)) := line0 ++ (line1 ++ line2) ++ line3

/-- Everything the program writes, in order. -/
abbrev lineOut : List (Ref sig .tc) := line0Out ++ (line1Out ++ line2Out) ++ line3Out

set_option maxRecDepth 16384 in
set_option maxHeartbeats 4000000 in
theorem line0_eq (c : Dev nD) : main_part0 (F := F) c = seq line0 := rfl

set_option maxRecDepth 16384 in
set_option maxHeartbeats 4000000 in
theorem line1_eq (c : Dev nD) : main_part1 (F := F) c = seq line1 := rfl

set_option maxRecDepth 16384 in
set_option maxHeartbeats 4000000 in
theorem line2_eq (c : Dev nD) : main_part2 (F := F) c = seq line2 := rfl

set_option maxRecDepth 16384 in
set_option maxHeartbeats 4000000 in
theorem line3_eq (c : Dev nD) : main_part3 (F := F) c = seq line3 := rfl

set_option maxRecDepth 16384 in
theorem main_eq (c : Dev nD) : main (F := F) c = seq line := by
  simp only [line, seq_append, ← line0_eq c, ← line1_eq c, ← line2_eq c, ← line3_eq c]
  rfl

set_option maxRecDepth 16384 in
theorem line0_writes : (line0 (F := F)).map HloOp.writes = line0Out.map fun w => {Proc.devRef (τ := τ) .tc w} := rfl

set_option maxRecDepth 16384 in
theorem line0_sub : (line0 (F := F)).Forall fun op => op.bufs ⊆ tcRefs τ sig :=
  ⟨nullary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., unary_bufs_sub .., binary_bufs_sub .., unary_bufs_sub ..,
    nullary_bufs_sub .., unary_bufs_sub .., binary_bufs_sub .., unary_bufs_sub .., binary_bufs_sub ..,
    unary_bufs_sub .., binary_bufs_sub .., unary_bufs_sub .., unary_bufs_sub .., unary_bufs_sub ..,
    unary_bufs_sub .., binary_bufs_sub .., unary_bufs_sub .., unary_bufs_sub .., unary_bufs_sub ..,
    unary_bufs_sub .., binary_bufs_sub .., binary_bufs_sub .., nullary_bufs_sub .., unary_bufs_sub ..,
    binary_bufs_sub .., unary_bufs_sub .., reshape_bufs_sub .., unary_bufs_sub .., reshape_bufs_sub ..,
    binary_bufs_sub .., binary_bufs_sub .., binary_bufs_sub .., unary_bufs_sub .., reshape_bufs_sub ..,
    unary_bufs_sub .., reshape_bufs_sub .., binary_bufs_sub .., unary_bufs_sub .., reshape_bufs_sub ..,
    unary_bufs_sub .., reshape_bufs_sub .., binary_bufs_sub .., unary_bufs_sub .., unary_bufs_sub ..,
    unary_bufs_sub .., unary_bufs_sub .., binary_bufs_sub .., binary_bufs_sub ..,
    binary_bufs_sub ..⟩

set_option maxRecDepth 16384 in
theorem line0_fresh : (line0 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl,
    rfl⟩

set_option maxRecDepth 16384 in
theorem line1_writes : (line1 (F := F)).map HloOp.writes = line1Out.map fun w => {Proc.devRef (τ := τ) .tc w} := rfl

set_option maxRecDepth 16384 in
theorem line1_sub : (line1 (F := F)).Forall fun op => op.bufs ⊆ tcRefs τ sig :=
  ⟨nullary_bufs_sub .., unary_bufs_sub .., nullary_bufs_sub .., binary_bufs_sub .., nullary_bufs_sub ..,
    nullary_bufs_sub .., nullary_bufs_sub .., quaternary_bufs_sub .., quaternary_bufs_sub ..,
    nullary_bufs_sub .., nullary_bufs_sub .., nullary_bufs_sub .., quaternary_bufs_sub ..,
    quaternary_bufs_sub .., nullary_bufs_sub .., unary_bufs_sub .., unary_bufs_sub .., unary_bufs_sub ..,
    unary_bufs_sub .., binary_bufs_sub .., ternary_bufs_sub .., unary_bufs_sub .., unary_bufs_sub ..,
    unary_bufs_sub .., binary_bufs_sub .., nullary_bufs_sub .., unary_bufs_sub .., ternary_bufs_sub ..,
    unary_bufs_sub .., unary_bufs_sub .., unary_bufs_sub .., binary_bufs_sub .., binary_bufs_sub ..,
    nullary_bufs_sub .., unary_bufs_sub .., binary_bufs_sub .., nullary_bufs_sub .., unary_bufs_sub ..,
    unary_bufs_sub .., ternary_bufs_sub .., unary_bufs_sub .., unary_bufs_sub .., unary_bufs_sub ..,
    binary_bufs_sub .., binary_bufs_sub .., unary_bufs_sub .., unary_bufs_sub .., nullary_bufs_sub ..,
    unary_bufs_sub .., binary_bufs_sub .., binary_bufs_sub .., unary_bufs_sub .., unary_bufs_sub ..,
    unary_bufs_sub .., binary_bufs_sub .., unary_bufs_sub .., nullary_bufs_sub .., unary_bufs_sub ..,
    binary_bufs_sub .., unary_bufs_sub .., unary_bufs_sub .., binary_bufs_sub .., unary_bufs_sub ..,
    unary_bufs_sub .., unary_bufs_sub .., unary_bufs_sub .., binary_bufs_sub .., unary_bufs_sub ..,
    nullary_bufs_sub ..,
    unary_bufs_sub ..⟩

set_option maxRecDepth 16384 in
theorem line1_fresh : (line1 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl,
    rfl⟩

set_option maxRecDepth 16384 in
theorem line2_writes : (line2 (F := F)).map HloOp.writes = line2Out.map fun w => {Proc.devRef (τ := τ) .tc w} := rfl

set_option maxRecDepth 16384 in
theorem line2_sub : (line2 (F := F)).Forall fun op => op.bufs ⊆ tcRefs τ sig :=
  ⟨binary_bufs_sub .., binary_bufs_sub .., nullary_bufs_sub .., unary_bufs_sub .., binary_bufs_sub ..,
    binary_bufs_sub .., unary_bufs_sub .., unary_bufs_sub .., unary_bufs_sub .., unary_bufs_sub ..,
    binary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., unary_bufs_sub ..,
    binary_bufs_sub .., unary_bufs_sub .., reshape_bufs_sub .., binary_bufs_sub .., reshape_bufs_sub ..,
    unary_bufs_sub .., unary_bufs_sub .., nullary_bufs_sub .., binary_bufs_sub .., nullary_bufs_sub ..,
    binary_bufs_sub .., unary_bufs_sub .., nullary_bufs_sub .., binary_bufs_sub .., binary_bufs_sub ..,
    unary_bufs_sub .., nullary_bufs_sub .., binary_bufs_sub .., nullary_bufs_sub .., unary_bufs_sub ..,
    binary_bufs_sub .., unary_bufs_sub .., binary_bufs_sub .., nullary_bufs_sub .., binary_bufs_sub ..,
    nullary_bufs_sub .., unary_bufs_sub .., unary_bufs_sub .., ternary_bufs_sub .., unary_bufs_sub ..,
    unary_bufs_sub .., unary_bufs_sub .., nullary_bufs_sub .., unary_bufs_sub .., unary_bufs_sub ..,
    unary_bufs_sub .., unary_bufs_sub .., binary_bufs_sub .., unary_bufs_sub .., binary_bufs_sub ..,
    nullary_bufs_sub .., binary_bufs_sub .., binary_bufs_sub .., unary_bufs_sub .., binary_bufs_sub ..,
    nullary_bufs_sub .., binary_bufs_sub .., binary_bufs_sub .., nullary_bufs_sub ..,
    nullary_bufs_sub .., unary_bufs_sub ..,
    binary_bufs_sub ..⟩

set_option maxRecDepth 16384 in
theorem line2_fresh : (line2 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl⟩

set_option maxRecDepth 16384 in
theorem line3_writes : (line3 (F := F)).map HloOp.writes = line3Out.map fun w => {Proc.devRef (τ := τ) .tc w} := rfl

set_option maxRecDepth 16384 in
theorem line3_sub : (line3 (F := F)).Forall fun op => op.bufs ⊆ tcRefs τ sig :=
  ⟨nullary_bufs_sub .., unary_bufs_sub .., unary_bufs_sub .., unary_bufs_sub .., ternary_bufs_sub ..,
    unary_bufs_sub ..⟩

set_option maxRecDepth 16384 in
theorem line3_fresh : (line3 (F := F)).Forall fun op => op.fresh = ∅ :=
  ⟨rfl, rfl, rfl, rfl, rfl,
    rfl⟩

theorem line_writes : (line (F := F)).map HloOp.writes = lineOut.map fun w => {Proc.devRef (τ := τ) .tc w} := by
  simp only [line, lineOut, List.map_append, line0_writes, line1_writes, line2_writes, line3_writes]

theorem line_sub : ∀ op ∈ (line : List (HloOp τ sig (Elt F))), op.bufs ⊆ tcRefs τ sig := fun op h => by
  simp only [line, List.mem_append] at h
  rcases h with (h | h | h) | h
  exacts [List.forall_iff_forall_mem.mp line0_sub op h, List.forall_iff_forall_mem.mp line1_sub op h, List.forall_iff_forall_mem.mp line2_sub op h, List.forall_iff_forall_mem.mp line3_sub op h]

theorem line_fresh : ∀ op ∈ (line : List (HloOp τ sig (Elt F))), op.fresh = ∅ := fun op h => by
  simp only [line, List.mem_append] at h
  rcases h with (h | h | h) | h
  exacts [List.forall_iff_forall_mem.mp line0_fresh op h, List.forall_iff_forall_mem.mp line1_fresh op h, List.forall_iff_forall_mem.mp line2_fresh op h, List.forall_iff_forall_mem.mp line3_fresh op h]

theorem scopedRefs_eq : (Finset.univ.filter fun b : Ref sig .tc => b.isScoped) = ∅ := by decide
theorem scopedSems_eq : (Finset.univ.filter fun sm : SemLoc sig => sm.isScoped .tc) = ∅ := by decide

/-- Every run of the program ends with each buffer as the line of operations leaves it. -/
theorem run_line (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq scopedRefs_eq scopedSems_eq defs main (fun _ => line) main_eq
    (fun _ => List.forall_iff_forall_mem.mpr line_sub) m ρ fun _ => line_fresh

end Cert.Ref

end

end
-- ==== Proof.RefArrays.lean ====
module

public import proofs.«01_k».proof.Proof.RefLine

@[expose] public section

noncomputable section

/-! The arrays the reference holds, each as a function of its arguments. -/

namespace Cert.Ref

open Cert.ReferenceIdeal Cert.ReferenceIdeal.Gen Idealize.ShloMosaic Idealize.ShloMosaic.TcCoe Idealize.SL.Sem
open Idealize.ShloMosaic.StableHlo

/-- The arguments of the program. -/
structure Args where
  arg0 : FVec Ideal S32x8732x4 .f32
  arg1 : FVec Ideal S32x8732x81 .f32
  arg2 : FVec Ideal S32x32x4 .f32
  arg3 : IVec S32x32 32
  arg4 : FVec Ideal S8732x4 .f32

/-- The arguments as a device holds them. -/
def args (V : Valuation τ sig (Elt Ideal)) : Args where
  arg0 := V (Proc.devRef .tc main_arg0)
  arg1 := V (Proc.devRef .tc main_arg1)
  arg2 := V (Proc.devRef .tc main_arg2)
  arg3 := V (Proc.devRef .tc main_arg3)
  arg4 := V (Proc.devRef .tc main_arg4)

variable (x : Args)

def c : IVec S91 32 := (fun i => lit0 (S91.rowMajor i))
def c_0 : IVec S_ 32 := (constantI S_ 32 0#32)
def v0 : IVec S32x32 32 := broadcastInDim S32x32 ![] bcast_S_S32x32 c_0
def v1 : IVec S32x32 1 := cmpi .slt x.arg3 v0
def c_1 : IVec S_ 32 := (constantI S_ 32 91#32)
def v2 : IVec S32x32 32 := broadcastInDim S32x32 ![] bcast_S_S32x32 c_1
def v3 : IVec S32x32 32 := addi x.arg3 v2
def v4 : IVec S32x32 32 := select (v1 x) (v3 x) x.arg3
def v5 : IVec S32x32x1 32 := broadcastInDim S32x32x1 ![0, 1] bcast_S32x32_S32x32x1_0_1 (v4 x)
def v6 : IVec S32x32 32 := Host.gather gather_S91_S32x32x1_S32x32_n_0_n_n_0_2_1 c (v5 x)
def v7 : FVec Ideal S32x32x2 .f32 := extractStridedSlice S32x32x2 ![0, 0, 0] x.arg2 slices_S32x32x4_S32x32x2_0_0_0
def v8 : FVec Ideal S32x32x2 .f32 := extractStridedSlice S32x32x2 ![0, 0, 0] x.arg2 slices_S32x32x4_S32x32x2_0_0_0
def v9 : FVec Ideal S32x32x2 .f32 := extractStridedSlice S32x32x2 ![0, 0, 2] x.arg2 slices_S32x32x4_S32x32x2_0_0_2
def v10 : FVec Ideal S32x32x2 .f32 := addf (v8 x) (v9 x)
def v11 : FVec Ideal S8732x2 .f32 := extractStridedSlice S8732x2 ![0, 2] x.arg4 slices_S8732x4_S8732x2_0_2
def cst : FVec Ideal S_ .f32 := (constant S_ .f32 0x40000000#32)
def v12 : FVec Ideal S8732x2 .f32 := broadcastInDim S8732x2 ![] bcast_S_S8732x2 cst
def v13 : FVec Ideal S8732x2 .f32 := Host.divf (v11 x) v12
def v14 : FVec Ideal S8732x2 .f32 := extractStridedSlice S8732x2 ![0, 0] x.arg4 slices_S8732x4_S8732x2_0_0
def v15 : FVec Ideal S8732x2 .f32 := subf (v14 x) (v13 x)
def v16 : FVec Ideal S8732x2 .f32 := extractStridedSlice S8732x2 ![0, 0] x.arg4 slices_S8732x4_S8732x2_0_0
def v17 : FVec Ideal S8732x2 .f32 := addf (v16 x) (v13 x)
def v18 : FVec Ideal S32x32x1x2 .f32 := broadcastInDim S32x32x1x2 ![0, 1, 3] bcast_S32x32x2_S32x32x1x2_0_1_3 (v7 x)
def v19 : FVec Ideal S1x1x8732x2 .f32 := broadcastInDim S1x1x8732x2 ![2, 3] bcast_S8732x2_S1x1x8732x2_2_3 (v15 x)
def v20 : FVec Ideal S32x32x8732x2 .f32 := broadcastInDim S32x32x8732x2 ![0, 1, 2, 3] bcast_S32x32x1x2_S32x32x8732x2_0_1_2_3 (v18 x)
def v21 : FVec Ideal S32x32x8732x2 .f32 := broadcastInDim S32x32x8732x2 ![0, 1, 2, 3] bcast_S1x1x8732x2_S32x32x8732x2_0_1_2_3 (v19 x)
def v22 : FVec Ideal S32x32x8732x2 .f32 := maximumf (v20 x) (v21 x)
def v23 : FVec Ideal S32x32x1x2 .f32 := broadcastInDim S32x32x1x2 ![0, 1, 3] bcast_S32x32x2_S32x32x1x2_0_1_3 (v10 x)
def v24 : FVec Ideal S1x1x8732x2 .f32 := broadcastInDim S1x1x8732x2 ![2, 3] bcast_S8732x2_S1x1x8732x2_2_3 (v17 x)
def v25 : FVec Ideal S32x32x8732x2 .f32 := broadcastInDim S32x32x8732x2 ![0, 1, 2, 3] bcast_S32x32x1x2_S32x32x8732x2_0_1_2_3 (v23 x)
def v26 : FVec Ideal S32x32x8732x2 .f32 := broadcastInDim S32x32x8732x2 ![0, 1, 2, 3] bcast_S1x1x8732x2_S32x32x8732x2_0_1_2_3 (v24 x)
def v27 : FVec Ideal S32x32x8732x2 .f32 := minimumf (v25 x) (v26 x)
def v28 : FVec Ideal S32x32x8732x2 .f32 := subf (v27 x) (v22 x)
def cst_2 : FVec Ideal S_ .f32 := (constant S_ .f32 0x00000000#32)
def v29 : FVec Ideal S32x32x8732x2 .f32 := broadcastInDim S32x32x8732x2 ![] bcast_S_S32x32x8732x2 cst_2
def v30 : FVec Ideal S32x32x8732x2 .f32 := maximumf (v28 x) v29
def v31 : FVec Ideal S32x32x8732x1 .f32 := extractStridedSlice S32x32x8732x1 ![0, 0, 0, 0] (v30 x) slices_S32x32x8732x2_S32x32x8732x1_0_0_0_0
def v32 : FVec Ideal S32x32x8732 .f32 := shapeCast S32x32x8732 (v31 x) shapeCasts_S32x32x8732x1_S32x32x8732
def v33 : FVec Ideal S32x32x8732x1 .f32 := extractStridedSlice S32x32x8732x1 ![0, 0, 0, 1] (v30 x) slices_S32x32x8732x2_S32x32x8732x1_0_0_0_1
def v34 : FVec Ideal S32x32x8732 .f32 := shapeCast S32x32x8732 (v33 x) shapeCasts_S32x32x8732x1_S32x32x8732
def v35 : FVec Ideal S32x32x8732 .f32 := mulf (v32 x) (v34 x)
def v36 : FVec Ideal S32x32x2 .f32 := subf (v10 x) (v7 x)
def v37 : FVec Ideal S8732x2 .f32 := subf (v17 x) (v15 x)
def v38 : FVec Ideal S32x32x1 .f32 := extractStridedSlice S32x32x1 ![0, 0, 0] (v36 x) slices_S32x32x2_S32x32x1_0_0_0
def v39 : FVec Ideal S32x32 .f32 := shapeCast S32x32 (v38 x) shapeCasts_S32x32x1_S32x32
def v40 : FVec Ideal S32x32x1 .f32 := extractStridedSlice S32x32x1 ![0, 0, 1] (v36 x) slices_S32x32x2_S32x32x1_0_0_1
def v41 : FVec Ideal S32x32 .f32 := shapeCast S32x32 (v40 x) shapeCasts_S32x32x1_S32x32
def v42 : FVec Ideal S32x32 .f32 := mulf (v39 x) (v41 x)
def v43 : FVec Ideal S8732x1 .f32 := extractStridedSlice S8732x1 ![0, 0] (v37 x) slices_S8732x2_S8732x1_0_0
def v44 : FVec Ideal S8732 .f32 := shapeCast S8732 (v43 x) shapeCasts_S8732x1_S8732
def v45 : FVec Ideal S8732x1 .f32 := extractStridedSlice S8732x1 ![0, 1] (v37 x) slices_S8732x2_S8732x1_0_1
def v46 : FVec Ideal S8732 .f32 := shapeCast S8732 (v45 x) shapeCasts_S8732x1_S8732
def v47 : FVec Ideal S8732 .f32 := mulf (v44 x) (v46 x)
def v48 : FVec Ideal S32x32x1 .f32 := broadcastInDim S32x32x1 ![0, 1] bcast_S32x32_S32x32x1_0_1 (v42 x)
def v49 : FVec Ideal S1x1x8732 .f32 := broadcastInDim S1x1x8732 ![2] bcast_S8732_S1x1x8732_2 (v47 x)
def v50 : FVec Ideal S32x32x8732 .f32 := broadcastInDim S32x32x8732 ![0, 1, 2] bcast_S32x32x1_S32x32x8732_0_1_2 (v48 x)
def v51 : FVec Ideal S32x32x8732 .f32 := broadcastInDim S32x32x8732 ![0, 1, 2] bcast_S1x1x8732_S32x32x8732_0_1_2 (v49 x)
def v52 : FVec Ideal S32x32x8732 .f32 := addf (v50 x) (v51 x)
def v53 : FVec Ideal S32x32x8732 .f32 := subf (v52 x) (v35 x)
def v54 : FVec Ideal S32x32x8732 .f32 := Host.divf (v35 x) (v53 x)
def v55 : IVec S32 32 := (iotaInDim S32 32 0)
def v56 : IVec S32x1 32 := broadcastInDim S32x1 ![0] bcast_S32_S32x1_0 v55
def cst_3 : FVec Ideal S_ .f32 := (constant S_ .f32 0xFF800000#32)
def v57 : FVec Ideal S32x8732 .f32 := Host.reduce FloatOps.maximumf (v54 x) cst_3 reducesTo_S32x32x8732_S32x8732_d1 h_S_
def call0_v0 : IVec S32x32x8732 32 := (iotaInDim S32x32x8732 32 1)
def call0_cst : FVec Ideal S_ .f32 := (constant S_ .f32 0xFF800000#32)
def call0_c : IVec S_ 32 := (constantI S_ 32 0#32)
def call0_v1_0 : FVec Ideal S32x8732 .f32 := fun j => (Host.argReduce reducer_argmax_f32_i32 (v54 x) call0_v0 call0_cst call0_c reducesTo_S32x32x8732_S32x8732_d1 h_S_ j).1
def v58 : IVec S32x8732 32 := fun j => (Host.argReduce reducer_argmax_f32_i32 (v54 x) call0_v0 call0_cst call0_c reducesTo_S32x32x8732_S32x8732_d1 h_S_ j).2
def call1_v0 : IVec S32x32x8732 32 := (iotaInDim S32x32x8732 32 2)
def call1_cst : FVec Ideal S_ .f32 := (constant S_ .f32 0xFF800000#32)
def call1_c : IVec S_ 32 := (constantI S_ 32 0#32)
def call1_v1_0 : FVec Ideal S32x32 .f32 := fun j => (Host.argReduce reducer_argmax_f32_i32 (v54 x) call1_v0 call1_cst call1_c reducesTo_S32x32x8732_S32x32_d2 h_S_ j).1
def v59 : IVec S32x32 32 := fun j => (Host.argReduce reducer_argmax_f32_i32 (v54 x) call1_v0 call1_cst call1_c reducesTo_S32x32x8732_S32x32_d2 h_S_ j).2
def v60 : IVec S32 32 := (iotaInDim S32 32 0)
def v61 : IVec S32x32 32 := broadcastInDim S32x32 ![1] bcast_S32_S32x32_1 v60
def v62 : IVec S32x32 32 := broadcastInDim S32x32 ![0, 1] bcast_S32x1_S32x32_0_1 v56
def v63 : IVec S32x32x1 32 := broadcastInDim S32x32x1 ![0, 1] bcast_S32x32_S32x32x1_0_1 v62
def v64 : IVec S32x32x1 32 := broadcastInDim S32x32x1 ![0, 1] bcast_S32x32_S32x32x1_0_1 (v59 x)
def v65 : IVec S32x32x2 32 := concatenate S32x32x2 2 [⟨S32x32x1, v63⟩, ⟨S32x32x1, (v64 x)⟩] concatenates_S32x32x1_S32x32x1_S32x32x2_d2
def v66 : IVec S32x8732 32 := Host.scatter scatter_S32x8732_S32x32x2_S32x32_n_01_01_2 (fun _ b => b) (v58 x) (v65 x) v61
def v67 : IVec S32x32 32 := broadcastInDim S32x32 ![0, 1] bcast_S32x1_S32x32_0_1 v56
def v68 : IVec S32x32x1 32 := broadcastInDim S32x32x1 ![0, 1] bcast_S32x32_S32x32x1_0_1 v67
def v69 : IVec S32x32x1 32 := broadcastInDim S32x32x1 ![0, 1] bcast_S32x32_S32x32x1_0_1 (v59 x)
def v70 : IVec S32x32x2 32 := concatenate S32x32x2 2 [⟨S32x32x1, v68⟩, ⟨S32x32x1, (v69 x)⟩] concatenates_S32x32x1_S32x32x1_S32x32x2_d2
def cst_4 : FVec Ideal S_ .f32 := (constant S_ .f32 0x3F800000#32)
def v71 : FVec Ideal S32x32 .f32 := broadcastInDim S32x32 ![] bcast_S_S32x32 cst_4
def v72 : FVec Ideal S32x8732 .f32 := Host.scatter scatter_S32x8732_S32x32x2_S32x32_n_01_01_2 (fun _ b => b) (v57 x) (v70 x) v71
def v73 : IVec S32x8732 32 := broadcastInDim S32x8732 ![0, 1] bcast_S32x1_S32x8732_0_1 v56
def v74 : IVec S32x8732x1 32 := broadcastInDim S32x8732x1 ![0, 1] bcast_S32x8732_S32x8732x1_0_1 v73
def v75 : IVec S32x8732x1 32 := broadcastInDim S32x8732x1 ![0, 1] bcast_S32x8732_S32x8732x1_0_1 (v66 x)
def v76 : IVec S32x8732x2 32 := concatenate S32x8732x2 2 [⟨S32x8732x1, v74⟩, ⟨S32x8732x1, (v75 x)⟩] concatenates_S32x8732x1_S32x8732x1_S32x8732x2_d2
def v77 : IVec S32x8732 32 := Host.gather gather_S32x32_S32x8732x2_S32x8732_n_01_n_n_01_2_11 (v6 x) (v76 x)
def cst_5 : FVec Ideal S_ .f32 := (constant S_ .f32 0x3F000000#32)
def v78 : FVec Ideal S32x8732 .f32 := broadcastInDim S32x8732 ![] bcast_S_S32x8732 cst_5
def v79 : IVec S32x8732 1 := cmpf .olt (v72 x) v78
def c_6 : IVec S_ 32 := (constantI S_ 32 0#32)
def call2_v0 : IVec S_ 32 := id c_6
def call2_v1 : IVec S32x8732 32 := (broadcastInDim S32x8732 ![] bcast_S_S32x8732) call2_v0
def v80 : IVec S32x8732 32 := select (v79 x) call2_v1 (v77 x)
def v81 : IVec S32x8732 32 := broadcastInDim S32x8732 ![0, 1] bcast_S32x1_S32x8732_0_1 v56
def v82 : IVec S32x8732x1 32 := broadcastInDim S32x8732x1 ![0, 1] bcast_S32x8732_S32x8732x1_0_1 v81
def v83 : IVec S32x8732x1 32 := broadcastInDim S32x8732x1 ![0, 1] bcast_S32x8732_S32x8732x1_0_1 (v66 x)
def v84 : IVec S32x8732x2 32 := concatenate S32x8732x2 2 [⟨S32x8732x1, v82⟩, ⟨S32x8732x1, (v83 x)⟩] concatenates_S32x8732x1_S32x8732x1_S32x8732x2_d2
def v85 : FVec Ideal S32x8732x4 .f32 := Host.gather gather_S32x32x4_S32x8732x2_S32x8732x4_2_01_n_n_01_2_114 x.arg2 (v84 x)
def v86 : FVec Ideal S32x8732x2 .f32 := extractStridedSlice S32x8732x2 ![0, 0, 0] (v85 x) slices_S32x8732x4_S32x8732x2_0_0_0
def v87 : FVec Ideal S32x8732x2 .f32 := extractStridedSlice S32x8732x2 ![0, 0, 2] (v85 x) slices_S32x8732x4_S32x8732x2_0_0_2
def cst_7 : FVec Ideal S_ .f32 := (constant S_ .f32 0x40000000#32)
def v88 : FVec Ideal S32x8732x2 .f32 := broadcastInDim S32x8732x2 ![] bcast_S_S32x8732x2 cst_7
def v89 : FVec Ideal S32x8732x2 .f32 := Host.divf (v87 x) v88
def v90 : FVec Ideal S32x8732x2 .f32 := addf (v86 x) (v89 x)
def v91 : FVec Ideal S8732x2 .f32 := extractStridedSlice S8732x2 ![0, 0] x.arg4 slices_S8732x4_S8732x2_0_0
def v92 : FVec Ideal S1x8732x2 .f32 := broadcastInDim S1x8732x2 ![1, 2] bcast_S8732x2_S1x8732x2_1_2 (v91 x)
def v93 : FVec Ideal S32x8732x2 .f32 := broadcastInDim S32x8732x2 ![0, 1, 2] bcast_S1x8732x2_S32x8732x2_0_1_2 (v92 x)
def v94 : FVec Ideal S32x8732x2 .f32 := subf (v90 x) (v93 x)
def v95 : FVec Ideal S8732x2 .f32 := extractStridedSlice S8732x2 ![0, 2] x.arg4 slices_S8732x4_S8732x2_0_2
def cst_8 : FVec Ideal S_ .f32 := (constant S_ .f32 0x41200000#32)
def v96 : FVec Ideal S8732x2 .f32 := broadcastInDim S8732x2 ![] bcast_S_S8732x2 cst_8
def v97 : FVec Ideal S8732x2 .f32 := Host.divf (v95 x) v96
def v98 : FVec Ideal S1x8732x2 .f32 := broadcastInDim S1x8732x2 ![1, 2] bcast_S8732x2_S1x8732x2_1_2 (v97 x)
def v99 : FVec Ideal S32x8732x2 .f32 := broadcastInDim S32x8732x2 ![0, 1, 2] bcast_S1x8732x2_S32x8732x2_0_1_2 (v98 x)
def v100 : FVec Ideal S32x8732x2 .f32 := Host.divf (v94 x) (v99 x)
def v101 : FVec Ideal S32x8732x2 .f32 := extractStridedSlice S32x8732x2 ![0, 0, 2] (v85 x) slices_S32x8732x4_S32x8732x2_0_0_2
def v102 : FVec Ideal S8732x2 .f32 := extractStridedSlice S8732x2 ![0, 2] x.arg4 slices_S8732x4_S8732x2_0_2
def v103 : FVec Ideal S1x8732x2 .f32 := broadcastInDim S1x8732x2 ![1, 2] bcast_S8732x2_S1x8732x2_1_2 (v102 x)
def v104 : FVec Ideal S32x8732x2 .f32 := broadcastInDim S32x8732x2 ![0, 1, 2] bcast_S1x8732x2_S32x8732x2_0_1_2 (v103 x)
def v105 : FVec Ideal S32x8732x2 .f32 := Host.divf (v101 x) (v104 x)
def v106 : FVec Ideal S32x8732x2 .f32 := Host.log (v105 x)
def cst_9 : FVec Ideal S_ .f32 := (constant S_ .f32 0x40A00000#32)
def v107 : FVec Ideal S32x8732x2 .f32 := broadcastInDim S32x8732x2 ![] bcast_S_S32x8732x2 cst_9
def v108 : FVec Ideal S32x8732x2 .f32 := mulf (v106 x) v107
def v109 : FVec Ideal S32x8732x4 .f32 := concatenate S32x8732x4 2 [⟨S32x8732x2, (v100 x)⟩, ⟨S32x8732x2, (v108 x)⟩] concatenates_S32x8732x2_S32x8732x2_S32x8732x4_d2
def c_10 : IVec S_ 32 := (constantI S_ 32 0#32)
def v110 : IVec S32x8732 32 := broadcastInDim S32x8732 ![] bcast_S_S32x8732 c_10
def v111 : IVec S32x8732 1 := cmpi .ne (v80 x) v110
def v112 : FVec Ideal S32x8732x4 .f32 := subf x.arg0 (v109 x)
def v113 : FVec Ideal S32x8732x4 .f32 := Host.absf (v112 x)
def v114 : IVec S32x8732x1 1 := broadcastInDim S32x8732x1 ![0, 1] bcast_S32x8732_S32x8732x1_0_1 (v111 x)
def v115 : FVec Ideal S32x8732x1 .f32 := uitofp .f32 (v114 x)
def v116 : FVec Ideal S32x8732x4 .f32 := broadcastInDim S32x8732x4 ![0, 1, 2] bcast_S32x8732x1_S32x8732x4_0_1_2 (v115 x)
def v117 : FVec Ideal S32x8732x4 .f32 := mulf (v113 x) (v116 x)
def call3_cst : FVec Ideal S_ .f32 := (constant S_ .f32 0xFF800000#32)
def call3_v0 : FVec Ideal S32x8732 .f32 := Host.reduce FloatOps.maximumf x.arg1 call3_cst reducesTo_S32x8732x81_S32x8732_d2 h_S_
def call3_cst_0 : FVec Ideal S_ .f32 := (constant S_ .f32 0xFF800000#32)
def call3_v1 : FVec Ideal S32x8732 .f32 := (broadcastInDim S32x8732 ![] bcast_S_S32x8732) call3_cst_0
def call3_v2 : FVec Ideal S32x8732 .f32 := maximumf call3_v1 (call3_v0 x)
def call3_v3 : FVec Ideal S32x8732x1 .f32 := (broadcastInDim S32x8732x1 ![0, 1] bcast_S32x8732_S32x8732x1_0_1) (call3_v2 x)
def call3_v4 : FVec Ideal S32x8732x81 .f32 := (broadcastInDim S32x8732x81 ![0, 1, 2] bcast_S32x8732x1_S32x8732x81_0_1_2) (call3_v3 x)
def call3_v5 : FVec Ideal S32x8732x81 .f32 := subf x.arg1 (call3_v4 x)
def call3_v6 : FVec Ideal S32x8732x81 .f32 := Host.exp (call3_v5 x)
def call3_cst_1 : FVec Ideal S_ .f32 := (constant S_ .f32 0x00000000#32)
def call3_v7 : FVec Ideal S32x8732 .f32 := Host.reduceAdd (call3_v6 x) call3_cst_1 reducesTo_S32x8732x81_S32x8732_d2 h_S_
def call3_v8 : FVec Ideal S32x8732x1 .f32 := (broadcastInDim S32x8732x1 ![0, 1] bcast_S32x8732_S32x8732x1_0_1) (call3_v7 x)
def call3_v9 : FVec Ideal S32x8732x1 .f32 := Host.log (call3_v8 x)
def call3_v10 : FVec Ideal S32x8732x81 .f32 := (broadcastInDim S32x8732x81 ![0, 1, 2] bcast_S32x8732x1_S32x8732x81_0_1_2) (call3_v9 x)
def v118 : FVec Ideal S32x8732x81 .f32 := subf (call3_v5 x) (call3_v10 x)
def v119 : IVec S32x8732x1 32 := broadcastInDim S32x8732x1 ![0, 1] bcast_S32x8732_S32x8732x1_0_1 (v80 x)
def call4_v0 : IVec S32x8732x1x1 32 := shapeCast S32x8732x1x1 (v119 x) shapeCasts_S32x8732x1_S32x8732x1x1
def v120 : FVec Ideal S32x8732x1 .f32 := Host.gather gather_S32x8732x81_S32x8732x1x1_S32x8732x1_n_2_01_01_2_3_111 (v118 x) (call4_v0 x)
def v121 : FVec Ideal S32x8732 .f32 := shapeCast S32x8732 (v120 x) shapeCasts_S32x8732x1_S32x8732
def v122 : FVec Ideal S32x8732 .f32 := Host.negf (v121 x)
def v123 : IVec S32x8732 32 := extui 32 (v111 x) natLt_1_32
def c_11 : IVec S_ 32 := (constantI S_ 32 0#32)
def v124 : IVec S_ 32 := Host.reduce IntOp.addi (v123 x) c_11 reducesTo_S32x8732_S_d0_1 h_S_
def cst_12 : FVec Ideal S_ .f32 := (constant S_ .f32 0x00000000#32)
def v125 : FVec Ideal S_ .f32 := Host.reduceAdd (v117 x) cst_12 reducesTo_S32x8732x4_S_d0_1_2 h_S_
def v126 : FVec Ideal S_ .f32 := sitofp .f32 (v124 x)
def cst_13 : FVec Ideal S_ .f32 := (constant S_ .f32 0x40800000#32)
def v127 : FVec Ideal S_ .f32 := mulf (v126 x) cst_13
def v128 : FVec Ideal S_ .f32 := Host.divf (v125 x) (v127 x)
def v129 : IVec S32x8732 32 := extui 32 (v111 x) natLt_1_32
def c_14 : IVec S_ 32 := (constantI S_ 32 0#32)
def v130 : IVec S32 32 := Host.reduce IntOp.addi (v129 x) c_14 reducesTo_S32x8732_S32_d1 h_S_
def c_15 : IVec S_ 32 := (constantI S_ 32 3#32)
def v131 : IVec S32 32 := broadcastInDim S32 ![] bcast_S_S32 c_15
def v132 : IVec S32 32 := muli v131 (v130 x)
def v133 : FVec Ideal S32x8732 .f32 := uitofp .f32 (v111 x)
def v134 : FVec Ideal S32x8732 .f32 := mulf (v122 x) (v133 x)
def cst_16 : FVec Ideal S_ .f32 := (constant S_ .f32 0x00000000#32)
def v135 : FVec Ideal S_ .f32 := Host.reduceAdd (v134 x) cst_16 reducesTo_S32x8732_S_d0_1 h_S_
def cst_17 : FVec Ideal S_ .f32 := (constant S_ .f32 0x00000000#32)
def call5_v0 : FVec Ideal S_ .f32 := id cst_17
def call5_v1 : FVec Ideal S32x8732 .f32 := (broadcastInDim S32x8732 ![] bcast_S_S32x8732) call5_v0
def v136 : FVec Ideal S32x8732 .f32 := select (v111 x) call5_v1 (v122 x)
def v137 : FVec Ideal S32x8732 .f32 := Host.negf (v136 x)
def v138 : FVec Ideal S32x8732 .f32 := Host.sort S32x8732 1 comparator_f32_d1 (v137 x)
def v139 : FVec Ideal S32x8732 .f32 := Host.negf (v138 x)
def v140 : IVec S8732 32 := (iotaInDim S8732 32 0)
def v141 : IVec S1x8732 32 := broadcastInDim S1x8732 ![1] bcast_S8732_S1x8732_1 v140
def v142 : IVec S32x1 32 := broadcastInDim S32x1 ![0] bcast_S32_S32x1_0 (v132 x)
def v143 : IVec S32x8732 32 := broadcastInDim S32x8732 ![0, 1] bcast_S1x8732_S32x8732_0_1 v141
def v144 : IVec S32x8732 32 := broadcastInDim S32x8732 ![0, 1] bcast_S32x1_S32x8732_0_1 (v142 x)
def v145 : IVec S32x8732 1 := cmpi .slt v143 (v144 x)
def v146 : FVec Ideal S32x8732 .f32 := uitofp .f32 (v145 x)
def v147 : FVec Ideal S32x8732 .f32 := mulf (v139 x) (v146 x)
def cst_18 : FVec Ideal S_ .f32 := (constant S_ .f32 0x00000000#32)
def v148 : FVec Ideal S_ .f32 := Host.reduceAdd (v147 x) cst_18 reducesTo_S32x8732_S_d0_1 h_S_
def v149 : FVec Ideal S_ .f32 := addf (v148 x) (v135 x)
def v150 : FVec Ideal S_ .f32 := sitofp .f32 (v124 x)
def v151 : FVec Ideal S_ .f32 := Host.divf (v149 x) (v150 x)
def cst_19 : FVec Ideal S_ .f32 := (constant S_ .f32 0x3F800000#32)
def v152 : FVec Ideal S_ .f32 := mulf cst_19 (v128 x)
def v153 : FVec Ideal S_ .f32 := addf (v151 x) (v152 x)
def v154 : IVec S128 32 := (iotaInDim S128 32 0)
def c_20 : IVec S_ 32 := (constantI S_ 32 0#32)
def v155 : IVec S128 32 := broadcastInDim S128 ![] bcast_S_S128 c_20
def v156 : IVec S128 1 := cmpi .eq v154 v155
def cst_21 : FVec Ideal S_ .f32 := (constant S_ .f32 0x00000000#32)
def call7_v0 : FVec Ideal S_ .f32 := id cst_21
def call7_v1 : FVec Ideal S128 .f32 := (broadcastInDim S128 ![] bcast_S_S128) (v153 x)
def call7_v2 : FVec Ideal S128 .f32 := (broadcastInDim S128 ![] bcast_S_S128) call7_v0
def v157 : FVec Ideal S128 .f32 := select v156 (call7_v1 x) call7_v2
def v158 : FVec Ideal S1x128 .f32 := broadcastInDim S1x128 ![1] bcast_S128_S1x128_1 (v157 x)

end Cert.Ref

end

end
-- ==== Proof.RefReads0.lean ====
module

public import proofs.«01_k».proof.Proof.RefArrays

@[expose] public section

/-! What the run of the reference leaves in each buffer: operations 0 to 52. -/

namespace Cert.Ref

open Cert.ReferenceIdeal Cert.ReferenceIdeal.Gen Idealize.ShloMosaic Idealize.ShloMosaic.TcCoe Idealize.SL.Sem
open Idealize.ShloMosaic.StableHlo

set_option maxRecDepth 16384

variable (V : Valuation τ sig (Elt Ideal))

theorem at_arg0 : after line V (Proc.devRef .tc main_arg0) = (args V).arg0 :=
  after_unwritten lineOut line_writes (by decide) V
theorem at_arg1 : after line V (Proc.devRef .tc main_arg1) = (args V).arg1 :=
  after_unwritten lineOut line_writes (by decide) V
theorem at_arg2 : after line V (Proc.devRef .tc main_arg2) = (args V).arg2 :=
  after_unwritten lineOut line_writes (by decide) V
theorem at_arg3 : after line V (Proc.devRef .tc main_arg3) = (args V).arg3 :=
  after_unwritten lineOut line_writes (by decide) V
theorem at_arg4 : after line V (Proc.devRef .tc main_arg4) = (args V).arg4 :=
  after_unwritten lineOut line_writes (by decide) V
theorem at_c : after line V (Proc.devRef .tc main_c) = c :=
  (read_nullary line_writes 0 rfl (by decide) V).trans rfl
theorem at_c_0 : after line V (Proc.devRef .tc main_c_0) = c_0 :=
  (read_nullary line_writes 1 rfl (by decide) V).trans rfl
theorem at_v0 : after line V (Proc.devRef .tc main_v0) = v0 :=
  (read_unary line_writes 2 rfl (by decide) (by decide) V).trans (by rw [at_c_0]; rfl)
theorem at_v1 : after line V (Proc.devRef .tc main_v1) = v1 (args V) :=
  (read_binary line_writes 3 rfl (by decide) (by decide) (by decide) V).trans (by rw [at_arg3, at_v0]; rfl)
theorem at_c_1 : after line V (Proc.devRef .tc main_c_1) = c_1 :=
  (read_nullary line_writes 4 rfl (by decide) V).trans rfl
theorem at_v2 : after line V (Proc.devRef .tc main_v2) = v2 :=
  (read_unary line_writes 5 rfl (by decide) (by decide) V).trans (by rw [at_c_1]; rfl)
theorem at_v3 : after line V (Proc.devRef .tc main_v3) = v3 (args V) :=
  (read_binary line_writes 6 rfl (by decide) (by decide) (by decide) V).trans (by rw [at_arg3, at_v2]; rfl)
theorem at_v4 : after line V (Proc.devRef .tc main_v4) = v4 (args V) :=
  (read_ternary line_writes 7 rfl (by decide) (by decide) (by decide) (by decide) V).trans (by rw [at_v1, at_v3, at_arg3]; rfl)
theorem at_v5 : after line V (Proc.devRef .tc main_v5) = v5 (args V) :=
  (read_unary line_writes 8 rfl (by decide) (by decide) V).trans (by rw [at_v4]; rfl)
theorem at_v6 : after line V (Proc.devRef .tc main_v6) = v6 (args V) :=
  (read_binary line_writes 9 rfl (by decide) (by decide) (by decide) V).trans (by rw [at_c, at_v5]; rfl)
theorem at_v7 : after line V (Proc.devRef .tc main_v7) = v7 (args V) :=
  (read_unary line_writes 10 rfl (by decide) (by decide) V).trans (by rw [at_arg2]; rfl)
theorem at_v8 : after line V (Proc.devRef .tc main_v8) = v8 (args V) :=
  (read_unary line_writes 11 rfl (by decide) (by decide) V).trans (by rw [at_arg2]; rfl)
theorem at_v9 : after line V (Proc.devRef .tc main_v9) = v9 (args V) :=
  (read_unary line_writes 12 rfl (by decide) (by decide) V).trans (by rw [at_arg2]; rfl)
theorem at_v10 : after line V (Proc.devRef .tc main_v10) = v10 (args V) :=
  (read_binary line_writes 13 rfl (by decide) (by decide) (by decide) V).trans (by rw [at_v8, at_v9]; rfl)
theorem at_v11 : after line V (Proc.devRef .tc main_v11) = v11 (args V) :=
  (read_unary line_writes 14 rfl (by decide) (by decide) V).trans (by rw [at_arg4]; rfl)
theorem at_cst : after line V (Proc.devRef .tc main_cst) = cst :=
  (read_nullary line_writes 15 rfl (by decide) V).trans rfl
theorem at_v12 : after line V (Proc.devRef .tc main_v12) = v12 :=
  (read_unary line_writes 16 rfl (by decide) (by decide) V).trans (by rw [at_cst]; rfl)
theorem at_v13 : after line V (Proc.devRef .tc main_v13) = v13 (args V) :=
  (read_binary line_writes 17 rfl (by decide) (by decide) (by decide) V).trans (by rw [at_v11, at_v12]; rfl)
theorem at_v14 : after line V (Proc.devRef .tc main_v14) = v14 (args V) :=
  (read_unary line_writes 18 rfl (by decide) (by decide) V).trans (by rw [at_arg4]; rfl)
theorem at_v15 : after line V (Proc.devRef .tc main_v15) = v15 (args V) :=
  (read_binary line_writes 19 rfl (by decide) (by decide) (by decide) V).trans (by rw [at_v14, at_v13]; rfl)
theorem at_v16 : after line V (Proc.devRef .tc main_v16) = v16 (args V) :=
  (read_unary line_writes 20 rfl (by decide) (by decide) V).trans (by rw [at_arg4]; rfl)
theorem at_v17 : after line V (Proc.devRef .tc main_v17) = v17 (args V) :=
  (read_binary line_writes 21 rfl (by decide) (by decide) (by decide) V).trans (by rw [at_v16, at_v13]; rfl)
theorem at_v18 : after line V (Proc.devRef .tc main_v18) = v18 (args V) :=
  (read_unary line_writes 22 rfl (by decide) (by decide) V).trans (by rw [at_v7]; rfl)
theorem at_v19 : after line V (Proc.devRef .tc main_v19) = v19 (args V) :=
  (read_unary line_writes 23 rfl (by decide) (by decide) V).trans (by rw [at_v15]; rfl)
theorem at_v20 : after line V (Proc.devRef .tc main_v20) = v20 (args V) :=
  (read_unary line_writes 24 rfl (by decide) (by decide) V).trans (by rw [at_v18]; rfl)
theorem at_v21 : after line V (Proc.devRef .tc main_v21) = v21 (args V) :=
  (read_unary line_writes 25 rfl (by decide) (by decide) V).trans (by rw [at_v19]; rfl)
theorem at_v22 : after line V (Proc.devRef .tc main_v22) = v22 (args V) :=
  (read_binary line_writes 26 rfl (by decide) (by decide) (by decide) V).trans (by rw [at_v20, at_v21]; rfl)
theorem at_v23 : after line V (Proc.devRef .tc main_v23) = v23 (args V) :=
  (read_unary line_writes 27 rfl (by decide) (by decide) V).trans (by rw [at_v10]; rfl)
theorem at_v24 : after line V (Proc.devRef .tc main_v24) = v24 (args V) :=
  (read_unary line_writes 28 rfl (by decide) (by decide) V).trans (by rw [at_v17]; rfl)
theorem at_v25 : after line V (Proc.devRef .tc main_v25) = v25 (args V) :=
  (read_unary line_writes 29 rfl (by decide) (by decide) V).trans (by rw [at_v23]; rfl)
theorem at_v26 : after line V (Proc.devRef .tc main_v26) = v26 (args V) :=
  (read_unary line_writes 30 rfl (by decide) (by decide) V).trans (by rw [at_v24]; rfl)
theorem at_v27 : after line V (Proc.devRef .tc main_v27) = v27 (args V) :=
  (read_binary line_writes 31 rfl (by decide) (by decide) (by decide) V).trans (by rw [at_v25, at_v26]; rfl)
theorem at_v28 : after line V (Proc.devRef .tc main_v28) = v28 (args V) :=
  (read_binary line_writes 32 rfl (by decide) (by decide) (by decide) V).trans (by rw [at_v27, at_v22]; rfl)
theorem at_cst_2 : after line V (Proc.devRef .tc main_cst_2) = cst_2 :=
  (read_nullary line_writes 33 rfl (by decide) V).trans rfl
theorem at_v29 : after line V (Proc.devRef .tc main_v29) = v29 :=
  (read_unary line_writes 34 rfl (by decide) (by decide) V).trans (by rw [at_cst_2]; rfl)
theorem at_v30 : after line V (Proc.devRef .tc main_v30) = v30 (args V) :=
  (read_binary line_writes 35 rfl (by decide) (by decide) (by decide) V).trans (by rw [at_v28, at_v29]; rfl)
theorem at_v31 : after line V (Proc.devRef .tc main_v31) = v31 (args V) :=
  (read_unary line_writes 36 rfl (by decide) (by decide) V).trans (by rw [at_v30]; rfl)
theorem at_v32 : after line V (Proc.devRef .tc main_v32) = v32 (args V) :=
  (read_reshape line_writes 37 rfl (by decide) (by decide) V).trans (by rw [at_v31]; rfl)
theorem at_v33 : after line V (Proc.devRef .tc main_v33) = v33 (args V) :=
  (read_unary line_writes 38 rfl (by decide) (by decide) V).trans (by rw [at_v30]; rfl)
theorem at_v34 : after line V (Proc.devRef .tc main_v34) = v34 (args V) :=
  (read_reshape line_writes 39 rfl (by decide) (by decide) V).trans (by rw [at_v33]; rfl)
theorem at_v35 : after line V (Proc.devRef .tc main_v35) = v35 (args V) :=
  (read_binary line_writes 40 rfl (by decide) (by decide) (by decide) V).trans (by rw [at_v32, at_v34]; rfl)
theorem at_v36 : after line V (Proc.devRef .tc main_v36) = v36 (args V) :=
  (read_binary line_writes 41 rfl (by decide) (by decide) (by decide) V).trans (by rw [at_v10, at_v7]; rfl)
theorem at_v37 : after line V (Proc.devRef .tc main_v37) = v37 (args V) :=
  (read_binary line_writes 42 rfl (by decide) (by decide) (by decide) V).trans (by rw [at_v17, at_v15]; rfl)
theorem at_v38 : after line V (Proc.devRef .tc main_v38) = v38 (args V) :=
  (read_unary line_writes 43 rfl (by decide) (by decide) V).trans (by rw [at_v36]; rfl)
theorem at_v39 : after line V (Proc.devRef .tc main_v39) = v39 (args V) :=
  (read_reshape line_writes 44 rfl (by decide) (by decide) V).trans (by rw [at_v38]; rfl)
theorem at_v40 : after line V (Proc.devRef .tc main_v40) = v40 (args V) :=
  (read_unary line_writes 45 rfl (by decide) (by decide) V).trans (by rw [at_v36]; rfl)
theorem at_v41 : after line V (Proc.devRef .tc main_v41) = v41 (args V) :=
  (read_reshape line_writes 46 rfl (by decide) (by decide) V).trans (by rw [at_v40]; rfl)
theorem at_v42 : after line V (Proc.devRef .tc main_v42) = v42 (args V) :=
  (read_binary line_writes 47 rfl (by decide) (by decide) (by decide) V).trans (by rw [at_v39, at_v41]; rfl)
theorem at_v43 : after line V (Proc.devRef .tc main_v43) = v43 (args V) :=
  (read_unary line_writes 48 rfl (by decide) (by decide) V).trans (by rw [at_v37]; rfl)
theorem at_v44 : after line V (Proc.devRef .tc main_v44) = v44 (args V) :=
  (read_reshape line_writes 49 rfl (by decide) (by decide) V).trans (by rw [at_v43]; rfl)
theorem at_v45 : after line V (Proc.devRef .tc main_v45) = v45 (args V) :=
  (read_unary line_writes 50 rfl (by decide) (by decide) V).trans (by rw [at_v37]; rfl)
theorem at_v46 : after line V (Proc.devRef .tc main_v46) = v46 (args V) :=
  (read_reshape line_writes 51 rfl (by decide) (by decide) V).trans (by rw [at_v45]; rfl)
theorem at_v47 : after line V (Proc.devRef .tc main_v47) = v47 (args V) :=
  (read_binary line_writes 52 rfl (by decide) (by decide) (by decide) V).trans (by rw [at_v44, at_v46]; rfl)

end Cert.Ref

end
-- ==== Proof.RefReads1.lean ====
module

public import proofs.«01_k».proof.Proof.RefReads0

@[expose] public section

/-! What the run of the reference leaves in each buffer: operations 53 to 105. -/

namespace Cert.Ref

open Cert.ReferenceIdeal Cert.ReferenceIdeal.Gen Idealize.ShloMosaic Idealize.ShloMosaic.TcCoe Idealize.SL.Sem
open Idealize.ShloMosaic.StableHlo

set_option maxRecDepth 16384

variable (V : Valuation τ sig (Elt Ideal))

theorem at_v48 : after line V (Proc.devRef .tc main_v48) = v48 (args V) :=
  (read_unary line_writes 53 rfl (by decide) (by decide) V).trans (by rw [at_v42]; rfl)
theorem at_v49 : after line V (Proc.devRef .tc main_v49) = v49 (args V) :=
  (read_unary line_writes 54 rfl (by decide) (by decide) V).trans (by rw [at_v47]; rfl)
theorem at_v50 : after line V (Proc.devRef .tc main_v50) = v50 (args V) :=
  (read_unary line_writes 55 rfl (by decide) (by decide) V).trans (by rw [at_v48]; rfl)
theorem at_v51 : after line V (Proc.devRef .tc main_v51) = v51 (args V) :=
  (read_unary line_writes 56 rfl (by decide) (by decide) V).trans (by rw [at_v49]; rfl)
theorem at_v52 : after line V (Proc.devRef .tc main_v52) = v52 (args V) :=
  (read_binary line_writes 57 rfl (by decide) (by decide) (by decide) V).trans (by rw [at_v50, at_v51]; rfl)
theorem at_v53 : after line V (Proc.devRef .tc main_v53) = v53 (args V) :=
  (read_binary line_writes 58 rfl (by decide) (by decide) (by decide) V).trans (by rw [at_v52, at_v35]; rfl)
theorem at_v54 : after line V (Proc.devRef .tc main_v54) = v54 (args V) :=
  (read_binary line_writes 59 rfl (by decide) (by decide) (by decide) V).trans (by rw [at_v35, at_v53]; rfl)
theorem at_v55 : after line V (Proc.devRef .tc main_v55) = v55 :=
  (read_nullary line_writes 60 rfl (by decide) V).trans rfl
theorem at_v56 : after line V (Proc.devRef .tc main_v56) = v56 :=
  (read_unary line_writes 61 rfl (by decide) (by decide) V).trans (by rw [at_v55]; rfl)
theorem at_cst_3 : after line V (Proc.devRef .tc main_cst_3) = cst_3 :=
  (read_nullary line_writes 62 rfl (by decide) V).trans rfl
theorem at_v57 : after line V (Proc.devRef .tc main_v57) = v57 (args V) :=
  (read_binary line_writes 63 rfl (by decide) (by decide) (by decide) V).trans (by rw [at_v54, at_cst_3]; rfl)
theorem at_call0_v0 : after line V (Proc.devRef .tc main_call0_v0) = call0_v0 := by
  have h := read_nullaryT line_writes 64 rfl (by decide) V
  simp only [TRef.ofBuf, cast_eq] at h
  exact h
theorem at_call0_cst : after line V (Proc.devRef .tc main_call0_cst) = call0_cst := by
  have h := read_nullaryT line_writes 65 rfl (by decide) V
  simp only [TRef.ofBuf, cast_eq] at h
  exact h
theorem at_call0_c : after line V (Proc.devRef .tc main_call0_c) = call0_c := by
  have h := read_nullaryT line_writes 66 rfl (by decide) V
  simp only [TRef.ofBuf, cast_eq] at h
  exact h
theorem at_call0_v1_0 : after line V (Proc.devRef .tc main_call0_v1_0) = call0_v1_0 (args V) := by
  have h := read_quaternaryT line_writes 67 rfl (by decide) (by decide) (by decide) (by decide) (by decide) V
  simp only [TRef.ofBuf, cast_eq, at_v54, at_call0_v0, at_call0_cst, at_call0_c] at h
  exact h
theorem at_v58 : after line V (Proc.devRef .tc main_v58) = v58 (args V) := by
  have h := read_quaternaryT line_writes 68 rfl (by decide) (by decide) (by decide) (by decide) (by decide) V
  simp only [TRef.ofBuf, cast_eq, at_v54, at_call0_v0, at_call0_cst, at_call0_c] at h
  exact h
theorem at_call1_v0 : after line V (Proc.devRef .tc main_call1_v0) = call1_v0 := by
  have h := read_nullaryT line_writes 69 rfl (by decide) V
  simp only [TRef.ofBuf, cast_eq] at h
  exact h
theorem at_call1_cst : after line V (Proc.devRef .tc main_call1_cst) = call1_cst := by
  have h := read_nullaryT line_writes 70 rfl (by decide) V
  simp only [TRef.ofBuf, cast_eq] at h
  exact h
theorem at_call1_c : after line V (Proc.devRef .tc main_call1_c) = call1_c := by
  have h := read_nullaryT line_writes 71 rfl (by decide) V
  simp only [TRef.ofBuf, cast_eq] at h
  exact h
theorem at_call1_v1_0 : after line V (Proc.devRef .tc main_call1_v1_0) = call1_v1_0 (args V) := by
  have h := read_quaternaryT line_writes 72 rfl (by decide) (by decide) (by decide) (by decide) (by decide) V
  simp only [TRef.ofBuf, cast_eq, at_v54, at_call1_v0, at_call1_cst, at_call1_c] at h
  exact h
theorem at_v59 : after line V (Proc.devRef .tc main_v59) = v59 (args V) := by
  have h := read_quaternaryT line_writes 73 rfl (by decide) (by decide) (by decide) (by decide) (by decide) V
  simp only [TRef.ofBuf, cast_eq, at_v54, at_call1_v0, at_call1_cst, at_call1_c] at h
  exact h
theorem at_v60 : after line V (Proc.devRef .tc main_v60) = v60 :=
  (read_nullary line_writes 74 rfl (by decide) V).trans rfl
theorem at_v61 : after line V (Proc.devRef .tc main_v61) = v61 :=
  (read_unary line_writes 75 rfl (by decide) (by decide) V).trans (by rw [at_v60]; rfl)
theorem at_v62 : after line V (Proc.devRef .tc main_v62) = v62 :=
  (read_unary line_writes 76 rfl (by decide) (by decide) V).trans (by rw [at_v56]; rfl)
theorem at_v63 : after line V (Proc.devRef .tc main_v63) = v63 :=
  (read_unary line_writes 77 rfl (by decide) (by decide) V).trans (by rw [at_v62]; rfl)
theorem at_v64 : after line V (Proc.devRef .tc main_v64) = v64 (args V) :=
  (read_unary line_writes 78 rfl (by decide) (by decide) V).trans (by rw [at_v59]; rfl)
theorem at_v65 : after line V (Proc.devRef .tc main_v65) = v65 (args V) :=
  (read_binary line_writes 79 rfl (by decide) (by decide) (by decide) V).trans (by rw [at_v63, at_v64]; rfl)
theorem at_v66 : after line V (Proc.devRef .tc main_v66) = v66 (args V) :=
  (read_ternary line_writes 80 rfl (by decide) (by decide) (by decide) (by decide) V).trans (by rw [at_v58, at_v65, at_v61]; rfl)
theorem at_v67 : after line V (Proc.devRef .tc main_v67) = v67 :=
  (read_unary line_writes 81 rfl (by decide) (by decide) V).trans (by rw [at_v56]; rfl)
theorem at_v68 : after line V (Proc.devRef .tc main_v68) = v68 :=
  (read_unary line_writes 82 rfl (by decide) (by decide) V).trans (by rw [at_v67]; rfl)
theorem at_v69 : after line V (Proc.devRef .tc main_v69) = v69 (args V) :=
  (read_unary line_writes 83 rfl (by decide) (by decide) V).trans (by rw [at_v59]; rfl)
theorem at_v70 : after line V (Proc.devRef .tc main_v70) = v70 (args V) :=
  (read_binary line_writes 84 rfl (by decide) (by decide) (by decide) V).trans (by rw [at_v68, at_v69]; rfl)
theorem at_cst_4 : after line V (Proc.devRef .tc main_cst_4) = cst_4 :=
  (read_nullary line_writes 85 rfl (by decide) V).trans rfl
theorem at_v71 : after line V (Proc.devRef .tc main_v71) = v71 :=
  (read_unary line_writes 86 rfl (by decide) (by decide) V).trans (by rw [at_cst_4]; rfl)
theorem at_v72 : after line V (Proc.devRef .tc main_v72) = v72 (args V) :=
  (read_ternary line_writes 87 rfl (by decide) (by decide) (by decide) (by decide) V).trans (by rw [at_v57, at_v70, at_v71]; rfl)
theorem at_v73 : after line V (Proc.devRef .tc main_v73) = v73 :=
  (read_unary line_writes 88 rfl (by decide) (by decide) V).trans (by rw [at_v56]; rfl)
theorem at_v74 : after line V (Proc.devRef .tc main_v74) = v74 :=
  (read_unary line_writes 89 rfl (by decide) (by decide) V).trans (by rw [at_v73]; rfl)
theorem at_v75 : after line V (Proc.devRef .tc main_v75) = v75 (args V) :=
  (read_unary line_writes 90 rfl (by decide) (by decide) V).trans (by rw [at_v66]; rfl)
theorem at_v76 : after line V (Proc.devRef .tc main_v76) = v76 (args V) :=
  (read_binary line_writes 91 rfl (by decide) (by decide) (by decide) V).trans (by rw [at_v74, at_v75]; rfl)
theorem at_v77 : after line V (Proc.devRef .tc main_v77) = v77 (args V) :=
  (read_binary line_writes 92 rfl (by decide) (by decide) (by decide) V).trans (by rw [at_v6, at_v76]; rfl)
theorem at_cst_5 : after line V (Proc.devRef .tc main_cst_5) = cst_5 :=
  (read_nullary line_writes 93 rfl (by decide) V).trans rfl
theorem at_v78 : after line V (Proc.devRef .tc main_v78) = v78 :=
  (read_unary line_writes 94 rfl (by decide) (by decide) V).trans (by rw [at_cst_5]; rfl)
theorem at_v79 : after line V (Proc.devRef .tc main_v79) = v79 (args V) :=
  (read_binary line_writes 95 rfl (by decide) (by decide) (by decide) V).trans (by rw [at_v72, at_v78]; rfl)
theorem at_c_6 : after line V (Proc.devRef .tc main_c_6) = c_6 :=
  (read_nullary line_writes 96 rfl (by decide) V).trans rfl
theorem at_call2_v0 : after line V (Proc.devRef .tc main_call2_v0) = call2_v0 := by
  have h := read_unaryT line_writes 97 rfl (by decide) (by decide) V
  simp only [TRef.ofBuf, cast_eq] at h
  rw [at_c_6] at h
  exact h
theorem at_call2_v1 : after line V (Proc.devRef .tc main_call2_v1) = call2_v1 := by
  have h := read_unaryT line_writes 98 rfl (by decide) (by decide) V
  simp only [TRef.ofBuf, cast_eq] at h
  rw [at_call2_v0] at h
  exact h
theorem at_v80 : after line V (Proc.devRef .tc main_v80) = v80 (args V) := by
  have h := read_ternaryT line_writes 99 rfl (by decide) (by decide) (by decide) (by decide) V
  simp only [TRef.ofBuf, cast_eq] at h
  rw [at_v79, at_call2_v1, at_v77] at h
  exact h
theorem at_v81 : after line V (Proc.devRef .tc main_v81) = v81 :=
  (read_unary line_writes 100 rfl (by decide) (by decide) V).trans (by rw [at_v56]; rfl)
theorem at_v82 : after line V (Proc.devRef .tc main_v82) = v82 :=
  (read_unary line_writes 101 rfl (by decide) (by decide) V).trans (by rw [at_v81]; rfl)
theorem at_v83 : after line V (Proc.devRef .tc main_v83) = v83 (args V) :=
  (read_unary line_writes 102 rfl (by decide) (by decide) V).trans (by rw [at_v66]; rfl)
theorem at_v84 : after line V (Proc.devRef .tc main_v84) = v84 (args V) :=
  (read_binary line_writes 103 rfl (by decide) (by decide) (by decide) V).trans (by rw [at_v82, at_v83]; rfl)
theorem at_v85 : after line V (Proc.devRef .tc main_v85) = v85 (args V) :=
  (read_binary line_writes 104 rfl (by decide) (by decide) (by decide) V).trans (by rw [at_arg2, at_v84]; rfl)
theorem at_v86 : after line V (Proc.devRef .tc main_v86) = v86 (args V) :=
  (read_unary line_writes 105 rfl (by decide) (by decide) V).trans (by rw [at_v85]; rfl)

end Cert.Ref

end
-- ==== Proof.RefReads2.lean ====
module

public import proofs.«01_k».proof.Proof.RefReads1

@[expose] public section

/-! What the run of the reference leaves in each buffer: operations 106 to 159. -/

namespace Cert.Ref

open Cert.ReferenceIdeal Cert.ReferenceIdeal.Gen Idealize.ShloMosaic Idealize.ShloMosaic.TcCoe Idealize.SL.Sem
open Idealize.ShloMosaic.StableHlo

set_option maxRecDepth 16384

variable (V : Valuation τ sig (Elt Ideal))

theorem at_v87 : after line V (Proc.devRef .tc main_v87) = v87 (args V) :=
  (read_unary line_writes 106 rfl (by decide) (by decide) V).trans (by rw [at_v85]; rfl)
theorem at_cst_7 : after line V (Proc.devRef .tc main_cst_7) = cst_7 :=
  (read_nullary line_writes 107 rfl (by decide) V).trans rfl
theorem at_v88 : after line V (Proc.devRef .tc main_v88) = v88 :=
  (read_unary line_writes 108 rfl (by decide) (by decide) V).trans (by rw [at_cst_7]; rfl)
theorem at_v89 : after line V (Proc.devRef .tc main_v89) = v89 (args V) :=
  (read_binary line_writes 109 rfl (by decide) (by decide) (by decide) V).trans (by rw [at_v87, at_v88]; rfl)
theorem at_v90 : after line V (Proc.devRef .tc main_v90) = v90 (args V) :=
  (read_binary line_writes 110 rfl (by decide) (by decide) (by decide) V).trans (by rw [at_v86, at_v89]; rfl)
theorem at_v91 : after line V (Proc.devRef .tc main_v91) = v91 (args V) :=
  (read_unary line_writes 111 rfl (by decide) (by decide) V).trans (by rw [at_arg4]; rfl)
theorem at_v92 : after line V (Proc.devRef .tc main_v92) = v92 (args V) :=
  (read_unary line_writes 112 rfl (by decide) (by decide) V).trans (by rw [at_v91]; rfl)
theorem at_v93 : after line V (Proc.devRef .tc main_v93) = v93 (args V) :=
  (read_unary line_writes 113 rfl (by decide) (by decide) V).trans (by rw [at_v92]; rfl)
theorem at_v94 : after line V (Proc.devRef .tc main_v94) = v94 (args V) :=
  (read_binary line_writes 114 rfl (by decide) (by decide) (by decide) V).trans (by rw [at_v90, at_v93]; rfl)
theorem at_v95 : after line V (Proc.devRef .tc main_v95) = v95 (args V) :=
  (read_unary line_writes 115 rfl (by decide) (by decide) V).trans (by rw [at_arg4]; rfl)
theorem at_cst_8 : after line V (Proc.devRef .tc main_cst_8) = cst_8 :=
  (read_nullary line_writes 116 rfl (by decide) V).trans rfl
theorem at_v96 : after line V (Proc.devRef .tc main_v96) = v96 :=
  (read_unary line_writes 117 rfl (by decide) (by decide) V).trans (by rw [at_cst_8]; rfl)
theorem at_v97 : after line V (Proc.devRef .tc main_v97) = v97 (args V) :=
  (read_binary line_writes 118 rfl (by decide) (by decide) (by decide) V).trans (by rw [at_v95, at_v96]; rfl)
theorem at_v98 : after line V (Proc.devRef .tc main_v98) = v98 (args V) :=
  (read_unary line_writes 119 rfl (by decide) (by decide) V).trans (by rw [at_v97]; rfl)
theorem at_v99 : after line V (Proc.devRef .tc main_v99) = v99 (args V) :=
  (read_unary line_writes 120 rfl (by decide) (by decide) V).trans (by rw [at_v98]; rfl)
theorem at_v100 : after line V (Proc.devRef .tc main_v100) = v100 (args V) :=
  (read_binary line_writes 121 rfl (by decide) (by decide) (by decide) V).trans (by rw [at_v94, at_v99]; rfl)
theorem at_v101 : after line V (Proc.devRef .tc main_v101) = v101 (args V) :=
  (read_unary line_writes 122 rfl (by decide) (by decide) V).trans (by rw [at_v85]; rfl)
theorem at_v102 : after line V (Proc.devRef .tc main_v102) = v102 (args V) :=
  (read_unary line_writes 123 rfl (by decide) (by decide) V).trans (by rw [at_arg4]; rfl)
theorem at_v103 : after line V (Proc.devRef .tc main_v103) = v103 (args V) :=
  (read_unary line_writes 124 rfl (by decide) (by decide) V).trans (by rw [at_v102]; rfl)
theorem at_v104 : after line V (Proc.devRef .tc main_v104) = v104 (args V) :=
  (read_unary line_writes 125 rfl (by decide) (by decide) V).trans (by rw [at_v103]; rfl)
theorem at_v105 : after line V (Proc.devRef .tc main_v105) = v105 (args V) :=
  (read_binary line_writes 126 rfl (by decide) (by decide) (by decide) V).trans (by rw [at_v101, at_v104]; rfl)
theorem at_v106 : after line V (Proc.devRef .tc main_v106) = v106 (args V) :=
  (read_unary line_writes 127 rfl (by decide) (by decide) V).trans (by rw [at_v105]; rfl)
theorem at_cst_9 : after line V (Proc.devRef .tc main_cst_9) = cst_9 :=
  (read_nullary line_writes 128 rfl (by decide) V).trans rfl
theorem at_v107 : after line V (Proc.devRef .tc main_v107) = v107 :=
  (read_unary line_writes 129 rfl (by decide) (by decide) V).trans (by rw [at_cst_9]; rfl)
theorem at_v108 : after line V (Proc.devRef .tc main_v108) = v108 (args V) :=
  (read_binary line_writes 130 rfl (by decide) (by decide) (by decide) V).trans (by rw [at_v106, at_v107]; rfl)
theorem at_v109 : after line V (Proc.devRef .tc main_v109) = v109 (args V) :=
  (read_binary line_writes 131 rfl (by decide) (by decide) (by decide) V).trans (by rw [at_v100, at_v108]; rfl)
theorem at_c_10 : after line V (Proc.devRef .tc main_c_10) = c_10 :=
  (read_nullary line_writes 132 rfl (by decide) V).trans rfl
theorem at_v110 : after line V (Proc.devRef .tc main_v110) = v110 :=
  (read_unary line_writes 133 rfl (by decide) (by decide) V).trans (by rw [at_c_10]; rfl)
theorem at_v111 : after line V (Proc.devRef .tc main_v111) = v111 (args V) :=
  (read_binary line_writes 134 rfl (by decide) (by decide) (by decide) V).trans (by rw [at_v80, at_v110]; rfl)
theorem at_v112 : after line V (Proc.devRef .tc main_v112) = v112 (args V) :=
  (read_binary line_writes 135 rfl (by decide) (by decide) (by decide) V).trans (by rw [at_arg0, at_v109]; rfl)
theorem at_v113 : after line V (Proc.devRef .tc main_v113) = v113 (args V) :=
  (read_unary line_writes 136 rfl (by decide) (by decide) V).trans (by rw [at_v112]; rfl)
theorem at_v114 : after line V (Proc.devRef .tc main_v114) = v114 (args V) :=
  (read_unary line_writes 137 rfl (by decide) (by decide) V).trans (by rw [at_v111]; rfl)
theorem at_v115 : after line V (Proc.devRef .tc main_v115) = v115 (args V) :=
  (read_unary line_writes 138 rfl (by decide) (by decide) V).trans (by rw [at_v114]; rfl)
theorem at_v116 : after line V (Proc.devRef .tc main_v116) = v116 (args V) :=
  (read_unary line_writes 139 rfl (by decide) (by decide) V).trans (by rw [at_v115]; rfl)
theorem at_v117 : after line V (Proc.devRef .tc main_v117) = v117 (args V) :=
  (read_binary line_writes 140 rfl (by decide) (by decide) (by decide) V).trans (by rw [at_v113, at_v116]; rfl)
theorem at_call3_cst : after line V (Proc.devRef .tc main_call3_cst) = call3_cst := by
  have h := read_nullaryT line_writes 141 rfl (by decide) V
  simp only [TRef.ofBuf, cast_eq] at h
  exact h
theorem at_call3_v0 : after line V (Proc.devRef .tc main_call3_v0) = call3_v0 (args V) := by
  have h := read_binaryT line_writes 142 rfl (by decide) (by decide) (by decide) V
  simp only [TRef.ofBuf, cast_eq] at h
  rw [at_arg1, at_call3_cst] at h
  exact h
theorem at_call3_cst_0 : after line V (Proc.devRef .tc main_call3_cst_0) = call3_cst_0 := by
  have h := read_nullaryT line_writes 143 rfl (by decide) V
  simp only [TRef.ofBuf, cast_eq] at h
  exact h
theorem at_call3_v1 : after line V (Proc.devRef .tc main_call3_v1) = call3_v1 := by
  have h := read_unaryT line_writes 144 rfl (by decide) (by decide) V
  simp only [TRef.ofBuf, cast_eq] at h
  rw [at_call3_cst_0] at h
  exact h
theorem at_call3_v2 : after line V (Proc.devRef .tc main_call3_v2) = call3_v2 (args V) := by
  have h := read_binaryT line_writes 145 rfl (by decide) (by decide) (by decide) V
  simp only [TRef.ofBuf, cast_eq] at h
  rw [at_call3_v1, at_call3_v0] at h
  exact h
theorem at_call3_v3 : after line V (Proc.devRef .tc main_call3_v3) = call3_v3 (args V) := by
  have h := read_unaryT line_writes 146 rfl (by decide) (by decide) V
  simp only [TRef.ofBuf, cast_eq] at h
  rw [at_call3_v2] at h
  exact h
theorem at_call3_v4 : after line V (Proc.devRef .tc main_call3_v4) = call3_v4 (args V) := by
  have h := read_unaryT line_writes 147 rfl (by decide) (by decide) V
  simp only [TRef.ofBuf, cast_eq] at h
  rw [at_call3_v3] at h
  exact h
theorem at_call3_v5 : after line V (Proc.devRef .tc main_call3_v5) = call3_v5 (args V) := by
  have h := read_binaryT line_writes 148 rfl (by decide) (by decide) (by decide) V
  simp only [TRef.ofBuf, cast_eq] at h
  rw [at_arg1, at_call3_v4] at h
  exact h
theorem at_call3_v6 : after line V (Proc.devRef .tc main_call3_v6) = call3_v6 (args V) := by
  have h := read_unaryT line_writes 149 rfl (by decide) (by decide) V
  simp only [TRef.ofBuf, cast_eq] at h
  rw [at_call3_v5] at h
  exact h
theorem at_call3_cst_1 : after line V (Proc.devRef .tc main_call3_cst_1) = call3_cst_1 := by
  have h := read_nullaryT line_writes 150 rfl (by decide) V
  simp only [TRef.ofBuf, cast_eq] at h
  exact h
theorem at_call3_v7 : after line V (Proc.devRef .tc main_call3_v7) = call3_v7 (args V) := by
  have h := read_binaryT line_writes 151 rfl (by decide) (by decide) (by decide) V
  simp only [TRef.ofBuf, cast_eq] at h
  rw [at_call3_v6, at_call3_cst_1] at h
  exact h
theorem at_call3_v8 : after line V (Proc.devRef .tc main_call3_v8) = call3_v8 (args V) := by
  have h := read_unaryT line_writes 152 rfl (by decide) (by decide) V
  simp only [TRef.ofBuf, cast_eq] at h
  rw [at_call3_v7] at h
  exact h
theorem at_call3_v9 : after line V (Proc.devRef .tc main_call3_v9) = call3_v9 (args V) := by
  have h := read_unaryT line_writes 153 rfl (by decide) (by decide) V
  simp only [TRef.ofBuf, cast_eq] at h
  rw [at_call3_v8] at h
  exact h
theorem at_call3_v10 : after line V (Proc.devRef .tc main_call3_v10) = call3_v10 (args V) := by
  have h := read_unaryT line_writes 154 rfl (by decide) (by decide) V
  simp only [TRef.ofBuf, cast_eq] at h
  rw [at_call3_v9] at h
  exact h
theorem at_v118 : after line V (Proc.devRef .tc main_v118) = v118 (args V) := by
  have h := read_binaryT line_writes 155 rfl (by decide) (by decide) (by decide) V
  simp only [TRef.ofBuf, cast_eq] at h
  rw [at_call3_v5, at_call3_v10] at h
  exact h
theorem at_v119 : after line V (Proc.devRef .tc main_v119) = v119 (args V) :=
  (read_unary line_writes 156 rfl (by decide) (by decide) V).trans (by rw [at_v80]; rfl)
theorem at_call4_v0 : after line V (Proc.devRef .tc main_call4_v0) = call4_v0 (args V) :=
  (read_reshape line_writes 157 rfl (by decide) (by decide) V).trans (by rw [at_v119]; rfl)
theorem at_v120 : after line V (Proc.devRef .tc main_v120) = v120 (args V) := by
  have h := read_binaryT line_writes 158 rfl (by decide) (by decide) (by decide) V
  simp only [TRef.ofBuf, cast_eq] at h
  rw [at_v118, at_call4_v0] at h
  exact h
theorem at_v121 : after line V (Proc.devRef .tc main_v121) = v121 (args V) :=
  (read_reshape line_writes 159 rfl (by decide) (by decide) V).trans (by rw [at_v120]; rfl)

end Cert.Ref

end
-- ==== Proof.RefReads3.lean ====
module

public import proofs.«01_k».proof.Proof.RefReads2

@[expose] public section

/-! What the run of the reference leaves in each buffer: operations 160 to 212. -/

namespace Cert.Ref

open Cert.ReferenceIdeal Cert.ReferenceIdeal.Gen Idealize.ShloMosaic Idealize.ShloMosaic.TcCoe Idealize.SL.Sem
open Idealize.ShloMosaic.StableHlo

set_option maxRecDepth 16384

variable (V : Valuation τ sig (Elt Ideal))

theorem at_v122 : after line V (Proc.devRef .tc main_v122) = v122 (args V) :=
  (read_unary line_writes 160 rfl (by decide) (by decide) V).trans (by rw [at_v121]; rfl)
theorem at_v123 : after line V (Proc.devRef .tc main_v123) = v123 (args V) :=
  (read_unary line_writes 161 rfl (by decide) (by decide) V).trans (by rw [at_v111]; rfl)
theorem at_c_11 : after line V (Proc.devRef .tc main_c_11) = c_11 :=
  (read_nullary line_writes 162 rfl (by decide) V).trans rfl
theorem at_v124 : after line V (Proc.devRef .tc main_v124) = v124 (args V) :=
  (read_binary line_writes 163 rfl (by decide) (by decide) (by decide) V).trans (by rw [at_v123, at_c_11]; rfl)
theorem at_cst_12 : after line V (Proc.devRef .tc main_cst_12) = cst_12 :=
  (read_nullary line_writes 164 rfl (by decide) V).trans rfl
theorem at_v125 : after line V (Proc.devRef .tc main_v125) = v125 (args V) :=
  (read_binary line_writes 165 rfl (by decide) (by decide) (by decide) V).trans (by rw [at_v117, at_cst_12]; rfl)
theorem at_v126 : after line V (Proc.devRef .tc main_v126) = v126 (args V) :=
  (read_unary line_writes 166 rfl (by decide) (by decide) V).trans (by rw [at_v124]; rfl)
theorem at_cst_13 : after line V (Proc.devRef .tc main_cst_13) = cst_13 :=
  (read_nullary line_writes 167 rfl (by decide) V).trans rfl
theorem at_v127 : after line V (Proc.devRef .tc main_v127) = v127 (args V) :=
  (read_binary line_writes 168 rfl (by decide) (by decide) (by decide) V).trans (by rw [at_v126, at_cst_13]; rfl)
theorem at_v128 : after line V (Proc.devRef .tc main_v128) = v128 (args V) :=
  (read_binary line_writes 169 rfl (by decide) (by decide) (by decide) V).trans (by rw [at_v125, at_v127]; rfl)
theorem at_v129 : after line V (Proc.devRef .tc main_v129) = v129 (args V) :=
  (read_unary line_writes 170 rfl (by decide) (by decide) V).trans (by rw [at_v111]; rfl)
theorem at_c_14 : after line V (Proc.devRef .tc main_c_14) = c_14 :=
  (read_nullary line_writes 171 rfl (by decide) V).trans rfl
theorem at_v130 : after line V (Proc.devRef .tc main_v130) = v130 (args V) :=
  (read_binary line_writes 172 rfl (by decide) (by decide) (by decide) V).trans (by rw [at_v129, at_c_14]; rfl)
theorem at_c_15 : after line V (Proc.devRef .tc main_c_15) = c_15 :=
  (read_nullary line_writes 173 rfl (by decide) V).trans rfl
theorem at_v131 : after line V (Proc.devRef .tc main_v131) = v131 :=
  (read_unary line_writes 174 rfl (by decide) (by decide) V).trans (by rw [at_c_15]; rfl)
theorem at_v132 : after line V (Proc.devRef .tc main_v132) = v132 (args V) :=
  (read_binary line_writes 175 rfl (by decide) (by decide) (by decide) V).trans (by rw [at_v131, at_v130]; rfl)
theorem at_v133 : after line V (Proc.devRef .tc main_v133) = v133 (args V) :=
  (read_unary line_writes 176 rfl (by decide) (by decide) V).trans (by rw [at_v111]; rfl)
theorem at_v134 : after line V (Proc.devRef .tc main_v134) = v134 (args V) :=
  (read_binary line_writes 177 rfl (by decide) (by decide) (by decide) V).trans (by rw [at_v122, at_v133]; rfl)
theorem at_cst_16 : after line V (Proc.devRef .tc main_cst_16) = cst_16 :=
  (read_nullary line_writes 178 rfl (by decide) V).trans rfl
theorem at_v135 : after line V (Proc.devRef .tc main_v135) = v135 (args V) :=
  (read_binary line_writes 179 rfl (by decide) (by decide) (by decide) V).trans (by rw [at_v134, at_cst_16]; rfl)
theorem at_cst_17 : after line V (Proc.devRef .tc main_cst_17) = cst_17 :=
  (read_nullary line_writes 180 rfl (by decide) V).trans rfl
theorem at_call5_v0 : after line V (Proc.devRef .tc main_call5_v0) = call5_v0 := by
  have h := read_unaryT line_writes 181 rfl (by decide) (by decide) V
  simp only [TRef.ofBuf, cast_eq] at h
  rw [at_cst_17] at h
  exact h
theorem at_call5_v1 : after line V (Proc.devRef .tc main_call5_v1) = call5_v1 := by
  have h := read_unaryT line_writes 182 rfl (by decide) (by decide) V
  simp only [TRef.ofBuf, cast_eq] at h
  rw [at_call5_v0] at h
  exact h
theorem at_v136 : after line V (Proc.devRef .tc main_v136) = v136 (args V) := by
  have h := read_ternaryT line_writes 183 rfl (by decide) (by decide) (by decide) (by decide) V
  simp only [TRef.ofBuf, cast_eq] at h
  rw [at_v111, at_call5_v1, at_v122] at h
  exact h
theorem at_v137 : after line V (Proc.devRef .tc main_v137) = v137 (args V) :=
  (read_unary line_writes 184 rfl (by decide) (by decide) V).trans (by rw [at_v136]; rfl)
theorem at_v138 : after line V (Proc.devRef .tc main_v138) = v138 (args V) := by
  have h := read_unaryT line_writes 185 rfl (by decide) (by decide) V
  simp only [TRef.ofBuf, cast_eq] at h
  rw [at_v137] at h
  exact h
theorem at_v139 : after line V (Proc.devRef .tc main_v139) = v139 (args V) :=
  (read_unary line_writes 186 rfl (by decide) (by decide) V).trans (by rw [at_v138]; rfl)
theorem at_v140 : after line V (Proc.devRef .tc main_v140) = v140 :=
  (read_nullary line_writes 187 rfl (by decide) V).trans rfl
theorem at_v141 : after line V (Proc.devRef .tc main_v141) = v141 :=
  (read_unary line_writes 188 rfl (by decide) (by decide) V).trans (by rw [at_v140]; rfl)
theorem at_v142 : after line V (Proc.devRef .tc main_v142) = v142 (args V) :=
  (read_unary line_writes 189 rfl (by decide) (by decide) V).trans (by rw [at_v132]; rfl)
theorem at_v143 : after line V (Proc.devRef .tc main_v143) = v143 :=
  (read_unary line_writes 190 rfl (by decide) (by decide) V).trans (by rw [at_v141]; rfl)
theorem at_v144 : after line V (Proc.devRef .tc main_v144) = v144 (args V) :=
  (read_unary line_writes 191 rfl (by decide) (by decide) V).trans (by rw [at_v142]; rfl)
theorem at_v145 : after line V (Proc.devRef .tc main_v145) = v145 (args V) :=
  (read_binary line_writes 192 rfl (by decide) (by decide) (by decide) V).trans (by rw [at_v143, at_v144]; rfl)
theorem at_v146 : after line V (Proc.devRef .tc main_v146) = v146 (args V) :=
  (read_unary line_writes 193 rfl (by decide) (by decide) V).trans (by rw [at_v145]; rfl)
theorem at_v147 : after line V (Proc.devRef .tc main_v147) = v147 (args V) :=
  (read_binary line_writes 194 rfl (by decide) (by decide) (by decide) V).trans (by rw [at_v139, at_v146]; rfl)
theorem at_cst_18 : after line V (Proc.devRef .tc main_cst_18) = cst_18 :=
  (read_nullary line_writes 195 rfl (by decide) V).trans rfl
theorem at_v148 : after line V (Proc.devRef .tc main_v148) = v148 (args V) :=
  (read_binary line_writes 196 rfl (by decide) (by decide) (by decide) V).trans (by rw [at_v147, at_cst_18]; rfl)
theorem at_v149 : after line V (Proc.devRef .tc main_v149) = v149 (args V) :=
  (read_binary line_writes 197 rfl (by decide) (by decide) (by decide) V).trans (by rw [at_v148, at_v135]; rfl)
theorem at_v150 : after line V (Proc.devRef .tc main_v150) = v150 (args V) :=
  (read_unary line_writes 198 rfl (by decide) (by decide) V).trans (by rw [at_v124]; rfl)
theorem at_v151 : after line V (Proc.devRef .tc main_v151) = v151 (args V) :=
  (read_binary line_writes 199 rfl (by decide) (by decide) (by decide) V).trans (by rw [at_v149, at_v150]; rfl)
theorem at_cst_19 : after line V (Proc.devRef .tc main_cst_19) = cst_19 :=
  (read_nullary line_writes 200 rfl (by decide) V).trans rfl
theorem at_v152 : after line V (Proc.devRef .tc main_v152) = v152 (args V) :=
  (read_binary line_writes 201 rfl (by decide) (by decide) (by decide) V).trans (by rw [at_cst_19, at_v128]; rfl)
theorem at_v153 : after line V (Proc.devRef .tc main_v153) = v153 (args V) :=
  (read_binary line_writes 202 rfl (by decide) (by decide) (by decide) V).trans (by rw [at_v151, at_v152]; rfl)
theorem at_v154 : after line V (Proc.devRef .tc main_v154) = v154 :=
  (read_nullary line_writes 203 rfl (by decide) V).trans rfl
theorem at_c_20 : after line V (Proc.devRef .tc main_c_20) = c_20 :=
  (read_nullary line_writes 204 rfl (by decide) V).trans rfl
theorem at_v155 : after line V (Proc.devRef .tc main_v155) = v155 :=
  (read_unary line_writes 205 rfl (by decide) (by decide) V).trans (by rw [at_c_20]; rfl)
theorem at_v156 : after line V (Proc.devRef .tc main_v156) = v156 :=
  (read_binary line_writes 206 rfl (by decide) (by decide) (by decide) V).trans (by rw [at_v154, at_v155]; rfl)
theorem at_cst_21 : after line V (Proc.devRef .tc main_cst_21) = cst_21 :=
  (read_nullary line_writes 207 rfl (by decide) V).trans rfl
theorem at_call7_v0 : after line V (Proc.devRef .tc main_call7_v0) = call7_v0 := by
  have h := read_unaryT line_writes 208 rfl (by decide) (by decide) V
  simp only [TRef.ofBuf, cast_eq] at h
  rw [at_cst_21] at h
  exact h
theorem at_call7_v1 : after line V (Proc.devRef .tc main_call7_v1) = call7_v1 (args V) := by
  have h := read_unaryT line_writes 209 rfl (by decide) (by decide) V
  simp only [TRef.ofBuf, cast_eq] at h
  rw [at_v153] at h
  exact h
theorem at_call7_v2 : after line V (Proc.devRef .tc main_call7_v2) = call7_v2 := by
  have h := read_unaryT line_writes 210 rfl (by decide) (by decide) V
  simp only [TRef.ofBuf, cast_eq] at h
  rw [at_call7_v0] at h
  exact h
theorem at_v157 : after line V (Proc.devRef .tc main_v157) = v157 (args V) := by
  have h := read_ternaryT line_writes 211 rfl (by decide) (by decide) (by decide) (by decide) V
  simp only [TRef.ofBuf, cast_eq] at h
  rw [at_v156, at_call7_v1, at_call7_v2] at h
  exact h
theorem at_v158 : after line V (Proc.devRef .tc main_v158) = v158 (args V) :=
  (read_unary line_writes 212 rfl (by decide) (by decide) V).trans (by rw [at_v157]; rfl)

end Cert.Ref

end
-- ==== Proof.RefRun.lean ====
module

public import proofs.«01_k».proof.Proof.RefArrays
public import proofs.«01_k».proof.Proof.RefReads3
public import proofs.«01_k».proof.Proof.RefLine
public import Idealize.ShloMosaic.Lib.Quiescent

/-!
# The reference's run

It terminates with its arguments unchanged, every counter at zero, and its result an array of its arguments.
-/

@[expose] public section

namespace Cert.Ref

open Cert.ReferenceIdeal Cert.ReferenceIdeal.Gen Idealize.ShloMosaic Idealize.ShloMosaic.TcCoe Idealize.SL.Sem
open Idealize.ShloMosaic.StableHlo Idealize.ShloMosaic.Pointwise

variable (m : (ℓ : Loc nD τ sig) → Buf (Elt Ideal) ℓ) (ρ : Dev nD → PrngReg)

/-- The arguments of device `c`. -/
noncomputable abbrev given (c : Dev nD) : Args := args (launchContents m c)

/-- The reference's run with its result as an array. -/
theorem run_arrays : θ_run defs (onTc (τ := τ) (main (F := Ideal))) ⟨m, fun _ => 0, ρ⟩ fun r => ∀ c : Dev nD,
      r.2.mem ((c.tc : Thread nD τ).loc main_v158) = v158 (given m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v158).trans (at_v158 _),
    (h c main_arg0).trans (at_arg0 _), (h c main_arg1).trans (at_arg1 _), (h c main_arg2).trans (at_arg2 _),
    (h c main_arg3).trans (at_arg3 _), (h c main_arg4).trans (at_arg4 _)⟩) (run_line m ρ)

/-- The reference's frame. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run_arrays m ρ)

end Cert.Ref

end
-- ==== Proof.Separated.lean ====
module

public import proofs.«01_k».proof.Proof.Gen.Pre_separated
public import proofs.«01_k».proof.Proof.RefArrays
public import Idealize.ShloMosaic.PureOps.Ideal
public import Idealize.ShloMosaic.Lib.Pointwise
public import Idealize.ShloMosaic.Lib.Tactic

/-!
# What the precondition says

Scores and boxes are real; no cross entropy of a negative exceeds the greatest float; and in every image the cross
entropy at rank `3n` is zero or well below the one before it (`n` the number of positives).
-/

@[expose] public section

namespace Cert.Separated

open Cert.Pre_separated Cert.Pre_separated.Gen Idealize.ShloMosaic Idealize.ShloMosaic.Pointwise

set_option maxRecDepth 16384

/-! ## Its four results as arrays -/

/-- Which scores are real. -/
noncomputable def realScores (s : FVec Ideal S32x8732x81 .f32) : IVec S32x8732x81 1 :=
  cmpf .olt (Host.absf s) (broadcastInDim S32x8732x81 ![] bcast_S_S32x8732x81 (constant (F := Ideal) S_ .f32 0x7F800000#32))

/-- Which coordinates are real. -/
noncomputable def realBoxes (s : FVec Ideal S32x32x4 .f32) : IVec S32x32x4 1 :=
  cmpf .olt (Host.absf s) (broadcastInDim S32x32x4 ![] bcast_S_S32x32x4 (constant (F := Ideal) S_ .f32 0x7F800000#32))

/-- Which losses are floats. -/
noncomputable def small (a : FVec Ideal S32x8732 .f32) : IVec S32x8732 1 :=
  cmpf .ole a (broadcastInDim S32x8732 ![] bcast_S_S32x8732 (constant (F := Ideal) S_ .f32 0x7F7FFFFF#32))

/-- Which ranks are not the threshold's, or have a loss that is zero or well below the one before. -/
noncomputable def apart (y : FVec Ideal S32x8732 .f32) (n : IVec S32 32) : IVec S32x8731 1 :=
  ori
    (ori
      (cmpi .ne
        (broadcastInDim S32x8731 ![0, 1] bcast_S1x8731_S32x8731_0_1 (broadcastInDim S1x8731 ![1] bcast_S8731_S1x8731_1
          (addi (broadcastInDim S8731 ![] bcast_S_S8731 (constantI S_ 32 1#32)) (iotaInDim S8731 32 0))))
        (broadcastInDim S32x8731 ![0, 1] bcast_S32x1_S32x8731_0_1 (broadcastInDim S32x1 ![0] bcast_S32_S32x1_0 n)))
      (cmpf .ole (extractStridedSlice S32x8731 ![0, 1] y slices_S32x8732_S32x8731_0_1)
        (broadcastInDim S32x8731 ![] bcast_S_S32x8731 (constant (F := Ideal) S_ .f32 0x00000000#32))))
    (cmpf .ole
      (addf (mulf (extractStridedSlice S32x8731 ![0, 1] y slices_S32x8732_S32x8731_0_1)
          (broadcastInDim S32x8731 ![] bcast_S_S32x8731 (constant (F := Ideal) S_ .f32 0x3F800008#32)))
        (broadcastInDim S32x8731 ![] bcast_S_S32x8731 (constant (F := Ideal) S_ .f32 0x0D800000#32)))
      (extractStridedSlice S32x8731 ![0, 0] y slices_S32x8732_S32x8731_0_0))

/-- The precondition's program works out the reference's losses, and compares. -/
theorem fn_eq (x : Ref.Args) : Cert.Pre_separated.fn (F := Ideal) x.arg0 x.arg1 x.arg2 x.arg3 x.arg4
    = (realScores x.arg1, realBoxes x.arg2, small (Ref.v136 x), apart (Ref.v139 x) (Ref.v132 x)) := by
  sl_kernel_rfl

/-! ## What they say -/

/-- The word of infinity. -/
theorem inf_word : Ideal.ofBits .f32 0x7F800000#32 = (⊤ : EReal) := by
  simp [Ideal.ofBits, Ideal.ieee]

/-- An absolute value below infinity belongs to a real number. -/
theorem real_of_abs {a : EReal} (h : Ideal.cmp .olt (max a (-a)) (Ideal.ofBits .f32 0x7F800000#32) = 1#1) :
    a ≠ ⊤ ∧ a ≠ ⊥ := by
  rw [inf_word] at h
  constructor
  · rintro rfl
    simp [Ideal.cmp] at h
  · rintro rfl
    simp [Ideal.cmp] at h

theorem of_realScores {s : FVec Ideal S32x8732x81 .f32} (h : realScores s = fun _ => 1#1) (i : S32x8732x81.Idx) :
    s i ≠ ⊤ ∧ s i ≠ ⊥ :=
  real_of_abs (congrFun h i)

theorem of_realBoxes {s : FVec Ideal S32x32x4 .f32} (h : realBoxes s = fun _ => 1#1) (i : S32x32x4.Idx) :
    s i ≠ ⊤ ∧ s i ≠ ⊥ :=
  real_of_abs (congrFun h i)

/-- A comparison that holds. -/
theorem le_of_cmp {a b : EReal} (h : Ideal.cmp .ole a b = 1#1) : a ≤ b := by
  by_contra hn
  simp [Ideal.cmp, hn] at h

theorem of_small {a : FVec Ideal S32x8732 .f32} (h : small a = fun _ => 1#1) (i : S32x8732.Idx) :
    a i ≤ Ideal.ofBits .f32 0x7F7FFFFF#32 :=
  le_of_cmp (congrFun h i)

theorem apart_at (y : FVec Ideal S32x8732 .f32) (n : IVec S32 32) (b : Fin 32) (r : Fin 8731) :
    apart y n (ix2 b r) = IntOp.ori
      (IntOp.ori (IntOp.cmpi .ne (IntOp.addi 1#32 (BitVec.ofNat 32 r.val)) (n (ix1 b)))
        (Ideal.cmp .ole (y (ix2 b ⟨1 + r.val, by omega⟩)) 0))
      (Ideal.cmp .ole (y (ix2 b ⟨1 + r.val, by omega⟩) * Ideal.ofBits .f32 0x3F800008#32 + Ideal.ofBits .f32 0x0D800000#32)
        (y (ix2 b ⟨r.val, by omega⟩))) := by
  unfold apart
  pointwise []

theorem ratio_word : Ideal.ofBits .f32 0x3F800008#32 = ((1 + 2 ^ (-20 : ℤ) : ℝ) : EReal) := by
  simp [Ideal.ofBits, Ideal.ieee, -EReal.coe_mul, -EReal.coe_add]; norm_num

theorem step_word : Ideal.ofBits .f32 0x0D800000#32 = ((2 ^ (-100 : ℤ) : ℝ) : EReal) := by
  simp [Ideal.ofBits, Ideal.ieee, -EReal.coe_mul, -EReal.coe_add]; norm_num

/-- Either of two bits. -/
theorem ori_one {u v : BitVec 1} (h : IntOp.ori u v = 1#1) : u = 1#1 ∨ v = 1#1 := by
  revert u v; decide

/-- At the rank that the threshold asks for, the loss is zero or well below the one before. -/
theorem of_apart {y : FVec Ideal S32x8732 .f32} {n : IVec S32 32} (h : apart y n = fun _ => 1#1) (b : Fin 32) (r : ℕ)
    (hr : r + 1 < 8732) (hn : n (ix1 b) = BitVec.ofNat 32 (r + 1)) :
    y (ix2 b ⟨r + 1, hr⟩) ≤ 0 ∨ y (ix2 b ⟨r + 1, hr⟩) * ((1 + 2 ^ (-20 : ℤ) : ℝ) : EReal) + ((2 ^ (-100 : ℤ) : ℝ) : EReal)
      ≤ y (ix2 b ⟨r, by omega⟩) := by
  have e := (apart_at y n b ⟨r, by omega⟩).symm.trans (congrFun h _)
  have i : (⟨1 + r, by omega⟩ : Fin 8732) = ⟨r + 1, hr⟩ := Fin.ext (Nat.add_comm 1 r)
  simp only [i] at e
  rw [ratio_word, step_word] at e
  rcases ori_one e with e | e
  · rcases ori_one e with e | e
    · exfalso
      have w : IntOp.addi 1#32 (BitVec.ofNat 32 r) = BitVec.ofNat 32 (r + 1) := by
        rw [BitVec.ofNat_add, BitVec.add_comm]; rfl
      rw [w, hn] at e
      simp [IntOp.cmpi] at e
    · exact Or.inl (le_of_cmp e)
  · exact Or.inr (le_of_cmp e)

end Cert.Separated

end
-- ==== Proof.RefIou.lean ====
module

public import proofs.«01_k».proof.Proof.RefArrays
public import proofs.«01_k».proof.Proof.Words

/-!
# The reference: overlaps

The image each row of the arguments holds, and the reference's table of overlaps as that image's, when the boxes are
finite.
-/

@[expose] public section

namespace Cert.Ref

open Cert.ReferenceIdeal Cert.ReferenceIdeal.Gen Idealize.ShloMosaic Idealize.ShloMosaic.Pointwise

set_option maxRecDepth 16384

/-- Half of a value is the value by one half. -/
theorem div_two (a : EReal) : Ideal.div a (Ideal.ofBits .f32 0x40000000#32) = a * Spec.half := by
  rw [Spec.two_word, Spec.half_word, Ideal.div, if_neg (by norm_num), ← EReal.coe_inv]
  norm_num

/-- A finite number added and taken away again. -/
theorem add_sub_self {a : EReal} (h : a ≠ ⊤) (h' : a ≠ ⊥) (w : EReal) : a + w - a = w := by
  lift a to ℝ using ⟨h, h'⟩
  induction w with
  | bot => simp
  | top => simp
  | coe w => norm_cast; ring

variable (x : Args)

/-- Image `b` of the arguments. -/
@[simps] noncomputable def image (b : Fin 32) : Spec.Image where
  box o k := x.arg2 (ix3 b o k)
  lab o := v6 x (ix2 b o)
  pr p k := x.arg4 (ix2 p k)
  loc p k := x.arg0 (ix3 b p k)
  sc p k := x.arg1 (ix3 b p k)

/-- The reference's overlaps are the image's. -/
theorem v54_at (hb : ∀ i, x.arg2 i ≠ ⊤ ∧ x.arg2 i ≠ ⊥) (b : Fin 32) (o : Fin 32) (p : Fin 8732) :
    v54 x (ix3 b o p) = Spec.iou (image x b) o p := by
  unfold v54
  pointwise [v53, v52, v51, v50, v49, v48, v47, v46, v45, v44, v43, v42, v41, v40, v39, v38, v37, v36, v35, v34, v33, v32, v31, v30, v29, v28, v27, v26, v25, v24, v23, v22, v21, v20, v19, v18, v17, v16, v15, v14, v13, v12, v11, v10, v9, v8, v7, cst, cst_2]
  simp only [div_two, add_sub_self (hb _).1 (hb _).2]
  rfl

/-- The greatest overlap of a prior. -/
theorem v57_at (hb : ∀ i, x.arg2 i ≠ ⊤ ∧ x.arg2 i ≠ ⊥) (b : Fin 32) (p : Fin 8732) :
    v57 x (ix2 b p) = Spec.top fun o => Spec.iou (image x b) o p := by
  unfold v57
  pointwise [cst_3]
  simp only [v54_at x hb, Spec.negInf_word]
  rfl

end Cert.Ref

end
-- ==== Proof.RefArgmax.lean ====
module

public import proofs.«01_k».proof.Proof.RefIou

/-!
# The reference: best objects and best priors

An arg-max over one axis is a left fold of pairs (value, index) that keeps the greater value and, of two equal ones, the
smaller index: so it names the first greatest place.
-/

@[expose] public section

namespace Cert.Ref

open Cert.ReferenceIdeal Cert.ReferenceIdeal.Gen Idealize.ShloMosaic Idealize.ShloMosaic.Pointwise

set_option maxRecDepth 16384

/-- One step keeps the pair with the greater value, or with the smaller index among equal values. -/
theorem reducer_eq (a b : EReal × BitVec 32) :
    reducer_argmax_f32_i32 (F := Ideal) a b =
      if b.1 < a.1 ∨ (a.1 = b.1 ∧ a.2.toInt < b.2.toInt) then a else b := by
  have hne : FloatOps.cmpf (F := Ideal) (φ := .f32) .une a.1 a.1 = 0#1 := by simp [Ideal.cmpf_def, Ideal.cmp]
  unfold reducer_argmax_f32_i32
  rw [hne]
  simp only [Ideal.cmpf_def, Ideal.cmp]
  obtain ⟨a1, a2⟩ := a
  obtain ⟨b1, b2⟩ := b
  rcases lt_trichotomy a1 b1 with h | h | h
  · simp [h, h.ne, h.not_gt, Scalar.select, IntOp.ori, IntOp.andi, IntOp.cmpi]
  · subst h
    by_cases h2 : a2.toInt < b2.toInt <;>
      simp [h2, Scalar.select, IntOp.ori, IntOp.andi, IntOp.cmpi, BitVec.slt]
  · simp [h, h.ne', Scalar.select, IntOp.ori, IntOp.andi, IntOp.cmpi]

/-- `a` is not beaten by `b`. -/
def Holds (a b : EReal × BitVec 32) : Prop := b.1 < a.1 ∨ (a.1 = b.1 ∧ a.2.toInt ≤ b.2.toInt)

theorem Holds.refl (a : EReal × BitVec 32) : Holds a a := Or.inr ⟨rfl, le_rfl⟩

theorem Holds.trans {a b c : EReal × BitVec 32} (h : Holds a b) (h' : Holds b c) : Holds a c := by
  rcases h with h | ⟨h, g⟩ <;> rcases h' with h' | ⟨h', g'⟩
  · exact Or.inl (h'.trans h)
  · exact Or.inl (h' ▸ h)
  · exact Or.inl (h ▸ h')
  · exact Or.inr ⟨h.trans h', g.trans g'⟩

theorem step_holds (a b : EReal × BitVec 32) :
    (reducer_argmax_f32_i32 (F := Ideal) a b = a ∨ reducer_argmax_f32_i32 (F := Ideal) a b = b) ∧
      Holds (reducer_argmax_f32_i32 (F := Ideal) a b) a ∧ Holds (reducer_argmax_f32_i32 (F := Ideal) a b) b := by
  rw [reducer_eq]
  split
  · next h => exact ⟨Or.inl rfl, Holds.refl a, h.imp id fun h => ⟨h.1, h.2.le⟩⟩
  · next h =>
    rw [not_or, not_and, not_lt, not_lt] at h
    refine ⟨Or.inr rfl, ?_, Holds.refl b⟩
    rcases h.1.lt_or_eq with g | g
    · exact Or.inl g
    · exact Or.inr ⟨g.symm, h.2 g⟩

/-- The fold's result is a pair of the list or the first one, and no pair beats it. -/
theorem fold_holds (l : List (EReal × BitVec 32)) (z : EReal × BitVec 32) :
    (l.foldl (reducer_argmax_f32_i32 (F := Ideal)) z = z ∨ l.foldl (reducer_argmax_f32_i32 (F := Ideal)) z ∈ l) ∧
      Holds (l.foldl (reducer_argmax_f32_i32 (F := Ideal)) z) z ∧
      ∀ a ∈ l, Holds (l.foldl (reducer_argmax_f32_i32 (F := Ideal)) z) a := by
  induction l generalizing z with
  | nil => exact ⟨Or.inl rfl, Holds.refl z, fun a ha => absurd ha List.not_mem_nil⟩
  | cons b l ih =>
    rw [List.foldl_cons]
    obtain ⟨h1, h2, h3⟩ := ih (reducer_argmax_f32_i32 (F := Ideal) z b)
    obtain ⟨g1, g2, g3⟩ := step_holds z b
    refine ⟨?_, h2.trans g2, fun a ha => ?_⟩
    · rcases h1 with h1 | h1
      · rw [h1]
        exact g1.imp id fun g => by rw [g]; exact List.mem_cons_self
      · exact Or.inr (List.mem_cons_of_mem _ h1)
    · rcases List.mem_cons.1 ha with rfl | ha
      · exact h2.trans g3
      · exact h3 a ha

/-- A fold over the pairs (value, index) of `f` ends with the index of the first greatest value. -/
theorem fold_first {n : ℕ} [NeZero n] (hn : n ≤ 2 ^ 30) (f : Fin n → EReal) (l : List (EReal × BitVec 32))
    (hl : ∀ a, a ∈ l ↔ ∃ i, (f i, BitVec.ofNat 32 i.val) = a) :
    (l.foldl (reducer_argmax_f32_i32 (F := Ideal)) (⊥, 0#32)).2 = BitVec.ofNat 32 (Spec.firstMax f).val := by
  obtain ⟨h1, -, h3⟩ := fold_holds l (⊥, 0#32)
  generalize l.foldl (reducer_argmax_f32_i32 (F := Ideal)) (⊥, 0#32) = r at *
  have h4 : ∀ i, Holds r (f i, BitVec.ofNat 32 i.val) := fun i => h3 _ ((hl _).2 ⟨i, rfl⟩)
  rcases h1 with rfl | h1
  · have h0 : ∀ j, f j = ⊥ := fun j => by
      rcases h4 j with h | h
      · exact absurd h not_lt_bot
      · exact h.1.symm
    have : Spec.firstMax f = 0 := Spec.IsFirstMax.eq ⟨fun j => by rw [h0, h0], fun j _ => Fin.zero_le _⟩
    rw [this]; rfl
  · obtain ⟨i, rfl⟩ := (hl r).1 h1
    have : Spec.firstMax f = i := Spec.IsFirstMax.eq ⟨fun j => ?_, fun j hj => ?_⟩
    · rw [this]
    · rcases h4 j with h | h
      · exact h.le
      · exact h.1.ge
    · rcases h4 j with h | h
      · exact absurd hj h.ne
      · have := h.2
        rw [Spec.toInt_word (by omega), Spec.toInt_word (by omega)] at this
        exact Fin.le_def.2 (by exact_mod_cast this)

/-- The pairs an arg-max at `j` folds over. -/
theorem mem_fiber {s t : Shape} {axes : List (Fin s.rank)} {β : Type} (h : s.ReducesTo axes t) (f : s.Idx → EReal)
    (g : s.Idx → β) (j : t.Idx) (a : EReal × β) :
    a ∈ Host.argReduceFiber f g h j ↔ ∃ i, h.drop i = j ∧ (f i, g i) = a := by
  rw [Host.argReduceFiber, List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩ <;>
      rw [Equiv.symm_apply_apply]
    exact hi

/-- An arg-max at `j`, when its pairs are the values of `f` with their indices. -/
theorem argmax_first {s t u : Shape} {axes : List (Fin s.rank)} (v : FVec Ideal s .f32) (g : IVec s 32)
    (cv : FVec Ideal u .f32) (cg : IVec u 32) (h : s.ReducesTo axes t) (hu : 0 < u.numel) (j : t.Idx)
    (hv : cv (Shape.Idx.first hu) = (⊥ : EReal)) (hg : cg (Shape.Idx.first hu) = 0#32)
    {n : ℕ} [NeZero n] (hn : n ≤ 2 ^ 30) (f : Fin n → EReal) (e : Fin n → s.Idx)
    (he : ∀ i, h.drop i = j ↔ ∃ k, e k = i) (hf : ∀ k, v (e k) = f k) (hk : ∀ k, g (e k) = BitVec.ofNat 32 k.val)
    (r : IVec t 32) (hr : r = fun j => (Host.argReduce (reducer_argmax_f32_i32 (F := Ideal)) v g cv cg h hu j).2) :
    r j = BitVec.ofNat 32 (Spec.firstMax f).val := by
  subst hr
  show (Host.argReduce (reducer_argmax_f32_i32 (F := Ideal)) v g cv cg h hu j).2 = _
  rw [Ideal.argReduce_eq_reduce2, Host.reduce2_eq_foldl_fiber, hv, hg]
  refine fold_first hn f _ fun a => ?_
  rw [mem_fiber]
  constructor
  · rintro ⟨i, hi, rfl⟩
    obtain ⟨k, rfl⟩ := (he i).1 hi
    exact ⟨k, by rw [hf, hk]⟩
  · rintro ⟨k, rfl⟩
    exact ⟨e k, (he _).2 ⟨k, rfl⟩, by rw [hf, hk]⟩

variable (x : Args) (hb : ∀ i, x.arg2 i ≠ ⊤ ∧ x.arg2 i ≠ ⊥)

include hb in
/-- The first object a prior overlaps most. -/
theorem v58_at (b : Fin 32) (p : Fin 8732) :
    v58 x (ix2 b p) = BitVec.ofNat 32 (Spec.firstMax fun o => Spec.iou (image x b) o p).val :=
  argmax_first (n := 32) (v54 x) call0_v0 call0_cst call0_c reducesTo_S32x32x8732_S32x8732_d1 h_S_ (ix2 b p)
    Spec.negInf_word rfl (by norm_num) (fun o => Spec.iou (image x b) o p) (fun k => ix3 b k p)
    (Shape.ReducesTo.fiber_r3_a1 _ _) (fun k => v54_at x hb b k p) (fun _ => rfl) (v58 x) rfl

include hb in
/-- The first prior an object overlaps most. -/
theorem v59_at (b : Fin 32) (o : Fin 32) :
    v59 x (ix2 b o) = BitVec.ofNat 32 (Spec.firstMax (Spec.iou (image x b) o)).val :=
  argmax_first (n := 8732) (v54 x) call1_v0 call1_cst call1_c reducesTo_S32x32x8732_S32x32_d2 h_S_ (ix2 b o)
    Spec.negInf_word rfl (by norm_num) (Spec.iou (image x b) o) (fun k => ix3 b o k)
    (Shape.ReducesTo.fiber_r3_a2 _ _) (fun k => v54_at x hb b o k) (fun _ => rfl) (v59 x) rfl

end Cert.Ref

end
-- ==== Proof.RefScatter.lean ====
module

public import proofs.«01_k».proof.Proof.RefArgmax
public import Idealize.ShloMosaic.Lib.Routing.OpsPair

/-!
# The reference: priors given to objects

Every object claims its best prior.  The claims are written one after the other, so of two objects claiming one prior the
last stays.
-/

@[expose] public section

namespace Cert.Ref

open Cert.ReferenceIdeal Cert.ReferenceIdeal.Gen Idealize.ShloMosaic Idealize.ShloMosaic.Pointwise

set_option maxRecDepth 16384

/-- Writing at each `n` of a list where `P` holds: the last such `n` of an ordered list stays. -/
theorem foldl_last {N : ℕ} {α : Type} (P : Fin N → Prop) [DecidablePred P] (g : Fin N → α) (z : α) (m : Fin N) (hm : P m)
    (hl : ∀ n, m < n → ¬ P n) : (List.finRange N).foldl (fun a n => if P n then g n else a) z = g m := by
  obtain ⟨l₁, l₂, h⟩ := List.append_of_mem (List.mem_finRange m)
  have hs := List.pairwise_lt_finRange N
  rw [h] at hs ⊢
  have hs2 : ∀ n ∈ l₂, m < n := (List.pairwise_cons.1 (List.pairwise_append.1 hs).2.1).1
  rw [List.foldl_append, List.foldl_cons, if_pos hm]
  clear h hs
  induction l₂ with
  | nil => rfl
  | cons n l₂ ih =>
    rw [List.foldl_cons, if_neg (hl n (hs2 n List.mem_cons_self))]
    exact ih fun k hk => hs2 k (List.mem_cons_of_mem _ hk)

/-- Writing nowhere leaves the start. -/
theorem foldl_none {N : ℕ} {α : Type} (P : Fin N → Prop) [DecidablePred P] (g : Fin N → α) (z : α) (hl : ∀ n, ¬ P n) :
    (List.finRange N).foldl (fun a n => if P n then g n else a) z = z := by
  induction List.finRange N with
  | nil => rfl
  | cons n l ih => rw [List.foldl_cons, if_neg (hl n), ih]

section

variable {α : Type} (x0 : S32x8732.Idx → α) (i : IVec S32x32x2 32) (u : S32x32.Idx → α) (q : Fin 32 → Fin 32 → Fin 8732)
  (h0 : ∀ a o, i (ix3 a o 0) = BitVec.ofNat 32 a.val) (h1 : ∀ a o, i (ix3 a o 1) = BitVec.ofNat 32 (q a o).val)

include h0 h1 in
/-- The update of object `o` of image `a` lands at that image's prior `q a o`. -/
theorem lands (a o b : Fin 32) (p : Fin 8732) :
    scatter_S32x8732_S32x32x2_S32x32_n_01_01_2.resultIdx? (ix2 a o) i = some (ix2 b p) ↔ a = b ∧ q a o = p := by
  refine (Routing.scatter_lands2 (R := 32) (C := 8732) (A := 32) (B := 32) scatter_S32x8732_S32x32x2_S32x32_n_01_01_2 rfl rfl rfl
    i a o b p).trans ?_
  have e0 : (i (ValueIdx.ix3 a o 0)).toInt = a.val := by
    rw [← Spec.toInt_word (k := a.val) (by omega), ← h0 a o]; rfl
  have e1 : (i (ValueIdx.ix3 a o 1)).toInt = (q a o).val := by
    rw [← Spec.toInt_word (k := (q a o).val) (by omega), ← h1 a o]; rfl
  rw [e0, e1, Fin.ext_iff, Fin.ext_iff]
  norm_cast

theorem symm_eq (n : Fin S32x32.numel) : ∃ a o, S32x32.rowMajor.symm n = ix2 a o :=
  ⟨S32x32.rowMajor.symm n 0, S32x32.rowMajor.symm n 1, by
    funext k
    match k with
    | ⟨0, _⟩ => rfl
    | ⟨1, _⟩ => rfl⟩

include h0 h1 in
/-- A prior some object claims holds the last claimant's update. -/
theorem scatter_last (r : S32x8732.Idx → α)
    (hr : r = Host.scatter scatter_S32x8732_S32x32x2_S32x32_n_01_01_2 (fun _ v => v) x0 i u) (b o : Fin 32) (p : Fin 8732) (ho : q b o = p) (hl : ∀ o', o < o' → q b o' ≠ p) :
    r (ix2 b p) = u (ix2 b o) := by
  subst hr
  rw [Routing.scatter_at]
  refine (foldl_last _ (fun n => u (S32x32.rowMajor.symm n)) _ (S32x32.rowMajor (ix2 b o)) ?_ fun n hn hP => ?_).trans ?_
  · rw [Equiv.symm_apply_apply]
    exact (lands i q h0 h1 b o b p).2 ⟨rfl, ho⟩
  · obtain ⟨a, o', hs⟩ := symm_eq n
    rw [hs] at hP
    obtain ⟨rfl, hq⟩ := (lands i q h0 h1 a o' b p).1 hP
    refine hl o' ?_ hq
    rw [Equiv.symm_apply_eq] at hs
    subst hs
    have hn := Fin.lt_def.1 hn
    rw [Shape.rowMajor_val_two, Shape.rowMajor_val_two] at hn
    have hn : a.val * 32 + o.val < a.val * 32 + o'.val := hn
    exact Fin.lt_def.2 (by omega)
  · rw [Equiv.symm_apply_apply]

include h0 h1 in
/-- A prior no object claims is left as it was. -/
theorem scatter_none (r : S32x8732.Idx → α)
    (hr : r = Host.scatter scatter_S32x8732_S32x32x2_S32x32_n_01_01_2 (fun _ v => v) x0 i u) (b : Fin 32) (p : Fin 8732) (hl : ∀ o, q b o ≠ p) :
    r (ix2 b p) = x0 (ix2 b p) := by
  subst hr
  rw [Routing.scatter_at]
  refine foldl_none _ (fun n => u (S32x32.rowMajor.symm n)) _ fun n hP => ?_
  obtain ⟨a, o', hs⟩ := symm_eq n
  rw [hs] at hP
  obtain ⟨rfl, hq⟩ := (lands i q h0 h1 a o' b p).1 hP
  exact hl o' hq

end

variable (x : Args) (hb : ∀ i, x.arg2 i ≠ ⊤ ∧ x.arg2 i ≠ ⊥)

theorem v65_zero (a o : Fin 32) : v65 x (ix3 a o 0) = BitVec.ofNat 32 a.val := by
  unfold v65
  pointwise [v63, v62, v56, v55]

theorem pair_one (s : IVec S32x32x1 32) (t : IVec S32x32 32) (a o : Fin 32) :
    concatenate S32x32x2 2 [⟨S32x32x1, s⟩, ⟨S32x32x1, broadcastInDim S32x32x1 ![0, 1] bcast_S32x32_S32x32x1_0_1 t⟩]
      concatenates_S32x32x1_S32x32x1_S32x32x2_d2 (ix3 a o 1) = t (ix2 a o) := by
  pointwise []

include hb in
theorem v65_one (a o : Fin 32) :
    v65 x (ix3 a o 1) = BitVec.ofNat 32 (Spec.firstMax (Spec.iou (image x a) o)).val :=
  (pair_one v63 (v59 x) a o).trans (v59_at x hb a o)

theorem v61_at (a o : Fin 32) : v61 (ix2 a o) = BitVec.ofNat 32 o.val := by
  unfold v61
  pointwise [v60]

include hb in
/-- The object each prior is matched to. -/
theorem v66_at (b : Fin 32) (p : Fin 8732) :
    v66 x (ix2 b p) = BitVec.ofNat 32 (Spec.obj (Spec.iou (image x b)) p).val := by
  unfold Spec.obj
  split
  · next h =>
    rw [scatter_last _ _ v61 _ (v65_zero x) (v65_one x hb) (v66 x) rfl b ((Spec.owners (Spec.iou (image x b)) p).max' h) p
      (Finset.mem_filter.1 (Finset.max'_mem _ h)).2 fun o' ho' hq => ?_, v61_at]
    exact absurd (Finset.le_max' _ o' (Finset.mem_filter.2 ⟨Finset.mem_univ _, hq⟩)) (not_le.2 ho')
  · next h =>
    rw [scatter_none _ _ v61 _ (v65_zero x) (v65_one x hb) (v66 x) rfl b p fun o hq =>
      h ⟨o, Finset.mem_filter.2 ⟨Finset.mem_univ _, hq⟩⟩, v58_at x hb]

theorem v71_at (a o : Fin 32) : v71 (ix2 a o) = (1 : EReal) := by
  unfold v71
  pointwise [cst_4]

include hb in
/-- The overlap each prior counts with. -/
theorem v72_at (b : Fin 32) (p : Fin 8732) : v72 x (ix2 b p) = Spec.over (Spec.iou (image x b)) p := by
  unfold Spec.over
  split
  · next h =>
    have h := (Spec.forced_iff _ _).1 h
    rw [scatter_last _ _ v71 _ (v65_zero x) (v65_one x hb) (v72 x) rfl b ((Spec.owners (Spec.iou (image x b)) p).max' h) p
      (Finset.mem_filter.1 (Finset.max'_mem _ h)).2 fun o' ho' hq => ?_, v71_at]
    exact absurd (Finset.le_max' _ o' (Finset.mem_filter.2 ⟨Finset.mem_univ _, hq⟩)) (not_le.2 ho')
  · next h =>
    rw [scatter_none _ _ v71 _ (v65_zero x) (v65_one x hb) (v72 x) rfl b p fun o hq => h ⟨o, hq⟩, v57_at x hb]

end Cert.Ref

end
-- ==== Proof.RefGather.lean ====
module

public import proofs.«01_k».proof.Proof.RefIou

/-!
# The reference: its gathers, read at an index

Each gather reads its operand at the place its index words name, when those words name a place of the operand.
-/

@[expose] public section

namespace Cert.Ref

open Cert.ReferenceIdeal Cert.ReferenceIdeal.Gen Idealize.ShloMosaic Idealize.ShloMosaic.Pointwise

set_option maxRecDepth 16384

variable {α : Type}

theorem clamp_word {k n : ℕ} (h : k < n) (hn : n < 2 ^ 31) : min (BitVec.ofNat 32 k).toInt.toNat (n - 1) = k := by
  rw [Spec.toInt_word (by omega)]
  omega

/-- The gather of one element per prior from a table of image rows. -/
theorem gather_label (t : S32x32.Idx → α) (i : IVec S32x8732x2 32) (b : Fin 32) (p : Fin 8732) (r o : Fin 32)
    (h0 : i (ix3 b p 0) = BitVec.ofNat 32 r.val) (h1 : i (ix3 b p 1) = BitVec.ofNat 32 o.val) :
    Host.gather gather_S32x32_S32x8732x2_S32x8732_n_01_n_n_01_2_11 t i (ix2 b p) = t (ix2 r o) := by
  unfold Host.gather
  refine congrArg t (funext fun a => Fin.ext ?_)
  generalize hd : gather_S32x32_S32x8732x2_S32x8732_n_01_n_n_01_2_11 = d
  show d.start (ix2 b p) i a + d.batchCoord (ix2 b p) a + d.offCoord (ix2 b p) a = (ix2 r o a).val
  subst hd
  have ha : a = 0 ∨ a = 1 := by
    match a with
    | ⟨0, _⟩ => exact Or.inl rfl
    | ⟨1, _⟩ => exact Or.inr rfl
  rcases ha with rfl | rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    refine Eq.trans (congrArg (fun w : BitVec 32 => min w.toInt.toNat (32 - 1)) (Eq.trans (congrArg i ?_) h0))
      (clamp_word (k := r.val) (n := 32) r.isLt (by norm_num))
    funext c
    apply Fin.ext
    match c with
    | ⟨0, _⟩ => rfl
    | ⟨1, _⟩ => rfl
    | ⟨2, _⟩ => rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    refine Eq.trans (congrArg (fun w : BitVec 32 => min w.toInt.toNat (32 - 1)) (Eq.trans (congrArg i ?_) h1))
      (clamp_word (k := o.val) (n := 32) o.isLt (by norm_num))
    funext c
    apply Fin.ext
    match c with
    | ⟨0, _⟩ => rfl
    | ⟨1, _⟩ => rfl
    | ⟨2, _⟩ => rfl

/-- The gather of one box per prior. -/
theorem gather_box (t : S32x32x4.Idx → α) (i : IVec S32x8732x2 32) (b : Fin 32) (p : Fin 8732) (k : Fin 4) (r o : Fin 32)
    (h0 : i (ix3 b p 0) = BitVec.ofNat 32 r.val) (h1 : i (ix3 b p 1) = BitVec.ofNat 32 o.val) :
    Host.gather gather_S32x32x4_S32x8732x2_S32x8732x4_2_01_n_n_01_2_114 t i (ix3 b p k) = t (ix3 r o k) := by
  unfold Host.gather
  refine congrArg t (funext fun a => Fin.ext ?_)
  generalize hd : gather_S32x32x4_S32x8732x2_S32x8732x4_2_01_n_n_01_2_114 = d
  show d.start (ix3 b p k) i a + d.batchCoord (ix3 b p k) a + d.offCoord (ix3 b p k) a = (ix3 r o k a).val
  subst hd
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    refine Eq.trans (congrArg (fun w : BitVec 32 => min w.toInt.toNat (32 - 1)) (Eq.trans (congrArg i ?_) h0))
      (clamp_word (k := r.val) (n := 32) r.isLt (by norm_num))
    funext c
    apply Fin.ext
    match c with
    | ⟨0, _⟩ => rfl
    | ⟨1, _⟩ => rfl
    | ⟨2, _⟩ => rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    refine Eq.trans (congrArg (fun w : BitVec 32 => min w.toInt.toNat (32 - 1)) (Eq.trans (congrArg i ?_) h1))
      (clamp_word (k := o.val) (n := 32) o.isLt (by norm_num))
    funext c
    apply Fin.ext
    match c with
    | ⟨0, _⟩ => rfl
    | ⟨1, _⟩ => rfl
    | ⟨2, _⟩ => rfl
  · rw [GatherDims.batchCoord_eq_zero _ _ _ List.not_mem_nil]
    unfold GatherDims.start
    rw [dif_neg (by decide)]
    simp only [Nat.zero_add]
    unfold GatherDims.offCoord
    rw [dif_pos ((GatherDims.mem_sKept _ _).mpr ⟨by decide, by decide⟩)]
    rfl

/-- The gather of one score per prior. -/
theorem gather_score (t : S32x8732x81.Idx → α) (i : IVec S32x8732x1x1 32) (b : Fin 32) (p : Fin 8732) (c : Fin 81)
    (h : i (ix4 b p 0 0) = BitVec.ofNat 32 c.val) :
    Host.gather gather_S32x8732x81_S32x8732x1x1_S32x8732x1_n_2_01_01_2_3_111 t i (ix3 b p 0) = t (ix3 b p c) := by
  unfold Host.gather
  refine congrArg t (funext fun a => Fin.ext ?_)
  generalize hd : gather_S32x8732x81_S32x8732x1x1_S32x8732x1_n_2_01_01_2_3_111 = d
  show d.start (ix3 b p 0) i a + d.batchCoord (ix3 b p 0) a + d.offCoord (ix3 b p 0) a = (ix3 b p c a).val
  subst hd
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine Eq.trans (congrArg (fun w : BitVec 32 => min w.toInt.toNat (81 - 1)) (Eq.trans (congrArg i ?_) h))
      (clamp_word (k := c.val) (n := 81) c.isLt (by norm_num))
    funext c
    apply Fin.ext
    match c with
    | ⟨0, _⟩ => rfl
    | ⟨1, _⟩ => rfl
    | ⟨2, _⟩ => rfl
    | ⟨3, _⟩ => rfl

end Cert.Ref

end
-- ==== Proof.RefClass.lean ====
module

public import proofs.«01_k».proof.Proof.RefScatter
public import proofs.«01_k».proof.Proof.RefGather

/-!
# The reference: classes and matched boxes
-/

@[expose] public section

namespace Cert.Ref

open Cert.ReferenceIdeal Cert.ReferenceIdeal.Gen Idealize.ShloMosaic Idealize.ShloMosaic.Pointwise

set_option maxRecDepth 16384

variable (x : Args) (hb : ∀ i, x.arg2 i ≠ ⊤ ∧ x.arg2 i ≠ ⊥)

theorem pair8_one (s : IVec S32x8732x1 32) (t : IVec S32x8732 32) (b : Fin 32) (p : Fin 8732) :
    concatenate S32x8732x2 2 [⟨S32x8732x1, s⟩, ⟨S32x8732x1, broadcastInDim S32x8732x1 ![0, 1] bcast_S32x8732_S32x8732x1_0_1 t⟩]
      concatenates_S32x8732x1_S32x8732x1_S32x8732x2_d2 (ix3 b p 1) = t (ix2 b p) := by
  pointwise []

theorem pair8_zero (t : IVec S32x8732x1 32) (b : Fin 32) (p : Fin 8732) :
    concatenate S32x8732x2 2 [⟨S32x8732x1, v74⟩, ⟨S32x8732x1, t⟩]
      concatenates_S32x8732x1_S32x8732x1_S32x8732x2_d2 (ix3 b p 0) = BitVec.ofNat 32 b.val := by
  pointwise [v74, v73, v56, v55]

include hb in
/-- The matched object's label. -/
theorem v77_at (b : Fin 32) (p : Fin 8732) :
    v77 x (ix2 b p) = (image x b).lab (Spec.obj (Spec.iou (image x b)) p) :=
  gather_label (v6 x) (v76 x) b p b (Spec.obj (Spec.iou (image x b)) p) (pair8_zero (v75 x) b p)
    ((pair8_one v74 (v66 x) b p).trans (v66_at x hb b p))

include hb in
/-- The matched object's box. -/
theorem v85_at (b : Fin 32) (p : Fin 8732) (k : Fin 4) :
    v85 x (ix3 b p k) = Spec.mbox (image x b) p k :=
  gather_box x.arg2 (v84 x) b p k b (Spec.obj (Spec.iou (image x b)) p) (pair8_zero (v83 x) b p)
    ((pair8_one v82 (v66 x) b p).trans (v66_at x hb b p))

open Classical in
theorem choose_at (s : FVec Ideal S32x8732 .f32) (t : IVec S32x8732 32) (b : Fin 32) (p : Fin 8732) :
    select (cmpf .olt s v78) call2_v1 t (ix2 b p) = if s (ix2 b p) < Spec.half then 0#32 else t (ix2 b p) := by
  pointwise [v78, call2_v1, call2_v0, c_6, cst_5]
  by_cases h : s (ix2 b p) < Spec.half
  · simp only [h, Scalar.select, Ideal.cmp, decide_true, BitVec.ofBool_true, if_true]
    rfl
  · simp [h, Scalar.select, Ideal.cmp]

include hb in
/-- The class of each prior. -/
theorem v80_at (b : Fin 32) (p : Fin 8732) : v80 x (ix2 b p) = Spec.cls (image x b) p := by
  refine (choose_at (v72 x) (v77 x) b p).trans ?_
  rw [v72_at x hb, v77_at x hb]
  rfl

/-- Labels are classes. -/
theorem lab_lt (b o : Fin 32) : ∃ k : Fin 81, (image x b).lab o = BitVec.ofNat 32 k.val := by
  have h : ∀ i : S91.Idx, ∃ k : Fin 81, c i = BitVec.ofNat 32 k.val := by
    intro i
    have h : ∀ n : Fin 91, ∃ k : Fin 81, lit0 n = BitVec.ofNat 32 k.val := by decide
    exact h (S91.rowMajor i)
  exact h _

/-- The class of a prior is one of the 81. -/
theorem cls_lt (b : Fin 32) (p : Fin 8732) : ∃ k : Fin 81, Spec.cls (image x b) p = BitVec.ofNat 32 k.val := by
  unfold Spec.cls
  split
  · exact ⟨0, rfl⟩
  · exact lab_lt x b _

end Cert.Ref

end
-- ==== Proof.RefLoss.lean ====
module

public import proofs.«01_k».proof.Proof.RefClass

/-!
# The reference: distances, cross entropies and their sums

The reference subtracts the greatest score before it exponentiates, divides by ten where the image's terms multiply by
one tenth, and counts the positives in words: over finite scores these are the image's values.
-/

@[expose] public section

namespace Cert.Ref

open Cert.ReferenceIdeal Cert.ReferenceIdeal.Gen Idealize.ShloMosaic Idealize.ShloMosaic.Pointwise

set_option maxRecDepth 16384

/-! ## Scalars -/

theorem div_ten (a : EReal) : Ideal.div a (Ideal.ofBits .f32 0x41200000#32) = a * ((1 / 10 : ℝ) : EReal) := by
  rw [Spec.ten_word, Ideal.div, if_neg (by norm_num), ← EReal.coe_inv]
  norm_num

open Classical in
theorem bit_word (w : BitVec 32) :
    FloatOps.uitofp (F := Ideal) .f32 (IntOp.cmpi .ne w 0#32) = (if w = 0#32 then (0 : EReal) else 1) := by
  by_cases h : w = 0#32
  · subst h
    rw [if_pos rfl]
    show (((IntOp.cmpi .ne (0#32) (0#32)).toNat : ℝ) : EReal) = 0
    simp [IntOp.cmpi]
  · rw [if_neg h]
    show (((IntOp.cmpi .ne w (0#32)).toNat : ℝ) : EReal) = 1
    simp [IntOp.cmpi, bne_iff_ne.2 h]

/-- The cross entropy does not depend on the number taken off every score. -/
theorem shift_entropy (s : Fin 81 → EReal) (m : EReal) (hs : ∀ k, s k ≠ ⊤ ∧ s k ≠ ⊥) (hm : m ≠ ⊤ ∧ m ≠ ⊥) (c : Fin 81) :
    -((s c - m) - Ideal.log (∑ k, Ideal.exp (s k - m))) = Ideal.log (∑ k, Ideal.exp (s k)) - s c := by
  obtain ⟨r, rfl⟩ : ∃ r : Fin 81 → ℝ, s = fun k => (r k : EReal) :=
    ⟨fun k => (s k).toReal, funext fun k => (EReal.coe_toReal (hs k).1 (hs k).2).symm⟩
  lift m to ℝ using hm
  have hexp : ∀ a : ℝ, Ideal.exp (a : EReal) = ((Real.exp a : ℝ) : EReal) := fun _ => rfl
  have hlog : ∀ a : ℝ, 0 < a → Ideal.log (a : EReal) = ((Real.log a : ℝ) : EReal) := fun a ha => if_neg (not_le.2 ha)
  have hpos : ∀ f : Fin 81 → ℝ, 0 < ∑ k, Real.exp (f k) := fun f =>
    Finset.sum_pos (fun k _ => Real.exp_pos _) ⟨0, Finset.mem_univ _⟩
  simp only [← EReal.coe_sub, hexp, Spec.coe_sum]
  rw [hlog _ (hpos _), hlog _ (hpos _), ← EReal.coe_sub, ← EReal.coe_neg, ← EReal.coe_sub]
  have : (∑ k, Real.exp (r k - m)) = (∑ k, Real.exp (r k)) / Real.exp m := by
    rw [Finset.sum_div]
    exact Finset.sum_congr rfl fun k _ => Real.exp_sub _ _
  rw [this, Real.log_div (hpos _).ne' (Real.exp_pos m).ne', Real.log_exp]
  congr 1
  ring

/-- A count held in a word. -/
theorem count_word {n : ℕ} (hn : n < 2 ^ 31) (P : Fin n → BitVec 32) :
    FloatOps.sitofp (F := Ideal) .f32
      (Finset.fold IntOp.addi 0#32 (fun i => BitVec.setWidth 32 (IntOp.cmpi .ne (P i) 0#32)) Finset.univ)
      = ∑ i, (if P i = 0#32 then (0 : EReal) else 1) := by
  have h : ∀ s : Finset (Fin n), Finset.fold IntOp.addi 0#32 (fun i => BitVec.setWidth 32 (IntOp.cmpi .ne (P i) 0#32)) s
      = BitVec.ofNat 32 (s.filter fun i => P i ≠ 0#32).card := by
    intro s
    induction s using Finset.induction_on with
    | empty => rfl
    | insert a s has ih =>
      rw [Finset.fold_insert has, ih, Finset.filter_insert]
      by_cases ha : P a = 0#32
      · rw [if_neg (not_not.2 ha), ha]
        simp [IntOp.addi, IntOp.cmpi]
      · rw [if_pos ha, Finset.card_insert_of_notMem fun h => has (Finset.mem_filter.1 h).1]
        simp only [IntOp.addi, IntOp.cmpi, bne_iff_ne.2 ha]
        rw [BitVec.ofNat_add, BitVec.add_comm]
        rfl
  rw [h]
  have hc : (Finset.univ.filter fun i => P i ≠ 0#32).card ≤ n := (Finset.card_le_univ _).trans (by simp)
  show (((BitVec.ofNat 32 _).toInt : ℝ) : EReal) = _
  rw [Spec.toInt_word (by omega)]
  have e : ∀ i, (if P i = 0#32 then (0 : EReal) else 1) = (((if P i ≠ 0#32 then 1 else 0 : ℝ)) : EReal) := fun i => by
    by_cases h : P i = 0#32 <;> simp [h]
  simp only [e, Spec.coe_sum]
  rw [Finset.sum_boole]
  norm_cast

/-! ## Distances -/

section

variable (x : Args) (hb : ∀ i, x.arg2 i ≠ ⊤ ∧ x.arg2 i ≠ ⊥)

include hb in
theorem v117_zero (b : Fin 32) (p : Fin 8732) :
    v117 x (ix3 b p 0) = Spec.mag ((image x b).loc p 0 - Spec.centre (image x b) p 0 2) * Spec.pos (image x b) p := by
  have h0 := v85_at x hb b p 0
  have h2 := v85_at x hb b p 2
  have hc := v80_at x hb b p
  unfold v117 v116 v115 v114 v113 v112 v111 v110 v109 v108 v107 v106 v105 v104 v103 v102 v101 v100 v99 v98 v97 v96 v95 v94 v93 v92 v91 v90 v89 v88 v87 v86
  generalize v85 x = T at *
  generalize v80 x = K at *
  pointwise [cst_7, cst_8, cst_9, c_10]
  rw [bit_word, h0, h2, hc, div_two, div_ten]
  rfl

include hb in
theorem v117_one (b : Fin 32) (p : Fin 8732) :
    v117 x (ix3 b p 1) = Spec.mag ((image x b).loc p 1 - Spec.centre (image x b) p 1 3) * Spec.pos (image x b) p := by
  have h0 := v85_at x hb b p 1
  have h2 := v85_at x hb b p 3
  have hc := v80_at x hb b p
  unfold v117 v116 v115 v114 v113 v112 v111 v110 v109 v108 v107 v106 v105 v104 v103 v102 v101 v100 v99 v98 v97 v96 v95 v94 v93 v92 v91 v90 v89 v88 v87 v86
  generalize v85 x = T at *
  generalize v80 x = K at *
  pointwise [cst_7, cst_8, cst_9, c_10]
  rw [bit_word, h0, h2, hc, div_two, div_ten]
  rfl

include hb in
theorem v117_two (b : Fin 32) (p : Fin 8732) :
    v117 x (ix3 b p 2) = Spec.mag ((image x b).loc p 2 - Spec.size (image x b) p 2) * Spec.pos (image x b) p := by
  have h0 := v85_at x hb b p 2
  have hc := v80_at x hb b p
  unfold v117 v116 v115 v114 v113 v112 v111 v110 v109 v108 v107 v106 v105 v104 v103 v102 v101 v100 v99 v98 v97 v96 v95 v94 v93 v92 v91 v90 v89 v88 v87 v86
  generalize v85 x = T at *
  generalize v80 x = K at *
  pointwise [cst_7, cst_8, cst_9, c_10]
  rw [bit_word, h0, hc]
  rfl

include hb in
theorem v117_three (b : Fin 32) (p : Fin 8732) :
    v117 x (ix3 b p 3) = Spec.mag ((image x b).loc p 3 - Spec.size (image x b) p 3) * Spec.pos (image x b) p := by
  have h0 := v85_at x hb b p 3
  have hc := v80_at x hb b p
  unfold v117 v116 v115 v114 v113 v112 v111 v110 v109 v108 v107 v106 v105 v104 v103 v102 v101 v100 v99 v98 v97 v96 v95 v94 v93 v92 v91 v90 v89 v88 v87 v86
  generalize v85 x = T at *
  generalize v80 x = K at *
  pointwise [cst_7, cst_8, cst_9, c_10]
  rw [bit_word, h0, hc]
  rfl

theorem mag_nonneg (a : EReal) : 0 ≤ Spec.mag a := by
  unfold Spec.mag
  rcases le_total 0 a with h | h
  · exact le_max_of_le_left h
  · exact le_max_of_le_right (by simpa using h)

/-! ## Cross entropies -/

variable (hs : ∀ i, x.arg1 i ≠ ⊤ ∧ x.arg1 i ≠ ⊥)

theorem call3_v0_at (b : Fin 32) (p : Fin 8732) : call3_v0 x (ix2 b p) = Spec.top ((image x b).sc p) := by
  unfold call3_v0
  pointwise [call3_cst]
  rw [Spec.negInf_word]
  rfl

theorem call3_v1_at (b : Fin 32) (p : Fin 8732) : call3_v1 (ix2 b p) = (⊥ : EReal) := by
  unfold call3_v1
  pointwise [call3_cst_0]
  exact Spec.negInf_word

theorem max_at (u v : FVec Ideal S32x8732 .f32) (i : S32x8732.Idx) : maximumf u v i = max (u i) (v i) := rfl

theorem call3_v2_at (b : Fin 32) (p : Fin 8732) : call3_v2 x (ix2 b p) = Spec.top ((image x b).sc p) := by
  refine (max_at call3_v1 (call3_v0 x) _).trans ?_
  rw [call3_v1_at, call3_v0_at]
  exact bot_sup_eq _

theorem v118_at (b : Fin 32) (p : Fin 8732) (c : Fin 81) :
    v118 x (ix3 b p c) = ((image x b).sc p c - Spec.top ((image x b).sc p))
      - Ideal.log (∑ k, Ideal.exp ((image x b).sc p k - Spec.top ((image x b).sc p))) := by
  have h := call3_v2_at x b p
  unfold v118 call3_v10 call3_v9 call3_v8 call3_v7 call3_v6 call3_v5 call3_v4 call3_v3
  generalize call3_v2 x = T at *
  pointwise [call3_cst_1]
  rw [h]
  rfl

theorem call4_v0_at (b : Fin 32) (p : Fin 8732) : call4_v0 x (ix4 b p 0 0) = v80 x (ix2 b p) := by
  unfold call4_v0 v119
  generalize v80 x = T
  pointwise []

theorem v122_eq (b : Fin 32) (p : Fin 8732) : v122 x (ix2 b p) = -(v120 x (ix3 b p 0)) := by
  unfold v122 v121
  generalize v120 x = T
  pointwise []

include hb hs in
/-- The cross entropy of a prior. -/
theorem v122_at (b : Fin 32) (p : Fin 8732) : v122 x (ix2 b p) = Spec.conf (image x b) p := by
  obtain ⟨c, hc⟩ := cls_lt x b p
  have h120 : v120 x (ix3 b p 0) = v118 x (ix3 b p c) :=
    gather_score (v118 x) (call4_v0 x) b p c (((call4_v0_at x b p).trans (v80_at x hb b p)).trans hc)
  have hsc : ∀ k, (image x b).sc p k ≠ ⊤ ∧ (image x b).sc p k ≠ ⊥ := fun k => hs _
  rw [v122_eq, h120, v118_at, shift_entropy _ _ hsc (by rw [Spec.top_eq]; exact hsc _)]
  unfold Spec.conf
  congr 1
  rw [hc, Finset.sum_eq_single c]
  · exact (if_pos rfl).symm
  · intro k _ hk
    refine if_neg fun h => hk (Fin.ext ?_)
    exact (Spec.word_inj (by omega) (by omega)).1 h
  · exact fun h => absurd (Finset.mem_univ _) h

end

end Cert.Ref

end
-- ==== Proof.Losses.lean ====
module

public import proofs.«01_k».proof.Proof.Words

/-!
# Counts and losses as real numbers

The number of positives is a natural number, and the cross entropies of the negatives are nonnegative real numbers when
the scores are real.
-/

@[expose] public section

namespace Cert.Spec

open Idealize.ShloMosaic

/-- How many priors of the image are positive. -/
noncomputable def count (I : Image) : ℕ := (Finset.univ.filter fun p => cls I p ≠ 0#32).card

theorem count_le (I : Image) : count I ≤ 8732 := (Finset.card_le_univ _).trans (by simp)

theorem nPos_eq (I : Image) : nPos I = ((count I : ℝ) : EReal) := by
  have e : ∀ p, pos I p = (((if cls I p ≠ 0#32 then 1 else 0 : ℝ)) : EReal) := fun p => by
    unfold pos
    by_cases h : cls I p = 0#32 <;> simp [h]
  unfold nPos count
  simp only [e, coe_sum]
  rw [Finset.sum_boole]

/-- Words that add one for each place whose word is not zero. -/
theorem fold_count {ι : Type} [DecidableEq ι] (P : ι → BitVec 32) (s : Finset ι) :
    Finset.fold IntOp.addi 0#32 (fun i => BitVec.setWidth 32 (IntOp.cmpi .ne (P i) 0#32)) s
      = BitVec.ofNat 32 (s.filter fun i => P i ≠ 0#32).card := by
  induction s using Finset.induction_on with
  | empty => rfl
  | insert a s has ih =>
    rw [Finset.fold_insert has, ih, Finset.filter_insert]
    by_cases ha : P a = 0#32
    · rw [if_neg (not_not.2 ha), ha]
      simp [IntOp.addi, IntOp.cmpi]
    · rw [if_pos ha, Finset.card_insert_of_notMem fun h => has (Finset.mem_filter.1 h).1]
      simp only [IntOp.addi, IntOp.cmpi, bne_iff_ne.2 ha]
      rw [BitVec.ofNat_add, BitVec.add_comm]
      rfl

/-- The cross entropies of the negatives are nonnegative real numbers. -/
theorem neg_real (I : Image) (hs : ∀ p k, I.sc p k ≠ ⊤ ∧ I.sc p k ≠ ⊥) (p : Fin 8732) :
    ∃ r : ℝ, neg I p = (r : EReal) ∧ 0 ≤ r := by
  by_cases h : cls I p = 0#32
  · obtain ⟨r, hr⟩ : ∃ r : Fin 81 → ℝ, I.sc p = fun k => (r k : EReal) :=
      ⟨fun k => (I.sc p k).toReal, funext fun k => (EReal.coe_toReal (hs p k).1 (hs p k).2).symm⟩
    have hexp : ∀ a : ℝ, Ideal.exp (a : EReal) = ((Real.exp a : ℝ) : EReal) := fun _ => rfl
    have hlog : ∀ a : ℝ, 0 < a → Ideal.log (a : EReal) = ((Real.log a : ℝ) : EReal) := fun a ha => if_neg (not_le.2 ha)
    have hpos : 0 < ∑ k, Real.exp (r k) := Finset.sum_pos (fun k _ => Real.exp_pos _) ⟨0, Finset.mem_univ _⟩
    refine ⟨Real.log (∑ k, Real.exp (r k)) - r 0, ?_, ?_⟩
    · have hc : (∑ c : Fin 81, if BitVec.ofNat 32 c = cls I p then I.sc p c else 0) = (r 0 : EReal) := by
        rw [Finset.sum_eq_single (0 : Fin 81)]
        · rw [if_pos (by rw [h]; rfl), hr]
        · intro k _ hk
          refine if_neg fun e => hk (Fin.ext ?_)
          rw [h] at e
          exact (word_inj (a := k.val) (b := 0) (by omega) (by omega)).1 e
        · exact fun e => absurd (Finset.mem_univ _) e
      unfold neg
      rw [if_pos h]
      unfold conf
      rw [hc, hr]
      simp only [hexp, coe_sum]
      rw [hlog _ hpos, EReal.coe_sub]
    · rw [sub_nonneg, Real.le_log_iff_exp_le hpos]
      exact Finset.single_le_sum (f := fun k => Real.exp (r k)) (fun k _ => (Real.exp_pos _).le) (Finset.mem_univ 0)
  · refine ⟨0, ?_, le_rfl⟩
    unfold neg
    rw [if_neg h]
    rfl

end Cert.Spec

end
-- ==== Proof.Sorting.lean ====
module

public import proofs.«01_k».proof.Proof.Gen.ReferenceIdeal
public import Idealize.ShloMosaic.Lib.Pointwise
public import Idealize.ShloMosaic.Lib.SortFacts

/-!
# The reference's sort

Each row of the sorted array is a permutation of the row that was sorted, in ascending order.
-/

@[expose] public section

namespace Cert.Ref

set_option maxRecDepth 16384

open Cert.ReferenceIdeal Cert.ReferenceIdeal.Gen Idealize.ShloMosaic Idealize.ShloMosaic.Pointwise

/-- The sort's comparison is the order of the extended reals. -/
theorem comparator_eq (a b : EReal) : (comparator_f32_d1 (F := Ideal) a b == 1#1) = decide (a < b) := by
  have hz : Ideal.ofBits .f32 0#32 = 0 := by simp [Ideal.ofBits, Ideal.ieee]
  have h2 : ∀ l : EReal, Scalar.select (Ideal.cmp .oeq l (Ideal.ofBits .f32 0#32)) (Ideal.ofBits .f32 0#32) l = l := fun l => by
    rw [hz]
    by_cases h : l = 0 <;> simp [Scalar.select, Ideal.cmp, h]
  have h3 : ∀ l z w : EReal, Scalar.select (Ideal.cmp .une l l) z w = w := fun l z w => by
    simp [Scalar.select, Ideal.cmp]
  show (Ideal.cmp .olt (Scalar.select (Ideal.cmp .une a a) (Ideal.ofBits .f32 0x7FC00000#32)
      (Scalar.select (Ideal.cmp .oeq a (Ideal.ofBits .f32 0#32)) (Ideal.ofBits .f32 0#32) a))
    (Scalar.select (Ideal.cmp .une b b) (Ideal.ofBits .f32 0x7FC00000#32)
      (Scalar.select (Ideal.cmp .oeq b (Ideal.ofBits .f32 0#32)) (Ideal.ofBits .f32 0#32) b)) == 1#1) = decide (a < b)
  rw [h3, h3, h2, h2]
  by_cases h : a < b <;> simp [Ideal.cmp, h]

/-- A sorted list ascends. -/
theorem sorted_mono {n : ℕ} (f : Fin n → EReal) (B : Fin n → Fin n → Bool) (hc : ∀ k k', B k k' = decide (f k < f k'))
    (r s : Fin n) (h : r ≤ s) : f (sortedFrom B r) ≤ f (sortedFrom B s) := by
  rcases h.eq_or_lt with rfl | h
  · exact le_rfl
  have := sortedFrom_noInversion B B
    (fun a c h => by rw [hc] at h ⊢; simp only [decide_eq_true_eq, decide_eq_false_iff_not] at h ⊢; exact h.not_gt)
    (fun _ _ h => h)
    (fun a c d h h' => by
      rw [hc] at h h' ⊢
      simp only [decide_eq_false_iff_not, not_lt] at h h' ⊢
      exact h'.trans h) r s h
  rw [hc, decide_eq_false_iff_not, not_lt] at this
  exact this

variable (u : FVec Ideal S32x8732 .f32) (b : Fin 32)

/-- Which of two places of row `b` comes first. -/
noncomputable def before (k k' : Fin 8732) : Bool :=
  comparator_f32_d1 (F := Ideal) (u (ix2 b k)) (u (ix2 b k')) == 1#1

/-- Where each place of the sorted row `b` comes from. -/
noncomputable def perm : Equiv.Perm (Fin 8732) :=
  Equiv.ofBijective (sortedFrom (before u b)) ⟨sortedFrom_injective _, sortedFrom_surjective _⟩

theorem perm_apply (r : Fin 8732) : perm u b r = sortedFrom (before u b) r := Equiv.ofBijective_apply _ _ _

theorem sort_at (r : Fin 8732) :
    Host.sort S32x8732 1 (comparator_f32_d1 (F := Ideal)) u (ix2 b r) = u (ix2 b (perm u b r)) := by
  have h1 : 1 < S32x8732.rank := by decide
  have e : ∀ k : Fin 8732, Shape.Idx.along (s := S32x8732) (ix2 b r) ⟨1, h1⟩ k = ix2 b k := fun k => by
    funext i
    rcases (show i = 0 ∨ i = 1 by revert i; decide) with rfl | rfl
    · rfl
    · rfl
  unfold Host.sort
  refine (dif_pos h1).trans ?_
  refine (congrArg u (e _)).trans ?_
  have hB : (fun k k' : Fin 8732 => comparator_f32_d1 (F := Ideal) (u (Shape.Idx.along (s := S32x8732) (ix2 b r) ⟨1, h1⟩ k))
      (u (Shape.Idx.along (s := S32x8732) (ix2 b r) ⟨1, h1⟩ k')) == 1#1) = before u b :=
    funext fun k => funext fun k' => congrArg₂ (fun i j => comparator_f32_d1 (F := Ideal) (u i) (u j) == 1#1) (e k) (e k')
  rw [perm_apply]
  exact congrArg (fun B => u (ix2 b (sortedFrom B r))) hB

/-- The sorted row ascends. -/
theorem sort_mono (r s : Fin 8732) (h : r ≤ s) : u (ix2 b (perm u b r)) ≤ u (ix2 b (perm u b s)) := by
  rw [perm_apply, perm_apply]
  have h' := sorted_mono (fun k => u (ix2 b k)) (before u b) (fun _ _ => comparator_eq _ _) r s h
  exact h'

end Cert.Ref

end
-- ==== Proof.RefTail.lean ====
module

public import proofs.«01_k».proof.Proof.RefLoss
public import proofs.«01_k».proof.Proof.Losses
public import proofs.«01_k».proof.Proof.Sorting

/-!
# The reference: hard negatives and the total

The reference sorts the negatives' cross entropies of every image, keeps the `3n` greatest, and adds everything up.
-/

@[expose] public section

namespace Cert.Ref

open Cert.ReferenceIdeal Cert.ReferenceIdeal.Gen Idealize.ShloMosaic Idealize.ShloMosaic.Pointwise

set_option maxRecDepth 16384

/-! ## Operations at a place -/

theorem addf_zero_rank (u v : FVec Ideal S_ .f32) (i : S_.Idx) : addf u v i = u i + v i := rfl

theorem divf_zero_rank (u v : FVec Ideal S_ .f32) (i : S_.Idx) : Host.divf u v i = Ideal.div (u i) (v i) := rfl

theorem mulf_rows (u v : FVec Ideal S32x8732 .f32) (i : S32x8732.Idx) : mulf u v i = u i * v i := rfl

theorem negf_rows (u : FVec Ideal S32x8732 .f32) (i : S32x8732.Idx) : Host.negf u i = -(u i) := rfl

theorem bits_rows (u : IVec S32x8732 1) (i : S32x8732.Idx) :
    (uitofp .f32 u : FVec Ideal S32x8732 .f32) i = FloatOps.uitofp (F := Ideal) .f32 (u i) := rfl

theorem sum_rows (u : FVec Ideal S32x8732 .f32) :
    Host.reduceAdd u cst_18 reducesTo_S32x8732_S_d0_1 h_S_ ix0 = ∑ b, ∑ p, u (ix2 b p) := by
  pointwise [cst_18]

/-- A comparison of small words as a factor. -/
theorem slt_bit {r k : ℕ} (hr : r < 2 ^ 31) (hk : k < 2 ^ 31) :
    FloatOps.uitofp (F := Ideal) .f32 (IntOp.cmpi .slt (BitVec.ofNat 32 r) (BitVec.ofNat 32 k))
      = (if r < k then (1 : EReal) else 0) := by
  show (((IntOp.cmpi .slt (BitVec.ofNat 32 r) (BitVec.ofNat 32 k)).toNat : ℝ) : EReal) = _
  have e : (BitVec.ofNat 32 r).slt (BitVec.ofNat 32 k) = decide (r < k) := by
    rw [BitVec.slt, Spec.toInt_word hr, Spec.toInt_word hk]
    simp
  by_cases h : r < k <;> simp [IntOp.cmpi, e, h]

/-- How many pairs satisfy a condition, counted one coordinate after the other. -/
theorem card_pairs {n m : ℕ} (P : Fin n → Fin m → Prop) [∀ b p, Decidable (P b p)] :
    (((Finset.univ.filter fun k : Fin n × Fin m => P k.1 k.2).card : ℕ) : ℝ) = ∑ b, ∑ p, if P b p then 1 else 0 := by
  rw [← Finset.sum_boole]
  exact Fintype.sum_prod_type _

variable (x : Args) (hb : ∀ i, x.arg2 i ≠ ⊤ ∧ x.arg2 i ≠ ⊥)

/-! ## Sums over the batch -/

include hb in
/-- The number of positives of the batch. -/
theorem n_at : FloatOps.sitofp (F := Ideal) .f32 (v124 x ix0) = ∑ b, Spec.nPos (image x b) := by
  have hc := v80_at x hb
  have h : v124 x ix0 = BitVec.ofNat 32
      (Finset.univ.filter fun k : Fin 32 × Fin 8732 => Spec.cls (image x k.1) k.2 ≠ 0#32).card := by
    unfold v124 v123 v111 v110
    generalize v80 x = K at *
    pointwise [c_11, c_10]
    simp only [hc]
    exact Spec.fold_count _ _
  rw [h]
  have hle : (Finset.univ.filter fun k : Fin 32 × Fin 8732 => Spec.cls (image x k.1) k.2 ≠ 0#32).card ≤ 32 * 8732 :=
    (Finset.card_le_univ _).trans (by simp)
  show (((BitVec.ofNat 32 _).toInt : ℝ) : EReal) = _
  rw [Spec.toInt_word (by omega)]
  have e : ∀ b, Spec.nPos (image x b) = (((∑ p, if Spec.cls (image x b) p ≠ 0#32 then 1 else 0 : ℝ)) : EReal) := fun b => by
    rw [Spec.nPos_eq, Finset.sum_boole]
    rfl
  simp only [e, Spec.coe_sum]
  rw [Int.cast_natCast]
  exact congrArg _ (card_pairs fun (b : Fin 32) (p : Fin 8732) => Spec.cls (image x b) p ≠ 0#32)

include hb in
/-- The localisation loss of the batch. -/
theorem v125_at : v125 x ix0 = ∑ b, Spec.locSum (image x b) := by
  have h0 := v117_zero x hb
  have h1 := v117_one x hb
  have h2 := v117_two x hb
  have h3 := v117_three x hb
  unfold v125
  generalize v117 x = T at *
  pointwise [cst_12]
  refine Finset.sum_congr rfl fun b _ => ?_
  unfold Spec.locSum
  refine Finset.sum_congr rfl fun p _ => ?_
  rw [Fin.sum_univ_four, h0, h1, h2, h3, Spec.dist]
  have hm := mag_nonneg
  rw [EReal.right_distrib_of_nonneg (add_nonneg (add_nonneg (hm _) (hm _)) (hm _)) (hm _),
    EReal.right_distrib_of_nonneg (add_nonneg (hm _) (hm _)) (hm _), EReal.right_distrib_of_nonneg (hm _) (hm _)]

include hb in
/-- Three times the number of positives of an image. -/
theorem v132_at (b : Fin 32) : v132 x (ix1 b) = BitVec.ofNat 32 (3 * Spec.count (image x b)) := by
  have hc := v80_at x hb
  unfold v132 v130 v129 v111 v110
  generalize v80 x = K at *
  pointwise [v131, c_15, c_14, c_10]
  simp only [hc]
  rw [Spec.fold_count, BitVec.ofNat_mul]
  rfl

variable (hs : ∀ i, x.arg1 i ≠ ⊤ ∧ x.arg1 i ≠ ⊥)

include hb hs in
/-- The cross entropy of the positives of the batch. -/
theorem v135_at : v135 x ix0 = ∑ b, Spec.posSum (image x b) := by
  have hc := v80_at x hb
  have hv := v122_at x hb hs
  unfold v135 v134 v133 v111 v110
  generalize v80 x = K at *
  generalize v122 x = U at *
  pointwise [cst_16, c_10]
  refine Finset.sum_congr rfl fun b _ => ?_
  unfold Spec.posSum
  refine Finset.sum_congr rfl fun p _ => ?_
  rw [bit_word, hc, hv]
  split
  · exact mul_zero _
  · exact mul_one _

/-! ## Hard negatives -/

theorem zero_const : id (constant (F := Ideal) S_ FTy.f32 0#32) ix0 = (0 : EReal) := by
  show Ideal.ofBits .f32 0#32 = 0
  simp [Ideal.ofBits, Ideal.ieee]

include hb hs in
/-- The cross entropy of each negative. -/
theorem v136_at (b : Fin 32) (p : Fin 8732) : v136 x (ix2 b p) = Spec.neg (image x b) p := by
  have hc := v80_at x hb b p
  have hv := v122_at x hb hs b p
  unfold v136 v111 v110
  generalize v80 x = K at *
  generalize v122 x = U at *
  pointwise [c_10, call5_v1, call5_v0, cst_17]
  rw [Spec.select_ne_word, hc, hv]
  unfold Spec.neg
  rw [zero_const]

/-- Where each place of image `b`'s sorted losses comes from. -/
noncomputable abbrev order (b : Fin 32) : Equiv.Perm (Fin 8732) := perm (v137 x) b

theorem v137_at (b : Fin 32) (p : Fin 8732) : v137 x (ix2 b p) = -(v136 x (ix2 b p)) := negf_rows (v136 x) _

theorem v138_at (b : Fin 32) (r : Fin 8732) : v138 x (ix2 b r) = v137 x (ix2 b (order x b r)) := sort_at (v137 x) b r

/-- The sorted losses. -/
theorem v139_at (b : Fin 32) (r : Fin 8732) : v139 x (ix2 b r) = v136 x (ix2 b (order x b r)) := by
  have h : v139 x (ix2 b r) = -(v138 x (ix2 b r)) := negf_rows (v138 x) _
  rw [h, v138_at, v137_at, neg_neg]

/-- The sorted losses descend. -/
theorem order_anti (b : Fin 32) (r s : Fin 8732) (h : r ≤ s) :
    v136 x (ix2 b (order x b s)) ≤ v136 x (ix2 b (order x b r)) := by
  have := sort_mono (v137 x) b r s h
  rw [v137_at, v137_at] at this
  exact EReal.neg_le_neg_iff.1 this

theorem v143_at (b : Fin 32) (p : Fin 8732) : v143 (ix2 b p) = BitVec.ofNat 32 p.val := by
  pointwise [v143, v141, v140]

theorem v144_at (b : Fin 32) (p : Fin 8732) : v144 x (ix2 b p) = v132 x (ix1 b) := by
  unfold v144 v142
  generalize v132 x = N at *
  pointwise []

theorem v145_at (b : Fin 32) (p : Fin 8732) : v145 x (ix2 b p) = IntOp.cmpi .slt (v143 (ix2 b p)) (v144 x (ix2 b p)) := by
  unfold v145
  generalize v144 x = N at *
  generalize v143 = M at *
  pointwise []

include hb in
/-- Whether a rank is asked for. -/
theorem v146_at (b : Fin 32) (r : Fin 8732) :
    v146 x (ix2 b r) = if r.val < 3 * Spec.count (image x b) then (1 : EReal) else 0 := by
  have h : v146 x (ix2 b r) = FloatOps.uitofp (F := Ideal) .f32 (v145 x (ix2 b r)) := bits_rows (v145 x) _
  have hc := Spec.count_le (image x b)
  rw [h, v145_at, v143_at, v144_at, v132_at x hb, slt_bit (by omega) (by omega)]

variable {a : Fin 32 → Fin 8732 → ℝ} (ha : ∀ b p, Spec.neg (image x b) p = (a b p : EReal))

include hb hs ha in
/-- The sum of the hard negatives' losses. -/
theorem v148_at : v148 x ix0
    = ((∑ b, ∑ r : Fin 8732, if r.val < 3 * Spec.count (image x b) then a b (order x b r) else 0 : ℝ) : EReal) := by
  have h : v148 x ix0 = ∑ b, ∑ r, v147 x (ix2 b r) := sum_rows (v147 x)
  have e : ∀ b r, v147 x (ix2 b r)
      = ((if r.val < 3 * Spec.count (image x b) then a b (order x b r) else 0 : ℝ) : EReal) := fun b r => by
    have h' : v147 x (ix2 b r) = v139 x (ix2 b r) * v146 x (ix2 b r) := mulf_rows (v139 x) (v146 x) _
    rw [h', v139_at, v136_at x hb hs, ha, v146_at x hb]
    split
    · exact mul_one _
    · exact mul_zero _
  rw [h]
  simp only [e, Spec.coe_sum]

/-! ## The total -/

theorem one_word : Ideal.ofBits .f32 0x3F800000#32 = (1 : EReal) := by
  have h : Ideal.ofBits .f32 0x3F800000#32 = ((1 : ℝ) : EReal) := by
    simp [Ideal.ofBits, Ideal.ieee, -EReal.coe_mul, -EReal.coe_one]; norm_num
  exact h

theorem v149_at : v149 x ix0 = v148 x ix0 + v135 x ix0 := addf_zero_rank (v148 x) (v135 x) _

theorem v150_at : v150 x ix0 = FloatOps.sitofp (F := Ideal) .f32 (v124 x ix0) := by
  unfold v150
  rfl

theorem v151_at : v151 x ix0 = Ideal.div (v149 x ix0) (v150 x ix0) := divf_zero_rank (v149 x) (v150 x) _

theorem v128_at : v128 x ix0
    = Ideal.div (v125 x ix0) (FloatOps.sitofp (F := Ideal) .f32 (v124 x ix0) * Ideal.ofBits .f32 0x40800000#32) := by
  unfold v128 v127 v126
  generalize v124 x = A at *
  generalize v125 x = B at *
  pointwise [cst_13]

theorem v153_at : v153 x ix0 = v151 x ix0 + v128 x ix0 := by
  have h : v153 x ix0 = v151 x ix0 + Ideal.ofBits .f32 0x3F800000#32 * v128 x ix0 := by
    unfold v153 v152
    generalize v128 x = A at *
    generalize v151 x = B at *
    unfold cst_19
    rfl
  rw [h, one_word, one_mul]

theorem v156_at (l : Fin 128) : v156 (ix1 l) = IntOp.cmpi .eq (BitVec.ofNat 32 l.val) 0#32 := by
  pointwise [v156, v155, v154, c_20]

theorem v158_eq (l : Fin 128) : v158 x (ix2 0 l) = v157 x (ix1 l) := by
  unfold v158
  generalize v157 x = N at *
  pointwise []

theorem v157_at (l : Fin 128) :
    v157 x (ix1 l) = Scalar.select (v156 (ix1 l)) (v153 x ix0) (call7_v2 (ix1 l)) := by
  unfold v157 call7_v1
  generalize v153 x = N at *
  generalize v156 = M
  generalize call7_v2 = MM
  pointwise []

theorem call7_at (l : Fin 128) : call7_v2 (ix1 l) = (0 : EReal) := by
  have h : call7_v2 (ix1 l) = call7_v0 ix0 := by
    unfold call7_v2
    generalize call7_v0 = z
    pointwise []
  rw [h]
  unfold call7_v0 cst_21
  exact zero_const

include hb hs ha in
/-- The reference's result. -/
theorem v158_at (l : Fin 128) : v158 x (ix2 0 l) = if l = 0 then
      Ideal.div (((∑ b, ∑ r : Fin 8732, if r.val < 3 * Spec.count (image x b) then a b (order x b r) else 0 : ℝ) : EReal)
          + ∑ b, Spec.posSum (image x b)) (∑ b, Spec.nPos (image x b))
        + Ideal.div (∑ b, Spec.locSum (image x b)) ((∑ b, Spec.nPos (image x b)) * Ideal.ofBits .f32 0x40800000#32)
    else 0 := by
  rw [v158_eq, v157_at, v156_at, call7_at, v153_at, v151_at, v149_at, v150_at, v128_at, n_at x hb, v125_at x hb,
    v135_at x hb hs, v148_at x hb hs ha, Spec.select_eq_word]
  refine if_congr ?_ rfl rfl
  rw [Spec.word_inj (a := l.val) (b := 0) (by omega) (by omega), Fin.ext_iff]
  rfl

end Cert.Ref

end
-- ==== Proof.Total.lean ====
module

public import proofs.«01_k».proof.Proof.Separated
public import proofs.«01_k».proof.Proof.RefTail
public import proofs.«01_k».proof.Proof.MineTotal

/-!
# The second region's total is the reference's

Under the precondition the bisection finds the sum of the hard negatives' losses that the reference finds by sorting.
-/

@[expose] public section

namespace Cert.Total

open Idealize.ShloMosaic Idealize.ShloMosaic.Pointwise

set_option maxRecDepth 16384

/-- The greatest float. -/
theorem last_word : Ideal.ofBits .f32 0x7F7FFFFF#32 = (Mine.val Mine.last : EReal) := Mine.ofBits_val le_rfl

/-- An index of the result. -/
theorem result_idx (y : KernelIdeal.S1x128.Idx) : y = ix2 0 (y 1) := by
  funext a
  rcases (show a = 0 ∨ a = 1 by revert a; decide) with rfl | rfl
  · exact Subsingleton.elim (α := Fin 1) _ _
  · rfl

variable (x : Ref.Args)

/-- Sums and losses of the images `x` holds, taken by the second region, give the reference's result. -/
theorem total_eq (h1 : Separated.realScores x.arg1 = fun _ => 1#1) (h2 : Separated.realBoxes x.arg2 = fun _ => 1#1)
    (h3 : Separated.small (Ref.v136 x) = fun _ => 1#1) (h4 : Separated.apart (Ref.v139 x) (Ref.v132 x) = fun _ => 1#1) :
    Block.total (F := Ideal) (fun y => Spec.neg (Ref.image x (y 0)) (y 2)) (fun y => Spec.lanes (Ref.image x (y 0)) (y 2))
      = Ref.v158 x := by
  have hb := fun i => Separated.of_realBoxes h2 i
  have hs := fun i => Separated.of_realScores h1 i
  choose a ha using fun (b : Fin 32) (p : Fin 8732) => Spec.neg_real (Ref.image x b) (fun p k => hs (ix3 b p k)) p
  have hn : ∀ b p, Spec.neg (Ref.image x b) p = (a b p : EReal) := fun b p => (ha b p).1
  have hv : ∀ b p, Ref.v136 x (ix2 b p) = (a b p : EReal) := fun b p => (Ref.v136_at x hb hs b p).trans (hn b p)
  have hw : ∀ b r, Ref.v139 x (ix2 b r) = (a b (Ref.order x b r) : EReal) := fun b r => (Ref.v139_at x b r).trans (hv b _)
  funext y
  have hy := result_idx y
  generalize y 1 = l at hy
  subst hy
  refine Eq.trans ?_ (Ref.v158_at x hb hs hn l).symm
  refine (Block.total_at _ _ a (fun b => Spec.count (Ref.image x b)) (fun b => ?_) (fun b p => (ha b p).2) (fun b p => ?_)
    (fun b => Ref.order x b) (fun b r s h => ?_) (fun b r h hr => ?_) l).trans ?_
  · exact ⟨fun p => hn b p, Spec.nPos_eq _, Spec.count_le _⟩
  · have := Separated.of_small h3 (ix2 b p)
    rw [hv, last_word] at this
    exact EReal.coe_le_coe_iff.1 this
  · have := Ref.order_anti x b r s h
    rw [hv, hv] at this
    exact EReal.coe_le_coe_iff.1 this
  · have := Separated.of_apart h4 b r h (by rw [Ref.v132_at x hb, hr])
    rw [hw, hw, ← EReal.coe_mul, ← EReal.coe_add, EReal.coe_le_coe_iff] at this
    exact this.imp_left fun h => EReal.coe_le_coe_iff.1 h
  · rfl

end Cert.Total

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_separated
public import proofs.«01_k».proof.Proof.Gen.ReferenceIdeal
public import proofs.«01_k».proof.Proof.KernelRun
public import proofs.«01_k».proof.Proof.KernelTotal
public import proofs.«01_k».proof.Proof.RefRun
public import proofs.«01_k».proof.Proof.Total

/-!
# The certificate

The first region leaves the sums of every image (`Spec.lanes`) and the cross entropies of its negatives (`Spec.neg`); the
second adds them up, and finds by bisection the sum of the hard negatives that the reference finds by sorting.
-/

@[expose] public section

namespace Cert.Proof

open Idealize.ShloMosaic Idealize.ShloMosaic.TcCoe Idealize.SL.Sem

/-- From equal arguments the two programs read the same images. -/
theorem image_eq (m : (ℓ : Loc KernelIdeal.nD KernelIdeal.τ KernelIdeal.sig) → Buf (Elt Ideal) ℓ) (c : Dev KernelIdeal.nD)
    (x : Ref.Args)
    (h0 : x.arg0 = m ((c.tc : Thread KernelIdeal.nD KernelIdeal.τ).loc KernelIdeal.main_arg0))
    (h1 : x.arg1 = m ((c.tc : Thread KernelIdeal.nD KernelIdeal.τ).loc KernelIdeal.main_arg1))
    (h2 : x.arg2 = m ((c.tc : Thread KernelIdeal.nD KernelIdeal.τ).loc KernelIdeal.main_arg2))
    (h3 : x.arg3 = m ((c.tc : Thread KernelIdeal.nD KernelIdeal.τ).loc KernelIdeal.main_arg3))
    (h4 : x.arg4 = m ((c.tc : Thread KernelIdeal.nD KernelIdeal.τ).loc KernelIdeal.main_arg4)) (b : Fin 32) :
    Ref.image x b = Block.image m c b := by
  obtain ⟨x0, x1, x2, x3, x4⟩ := x
  subst h0 h1 h2 h3 h4
  rfl

/-- What the precondition says of the reference's arguments. -/
theorem pre_eq (m : (ℓ : Loc KernelIdeal.nD KernelIdeal.τ KernelIdeal.sig) → Buf (Elt Ideal) ℓ) (c : Dev KernelIdeal.nD)
    (x : Ref.Args)
    (h0 : x.arg0 = m ((c.tc : Thread KernelIdeal.nD KernelIdeal.τ).loc KernelIdeal.main_arg0))
    (h1 : x.arg1 = m ((c.tc : Thread KernelIdeal.nD KernelIdeal.τ).loc KernelIdeal.main_arg1))
    (h2 : x.arg2 = m ((c.tc : Thread KernelIdeal.nD KernelIdeal.τ).loc KernelIdeal.main_arg2))
    (h3 : x.arg3 = m ((c.tc : Thread KernelIdeal.nD KernelIdeal.τ).loc KernelIdeal.main_arg3))
    (h4 : x.arg4 = m ((c.tc : Thread KernelIdeal.nD KernelIdeal.τ).loc KernelIdeal.main_arg4)) :
    Cert.Pre_separated.fn (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      = (Separated.realScores x.arg1, Separated.realBoxes x.arg2, Separated.small (Ref.v136 x),
          Separated.apart (Ref.v139 x) (Ref.v132 x)) := by
  rw [← h0, ← h1, ← h2, ← h3, ← h4]
  exact Separated.fn_eq x

/-- The kernel and the reference end with equal results. -/
theorem algebraic : algebraic_KernelIdeal_ReferenceIdeal_pre_separated (hKernelIdeal := KernelIdeal.Gen.facts)
    (hReferenceIdeal := ReferenceIdeal.Gen.facts) (hPre_separated := Pre_separated.Gen.facts) := by
  intro m g m' g' hpre hargs
  have himg : ∀ (c : Dev KernelIdeal.nD) (b : Fin 32), Ref.image (Ref.given m' c) b = Block.image m c b :=
    fun c b => image_eq m c _ (hargs c).1 (hargs c).2.1 (hargs c).2.2.1 (hargs c).2.2.2.1 (hargs c).2.2.2.2 b
  refine ⟨fun c => Ref.v158 (Ref.given m' c), ?_, Ref.run_arrays m' g'⟩
  refine (θ_run _ _ _).mono (fun r h c => ⟨(h c).1.trans ?_, (h c).2⟩) (Block.run m g)
  have e := pre_eq m c (Ref.given m' c) (hargs c).1 (hargs c).2.1 (hargs c).2.2.1 (hargs c).2.2.2.1 (hargs c).2.2.2.2
  have hp := hpre c
  rw [e] at hp
  refine (Block.arr_result m g c).trans (Eq.trans ?_ (Total.total_eq (Ref.given m' c) hp.1 hp.2.1 hp.2.2.1 hp.2.2.2))
  exact congrArg₂ (Block.total (F := Ideal)) (funext fun y => congrArg (fun I => Spec.neg I (y 2)) (himg c (y 0)).symm)
    (funext fun y => congrArg (fun I => Spec.lanes I (y 2)) (himg c (y 0)).symm)

/-- Everything claimed. -/
theorem claim : Cert.Claim :=
  ⟨Kernel.Gen.facts, KernelIdeal.Gen.facts, ReferenceIdeal.Gen.facts, Pre_separated.Gen.facts,
    fun m g _ => Kernel.Gen.frame m g, fun m g _ => KernelIdeal.Gen.frame m g, fun m g _ => KernelIdeal.Gen.frame m g,
    fun m g _ => Ref.frame m g, fun m g _ => Ref.frame m g, IdealRules.named_const.statement _ _ _ _ _ rfl, algebraic⟩

end Cert.Proof

end
